-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Z (m : (ℓ : Loc Cert.Z.nD Cert.Z.τ Cert.Z.sig) → Buf (Elt Bits) ℓ) : Prop :=
  True

def Pre_ZIdeal (m : (ℓ : Loc Cert.ZIdeal.nD Cert.ZIdeal.τ Cert.ZIdeal.sig) → Buf (Elt Ideal) ℓ) : Prop :=
  True

def Pre_ZRefIdeal (m : (ℓ : Loc Cert.ZRefIdeal.nD Cert.ZRefIdeal.τ Cert.ZRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_Z [hZ : Cert.Z.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1))
      ∧ r.2.sem = fun _ => 0)

def quiescent_ZIdeal [hZIdeal : Cert.ZIdeal.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ r.2.sem = fun _ => 0)

def quiescent_ZRefIdeal [hZRefIdeal : Cert.ZRefIdeal.Facts] : Prop :=
  ∀ (m : (ℓ : Loc Cert.ZRefIdeal.nD Cert.ZRefIdeal.τ Cert.ZRefIdeal.sig) → Buf (Elt Ideal) ℓ) (g : Dev Cert.ZRefIdeal.nD → PrngReg), Pre_ZRefIdeal m →
    θ_run (Cert.ZRefIdeal.defs (F := Ideal)) (onTc (τ := Cert.ZRefIdeal.τ) (Cert.ZRefIdeal.main (F := Ideal))) ⟨m, fun _ => 0, g⟩ (fun r => (∀ c : Dev Cert.ZRefIdeal.nD,
      r.2.mem ((c.tc : Thread Cert.ZRefIdeal.nD Cert.ZRefIdeal.τ).loc Cert.ZRefIdeal.main_arg0) = m ((c.tc : Thread Cert.ZRefIdeal.nD Cert.ZRefIdeal.τ).loc Cert.ZRefIdeal.main_arg0)
      ∧ r.2.mem ((c.tc : Thread Cert.ZRefIdeal.nD Cert.ZRefIdeal.τ).loc Cert.ZRefIdeal.main_arg1) = m ((c.tc : Thread Cert.ZRefIdeal.nD Cert.ZRefIdeal.τ).loc Cert.ZRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v30)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v30) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v161) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_Z_ZIdeal : Prop :=
  True

def algebraic_ZIdeal_ZRefIdeal [hZIdeal : Cert.ZIdeal.Facts] [hZRefIdeal : Cert.ZRefIdeal.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.ZRefIdeal.nD Cert.ZRefIdeal.τ Cert.ZRefIdeal.sig) → Buf (Elt Ideal) ℓ) (g' : Dev Cert.ZRefIdeal.nD → PrngReg), Pre_ZIdeal m →
    (∀ c : Dev Cert.ZIdeal.nD,
      m' ((c.tc : Thread Cert.ZRefIdeal.nD Cert.ZRefIdeal.τ).loc Cert.ZRefIdeal.main_arg0) = m ((c.tc : Thread Cert.ZIdeal.nD Cert.ZIdeal.τ).loc Cert.ZIdeal.main_arg0)
      ∧ m' ((c.tc : Thread Cert.ZRefIdeal.nD Cert.ZRefIdeal.τ).loc Cert.ZRefIdeal.main_arg1) = m ((c.tc : Thread Cert.ZIdeal.nD Cert.ZIdeal.τ).loc Cert.ZIdeal.main_arg1)) →
    ∃ (v0 : (c : Dev Cert.ZIdeal.nD) → Buf (Elt Ideal) ((c.tc : Thread Cert.ZIdeal.nD Cert.ZIdeal.τ).loc Cert.ZIdeal.main_v2)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v2) = v0 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ θ_run (Cert.ZRefIdeal.defs (F := Ideal)) (onTc (τ := Cert.ZRefIdeal.τ) (Cert.ZRefIdeal.main (F := Ideal))) ⟨m', fun _ => 0, g'⟩ (fun r => ∀ c : Dev Cert.ZRefIdeal.nD,
          r.2.mem ((c.tc : Thread Cert.ZRefIdeal.nD Cert.ZRefIdeal.τ).loc Cert.ZRefIdeal.main_v5) = v0 c
          ∧ r.2.mem ((c.tc : Thread Cert.ZRefIdeal.nD Cert.ZRefIdeal.τ).loc Cert.ZRefIdeal.main_arg0) = m' ((c.tc : Thread Cert.ZRefIdeal.nD Cert.ZRefIdeal.τ).loc Cert.ZRefIdeal.main_arg0)
          ∧ r.2.mem ((c.tc : Thread Cert.ZRefIdeal.nD Cert.ZRefIdeal.τ).loc Cert.ZRefIdeal.main_arg1) = m' ((c.tc : Thread Cert.ZRefIdeal.nD Cert.ZRefIdeal.τ).loc Cert.ZRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_FfnDown_FfnDownIdeal : Prop :=
  IdealRules.named_const.Statement Cert.FfnDownIdeal.κ "alpha" .f32 0x3FD744FD#32 ((Real.sqrt (Real.sqrt 8) : ℝ) : EReal)

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v6_0)) (v1 : (c : Dev Cert.FfnDownIdeal.nD) → Buf (Elt Ideal) ((c.tc : Thread Cert.FfnDownIdeal.nD Cert.FfnDownIdeal.τ).loc Cert.FfnDownIdeal.main_v6_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v6_0) = v0 c
          ∧ r.2.mem ((c.tc : Thread Cert.FfnDownIdeal.nD Cert.FfnDownIdeal.τ).loc Cert.FfnDownIdeal.main_v6_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v36) = v0 c
          ∧ r.2.mem ((c.tc : Thread Cert.FfnDownRefIdeal.nD Cert.FfnDownRefIdeal.τ).loc Cert.FfnDownRefIdeal.main_v37) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_Merge_MergeIdeal : Prop :=
  IdealRules.named_const.Statement Cert.MergeIdeal.κ "alpha" .f32 0x3FD744FD#32 ((Real.sqrt (Real.sqrt 8) : ℝ) : EReal)

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_FfnUp_FfnUpIdeal : Prop :=
  IdealRules.named_const.Statement Cert.FfnUpIdeal.κ "inv_sqrt_2" .f32 0x3F3504F3#32 (((Real.sqrt 2)⁻¹ : ℝ) : EReal)

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v5)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v44) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v5)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v5) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v48) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def Claim : Prop :=
  ∃ (hSsd : Cert.Ssd.Facts) (hSsdIdeal : Cert.SsdIdeal.Facts) (hSsdRefIdeal : Cert.SsdRefIdeal.Facts) (hZ : Cert.Z.Facts) (hZIdeal : Cert.ZIdeal.Facts) (hZRefIdeal : Cert.ZRefIdeal.Facts) (hGates : Cert.Gates.Facts) (hGatesIdeal : Cert.GatesIdeal.Facts) (hGatesRefIdeal : Cert.GatesRefIdeal.Facts) (hFfnDown : Cert.FfnDown.Facts) (hFfnDownIdeal : Cert.FfnDownIdeal.Facts) (hFfnDownRefIdeal : Cert.FfnDownRefIdeal.Facts) (hMerge : Cert.Merge.Facts) (hMergeIdeal : Cert.MergeIdeal.Facts) (hMergeRefIdeal : Cert.MergeRefIdeal.Facts) (hFfnUp : Cert.FfnUp.Facts) (hFfnUpIdeal : Cert.FfnUpIdeal.Facts) (hFfnUpRefIdeal : Cert.FfnUpRefIdeal.Facts) (hPool : Cert.Pool.Facts) (hPoolIdeal : Cert.PoolIdeal.Facts) (hPoolRefIdeal : Cert.PoolRefIdeal.Facts),
    quiescent_Ssd (hSsd := hSsd)
    ∧ quiescent_SsdIdeal (hSsdIdeal := hSsdIdeal)
    ∧ quiescent_SsdRefIdeal (hSsdRefIdeal := hSsdRefIdeal)
    ∧ quiescent_Z (hZ := hZ)
    ∧ quiescent_ZIdeal (hZIdeal := hZIdeal)
    ∧ quiescent_ZRefIdeal (hZRefIdeal := hZRefIdeal)
    ∧ quiescent_Gates (hGates := hGates)
    ∧ quiescent_GatesIdeal (hGatesIdeal := hGatesIdeal)
    ∧ quiescent_GatesRefIdeal (hGatesRefIdeal := hGatesRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_Pool (hPool := hPool)
    ∧ quiescent_PoolIdeal (hPoolIdeal := hPoolIdeal)
    ∧ quiescent_PoolRefIdeal (hPoolRefIdeal := hPoolRefIdeal)
    ∧ preserves_Ssd_SsdIdeal
    ∧ algebraic_SsdIdeal_SsdRefIdeal (hSsdIdeal := hSsdIdeal) (hSsdRefIdeal := hSsdRefIdeal)
    ∧ preserves_Z_ZIdeal
    ∧ algebraic_ZIdeal_ZRefIdeal (hZIdeal := hZIdeal) (hZRefIdeal := hZRefIdeal)
    ∧ preserves_Gates_GatesIdeal
    ∧ algebraic_GatesIdeal_GatesRefIdeal (hGatesIdeal := hGatesIdeal) (hGatesRefIdeal := hGatesRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Merge_MergeIdeal
    ∧ algebraic_MergeIdeal_MergeRefIdeal (hMergeIdeal := hMergeIdeal) (hMergeRefIdeal := hMergeRefIdeal)
    ∧ preserves_FfnUp_FfnUpIdeal
    ∧ algebraic_FfnUpIdeal_FfnUpRefIdeal (hFfnUpIdeal := hFfnUpIdeal) (hFfnUpRefIdeal := hFfnUpRefIdeal)
    ∧ preserves_Pool_PoolIdeal
    ∧ algebraic_PoolIdeal_PoolRefIdeal (hPoolIdeal := hPoolIdeal) (hPoolRefIdeal := hPoolRefIdeal)
-- ==== Ssd.lean ====
abbrev S8x2048x3072 : Shape := ⟨3, ![8, 2048, 3072]⟩
abbrev S8x2048x2048 : Shape := ⟨3, ![8, 2048, 2048]⟩
abbrev S8x16x2x64x128 : Shape := ⟨5, ![8, 16, 2, 64, 128]⟩
abbrev S8x4x2048x128 : Shape := ⟨4, ![8, 4, 2048, 128]⟩
abbrev S32 : Shape := ⟨1, ![32]⟩
abbrev S2048 : Shape := ⟨1, ![2048]⟩
abbrev S128x2048 : Shape := ⟨2, ![128, 2048]⟩
abbrev S_ : Shape := ⟨0, ![]⟩
abbrev S32x64 : Shape := ⟨2, ![32, 64]⟩
abbrev S1x2048 : Shape := ⟨2, ![1, 2048]⟩
abbrev S1x2048x512 : Shape := ⟨3, ![1, 2048, 512]⟩
abbrev S1x2048x128 : Shape := ⟨3, ![1, 2048, 128]⟩
abbrev S1x16x2x16x128 : Shape := ⟨5, ![1, 16, 2, 16, 128]⟩
abbrev S1x1x2048x128 : Shape := ⟨4, ![1, 1, 2048, 128]⟩
abbrev S1x512 : Shape := ⟨2, ![1, 512]⟩
abbrev S2048x512 : Shape := ⟨2, ![2048, 512]⟩
abbrev S16x8x512 : Shape := ⟨3, ![16, 8, 512]⟩
abbrev S128x512 : Shape := ⟨2, ![128, 512]⟩
abbrev S128x128 : Shape := ⟨2, ![128, 128]⟩
abbrev S1x128x512 : Shape := ⟨3, ![1, 128, 512]⟩
abbrev S1x128x128 : Shape := ⟨3, ![1, 128, 128]⟩
abbrev S1x1x1x16x128 : Shape := ⟨5, ![1, 1, 1, 16, 128]⟩
abbrev S16x128 : Shape := ⟨2, ![16, 128]⟩
abbrev S1x1x128x128 : Shape := ⟨4, ![1, 1, 128, 128]⟩
abbrev S128x1 : Shape := ⟨2, ![128, 1]⟩
abbrev S1x128 : Shape := ⟨2, ![1, 128]⟩
abbrev S128x256 : Shape := ⟨2, ![128, 256]⟩
abbrev S256x128 : Shape := ⟨2, ![256, 128]⟩
abbrev S8x512 : Shape := ⟨2, ![8, 512]⟩
abbrev S1x8x512 : Shape := ⟨3, ![1, 8, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 47
  | .vmem => 30
  | .smem => 0
  | _ => 0

abbrev bufTy : (tb : Table) → Fin (tcTables nBuf tb) → BufTy
  | .hbm, ⟨0, _⟩ => ⟨S8x2048x3072, .bf16⟩
  | .hbm, ⟨1, _⟩ => ⟨S8x2048x2048, .bf16⟩
  | .hbm, ⟨2, _⟩ => ⟨S8x16x2x64x128, .f32⟩
  | .hbm, ⟨3, _⟩ => ⟨S8x4x2048x128, .f32⟩
  | .hbm, ⟨4, _⟩ => ⟨S8x4x2048x128, .bf16⟩
  | .hbm, ⟨5, _⟩ => ⟨S32, .f32⟩
  | .hbm, ⟨6, _⟩ => ⟨S2048, .f32⟩
  | .hbm, ⟨7, _⟩ => ⟨S128x2048, .i32⟩
  | .hbm, ⟨8, _⟩ => ⟨S128x2048, .i32⟩
  | .hbm, ⟨9, _⟩ => ⟨S_, .i32⟩
  | .hbm, ⟨10, _⟩ => ⟨S128x2048, .i32⟩
  | .hbm, ⟨11, _⟩ => ⟨S128x2048, .i32⟩
  | .hbm, ⟨12, _⟩ => ⟨S_, .i32⟩
  | .hbm, ⟨13, _⟩ => ⟨S128x2048, .i32⟩
  | .hbm, ⟨14, _⟩ => ⟨S128x2048, .i32⟩
  | .hbm, ⟨15, _⟩ => ⟨S_, .i32⟩
  | .hbm, ⟨16, _⟩ => ⟨S128x2048, .i32⟩
  | .hbm, ⟨17, _⟩ => ⟨S128x2048, .i32⟩
  | .hbm, ⟨18, _⟩ => ⟨S_, .i32⟩
  | .hbm, ⟨19, _⟩ => ⟨S128x2048, .i32⟩
  | .hbm, ⟨20, _⟩ => ⟨S128x2048, .i32⟩
  | .hbm, ⟨21, _⟩ => ⟨S_, .i32⟩
  | .hbm, ⟨22, _⟩ => ⟨S128x2048, .i32⟩
  | .hbm, ⟨23, _⟩ => ⟨S128x2048, .i32⟩
  | .hbm, ⟨24, _⟩ => ⟨S_, .i32⟩
  | .hbm, ⟨25, _⟩ => ⟨S128x2048, .i32⟩
  | .hbm, ⟨26, _⟩ => ⟨S128x2048, .i32⟩
  | .hbm, ⟨27, _⟩ => ⟨S_, .i32⟩
  | .hbm, ⟨28, _⟩ => ⟨S128x2048, .i32⟩
  | .hbm, ⟨29, _⟩ => ⟨S128x2048, .i32⟩
  | .hbm, ⟨30, _⟩ => ⟨S128x2048, .i32⟩
  | .hbm, ⟨31, _⟩ => ⟨S128x2048, .i32⟩
  | .hbm, ⟨32, _⟩ => ⟨S_, .i32⟩
  | .hbm, ⟨33, _⟩ => ⟨S128x2048, .i32⟩
  | .hbm, ⟨34, _⟩ => ⟨S128x2048, .i32⟩
  | .hbm, ⟨35, _⟩ => ⟨S128x2048, .i1⟩
  | .hbm, ⟨36, _⟩ => ⟨S_, .i32⟩
  | .hbm, ⟨37, _⟩ => ⟨S128x2048, .i32⟩
  | .hbm, ⟨38, _⟩ => ⟨S128x2048, .i1⟩
  | .hbm, ⟨39, _⟩ => ⟨S128x2048, .i1⟩
  | .hbm, ⟨40, _⟩ => ⟨S128x2048, .f32⟩
  | .hbm, ⟨41, _⟩ => ⟨S128x2048, .bf16⟩
  | .hbm, ⟨42, _⟩ => ⟨S32x64, .f32⟩
  | .hbm, ⟨43, _⟩ => ⟨S2048, .f32⟩
  | .hbm, ⟨44, _⟩ => ⟨S1x2048, .f32⟩
  | .hbm, ⟨45, _⟩ => ⟨S1x2048, .f32⟩
  | .hbm, ⟨46, _⟩ => ⟨S8x2048x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x16x2x16x128, .f32⟩
  | .local _ .vmem, ⟨9, _⟩ => ⟨S1x16x2x16x128, .f32⟩
  | .local _ .vmem, ⟨10, _⟩ => ⟨S1x1x2048x128, .f32⟩
  | .local _ .vmem, ⟨11, _⟩ => ⟨S1x1x2048x128, .f32⟩
  | .local _ .vmem, ⟨12, _⟩ => ⟨S1x1x2048x128, .bf16⟩
  | .local _ .vmem, ⟨13, _⟩ => ⟨S1x1x2048x128, .bf16⟩
  | .local _ .vmem, ⟨14, _⟩ => ⟨S128x2048, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x2048x512, .bf16⟩
  | .local _ .vmem, ⟨20, _⟩ => ⟨S1x2048x512, .bf16⟩
  | .local _ .vmem, ⟨21, _⟩ => ⟨S2048x512, .f32⟩
  | .local _ .vmem, ⟨22, _⟩ => ⟨S2048x512, .bf16⟩
  | .local _ .vmem, ⟨23, _⟩ => ⟨S2048x512, .bf16⟩
  | .local _ .vmem, ⟨24, _⟩ => ⟨S2048x512, .f32⟩
  | .local _ .vmem, ⟨25, _⟩ => ⟨S2048x512, .f32⟩
  | .local _ .vmem, ⟨26, _⟩ => ⟨S16x8x512, .f32⟩
  | .local _ .vmem, ⟨27, _⟩ => ⟨S16x8x512, .f32⟩
  | .local _ .vmem, ⟨28, _⟩ => ⟨S128x512, .f32⟩
  | .local _ .vmem, ⟨29, _⟩ => ⟨S128x512, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c16_i32 : BitVec 32 := 16#32
  let v7 : BitVec 32 := Scalar.muli c0_i32 c16_i32
  let c0_i32_0 : BitVec 32 := 0#32
  let v8 : BitVec 32 := Scalar.addi v7 c0_i32_0
  let c128_i32 : BitVec 32 := 128#32
  let v9 : BitVec 32 := Scalar.muli v8 c128_i32
  v9
def k0_off1 (c0_i32_0 : BitVec 32) : Fin 3 → Nat :=
  let c0 : Index := 0#32
  let c0_i32 : BitVec 32 := 0#32
  let c16_i32 : BitVec 32 := 16#32
  let v7 : BitVec 32 := Scalar.muli c0_i32 c16_i32
  let v8 : BitVec 32 := Scalar.addi v7 c0_i32_0
  let c128_i32 : BitVec 32 := 128#32
  let v9 : BitVec 32 := Scalar.muli v8 c128_i32
  let v10 : BitVec 32 := v9
  let v11 : Index := Scalar.indexCast v10
  let c0_1 : Index := 0#32
  ![0, v11.toNat, 0]
def k0_off2 (c0_i32_0 : BitVec 32) : Fin 3 → Nat :=
  let c0_2 : Index := 0#32
  let c0_i32 : BitVec 32 := 0#32
  let c16_i32 : BitVec 32 := 16#32
  let v7 : BitVec 32 := Scalar.muli c0_i32 c16_i32
  let v8 : BitVec 32 := Scalar.addi v7 c0_i32_0
  let c128_i32 : BitVec 32 := 128#32
  let v9 : BitVec 32 := Scalar.muli v8 c128_i32
  let v10 : BitVec 32 := v9
  let v14 : Index := Scalar.indexCast v10
  let c0_3 : Index := 0#32
  ![0, v14.toNat, 0]
def k0_off3 (c0_i32_0 : BitVec 32) : Fin 5 → Nat :=
  let c0_6 : Index := 0#32
  let c0_i32 : BitVec 32 := 0#32
  let c16_i32 : BitVec 32 := 16#32
  let v7 : BitVec 32 := Scalar.muli c0_i32 c16_i32
  let v8 : BitVec 32 := Scalar.addi v7 c0_i32_0
  let v21 : Index := Scalar.indexCast v8
  let c0_7 : Index := 0#32
  let c0_8 : Index := 0#32
  let c0_9 : Index := 0#32
  ![0, v21.toNat, 0, 0, 0]
def k0_off4 (c0_i32_0 : BitVec 32) : Fin 5 → Nat :=
  let c0_10 : Index := 0#32
  let c0_i32 : BitVec 32 := 0#32
  let c16_i32 : BitVec 32 := 16#32
  let v7 : BitVec 32 := Scalar.muli c0_i32 c16_i32
  let v8 : BitVec 32 := Scalar.addi v7 c0_i32_0
  let v24 : Index := Scalar.indexCast v8
  let c1 : Index := 1#32
  let c0_11 : Index := 0#32
  let c0_12 : Index := 0#32
  ![0, v24.toNat, 1, 0, 0]
def k0_off5 (c0_i32_0 : BitVec 32) : Fin 4 → Nat :=
  let c0_13 : Index := 0#32
  let c0_14 : Index := 0#32
  let c0_i32 : BitVec 32 := 0#32
  let c16_i32 : BitVec 32 := 16#32
  let v7 : BitVec 32 := Scalar.muli c0_i32 c16_i32
  let v8 : BitVec 32 := Scalar.addi v7 c0_i32_0
  let c128_i32 : BitVec 32 := 128#32
  let v9 : BitVec 32 := Scalar.muli v8 c128_i32
  let v10 : BitVec 32 := v9
  let v27 : Index := Scalar.indexCast v10
  let c0_15 : Index := 0#32
  ![0, 0, v27.toNat, 0]
def k0_off6 (c0_i32_0 : BitVec 32) : Fin 2 → Nat :=
  let c0_i32 : BitVec 32 := 0#32
  let c16_i32 : BitVec 32 := 16#32
  let v7 : BitVec 32 := Scalar.muli c0_i32 c16_i32
  let v8 : BitVec 32 := Scalar.addi v7 c0_i32_0
  let c128_i32 : BitVec 32 := 128#32
  let v9 : BitVec 32 := Scalar.muli v8 c128_i32
  let v10 : BitVec 32 := v9
  let v209 : Index := Scalar.indexCast v10
  let c0_26 : Index := 0#32
  ![v209.toNat, 0]
def k0_off7 (c0_i32_0 : BitVec 32) : Fin 3 → Nat :=
  let c0_i32 : BitVec 32 := 0#32
  let c16_i32 : BitVec 32 := 16#32
  let v7 : BitVec 32 := Scalar.muli c0_i32 c16_i32
  let v8 : BitVec 32 := Scalar.addi v7 c0_i32_0
  let v246 : Index := Scalar.indexCast v8
  let c0_37 : Index := 0#32
  let c0_38 : Index := 0#32
  ![v246.toNat, 0, 0]
def k0_mult2 : BitVec 32 :=
  let c0_i32 : BitVec 32 := 0#32
  let c16_i32_41 : BitVec 32 := 16#32
  let v257 : BitVec 32 := Scalar.muli c0_i32 c16_i32_41
  let c1_i32 : BitVec 32 := 1#32
  let v258 : BitVec 32 := Scalar.addi v257 c1_i32
  let c128_i32_42 : BitVec 32 := 128#32
  let v259 : BitVec 32 := Scalar.muli v258 c128_i32_42
  v259
def k0_mult3 : BitVec 32 :=
  let c0_i32 : BitVec 32 := 0#32
  let c16_i32_86 : BitVec 32 := 16#32
  let v507 : BitVec 32 := Scalar.muli c0_i32 c16_i32_86
  let c2_i32 : BitVec 32 := 2#32
  let v508 : BitVec 32 := Scalar.addi v507 c2_i32
  let c128_i32_87 : BitVec 32 := 128#32
  let v509 : BitVec 32 := Scalar.muli v508 c128_i32_87
  v509
def k0_mult4 : BitVec 32 :=
  let c0_i32 : BitVec 32 := 0#32
  let c16_i32_131 : BitVec 32 := 16#32
  let v757 : BitVec 32 := Scalar.muli c0_i32 c16_i32_131
  let c3_i32 : BitVec 32 := 3#32
  let v758 : BitVec 32 := Scalar.addi v757 c3_i32
  let c128_i32_132 : BitVec 32 := 128#32
  let v759 : BitVec 32 := Scalar.muli v758 c128_i32_132
  v759
def k0_mult5 : BitVec 32 :=
  let c0_i32 : BitVec 32 := 0#32
  let c16_i32_176 : BitVec 32 := 16#32
  let v1007 : BitVec 32 := Scalar.muli c0_i32 c16_i32_176
  let c4_i32 : BitVec 32 := 4#32
  let v1008 : BitVec 32 := Scalar.addi v1007 c4_i32
  let c128_i32_177 : BitVec 32 := 128#32
  let v1009 : BitVec 32 := Scalar.muli v1008 c128_i32_177
  v1009
def k0_mult6 : BitVec 32 :=
  let c0_i32 : BitVec 32 := 0#32
  let c16_i32_221 : BitVec 32 := 16#32
  let v1257 : BitVec 32 := Scalar.muli c0_i32 c16_i32_221
  let c5_i32 : BitVec 32 := 5#32
  let v1258 : BitVec 32 := Scalar.addi v1257 c5_i32
  let c128_i32_222 : BitVec 32 := 128#32
  let v1259 : BitVec 32 := Scalar.muli v1258 c128_i32_222
  v1259
def k0_mult7 : BitVec 32 :=
  let c0_i32 : BitVec 32 := 0#32
  let c16_i32_266 : BitVec 32 := 16#32
  let v1507 : BitVec 32 := Scalar.muli c0_i32 c16_i32_266
  let c6_i32 : BitVec 32 := 6#32
  let v1508 : BitVec 32 := Scalar.addi v1507 c6_i32
  let c128_i32_267 : BitVec 32 := 128#32
  let v1509 : BitVec 32 := Scalar.muli v1508 c128_i32_267
  v1509
def k0_mult8 : BitVec 32 :=
  let c0_i32 : BitVec 32 := 0#32
  let c16_i32_311 : BitVec 32 := 16#32
  let v1757 : BitVec 32 := Scalar.muli c0_i32 c16_i32_311
  let c7_i32 : BitVec 32 := 7#32
  let v1758 : BitVec 32 := Scalar.addi v1757 c7_i32
  let c128_i32_312 : BitVec 32 := 128#32
  let v1759 : BitVec 32 := Scalar.muli v1758 c128_i32_312
  v1759
def k0_mult9 : BitVec 32 :=
  let c0_i32 : BitVec 32 := 0#32
  let c16_i32_356 : BitVec 32 := 16#32
  let v2007 : BitVec 32 := Scalar.muli c0_i32 c16_i32_356
  let c8_i32 : BitVec 32 := 8#32
  let v2008 : BitVec 32 := Scalar.addi v2007 c8_i32
  let c128_i32_357 : BitVec 32 := 128#32
  let v2009 : BitVec 32 := Scalar.muli v2008 c128_i32_357
  v2009
def k0_mult10 : BitVec 32 :=
  let c0_i32 : BitVec 32 := 0#32
  let c16_i32_401 : BitVec 32 := 16#32
  let v2257 : BitVec 32 := Scalar.muli c0_i32 c16_i32_401
  let c9_i32 : BitVec 32 := 9#32
  let v2258 : BitVec 32 := Scalar.addi v2257 c9_i32
  let c128_i32_402 : BitVec 32 := 128#32
  let v2259 : BitVec 32 := Scalar.muli v2258 c128_i32_402
  v2259
def k0_mult11 : BitVec 32 :=
  let c0_i32 : BitVec 32 := 0#32
  let c16_i32_446 : BitVec 32 := 16#32
  let v2507 : BitVec 32 := Scalar.muli c0_i32 c16_i32_446
  let c10_i32 : BitVec 32 := 10#32
  let v2508 : BitVec 32 := Scalar.addi v2507 c10_i32
  let c128_i32_447 : BitVec 32 := 128#32
  let v2509 : BitVec 32 := Scalar.muli v2508 c128_i32_447
  v2509
def k0_mult12 : BitVec 32 :=
  let c0_i32 : BitVec 32 := 0#32
  let c16_i32_491 : BitVec 32 := 16#32
  let v2757 : BitVec 32 := Scalar.muli c0_i32 c16_i32_491
  let c11_i32 : BitVec 32 := 11#32
  let v2758 : BitVec 32 := Scalar.addi v2757 c11_i32
  let c128_i32_492 : BitVec 32 := 128#32
  let v2759 : BitVec 32 := Scalar.muli v2758 c128_i32_492
  v2759
def k0_mult13 : BitVec 32 :=
  let c0_i32 : BitVec 32 := 0#32
  let c16_i32_536 : BitVec 32 := 16#32
  let v3007 : BitVec 32 := Scalar.muli c0_i32 c16_i32_536
  let c12_i32 : BitVec 32 := 12#32
  let v3008 : BitVec 32 := Scalar.addi v3007 c12_i32
  let c128_i32_537 : BitVec 32 := 128#32
  let v3009 : BitVec 32 := Scalar.muli v3008 c128_i32_537
  v3009
def k0_mult14 : BitVec 32 :=
  let c0_i32 : BitVec 32 := 0#32
  let c16_i32_581 : BitVec 32 := 16#32
  let v3257 : BitVec 32 := Scalar.muli c0_i32 c16_i32_581
  let c13_i32 : BitVec 32 := 13#32
  let v3258 : BitVec 32 := Scalar.addi v3257 c13_i32
  let c128_i32_582 : BitVec 32 := 128#32
  let v3259 : BitVec 32 := Scalar.muli v3258 c128_i32_582
  v3259
def k0_mult15 : BitVec 32 :=
  let c0_i32 : BitVec 32 := 0#32
  let c16_i32_626 : BitVec 32 := 16#32
  let v3507 : BitVec 32 := Scalar.muli c0_i32 c16_i32_626
  let c14_i32 : BitVec 32 := 14#32
  let v3508 : BitVec 32 := Scalar.addi v3507 c14_i32
  let c128_i32_627 : BitVec 32 := 128#32
  let v3509 : BitVec 32 := Scalar.muli v3508 c128_i32_627
  v3509
def k0_mult16 : BitVec 32 :=
  let c0_i32 : BitVec 32 := 0#32
  let c16_i32_671 : BitVec 32 := 16#32
  let v3757 : BitVec 32 := Scalar.muli c0_i32 c16_i32_671
  let c15_i32 : BitVec 32 := 15#32
  let v3758 : BitVec 32 := Scalar.addi v3757 c15_i32
  let c128_i32_672 : BitVec 32 := 128#32
  let v3759 : BitVec 32 := Scalar.muli v3758 c128_i32_672
  v3759
@[reducible] def k0_t1_loop : Scf.Loop 32 :=
  let c0_i32_723 : BitVec 32 := 0#32
  let c16_i32_724 : BitVec 32 := 16#32
  let v4015 : BitVec 32 := Scalar.addi c0_i32_723 c16_i32_724
  let c1_i32_725 : BitVec 32 := 1#32
  ⟨c0_i32_723, v4015, c1_i32_725⟩
def k0_mult17 (k0_t1 : Fin k0_t1_loop.trips) : BitVec 32 :=
  let c0_i32_723 : BitVec 32 := 0#32
  let c1_i32_725 : BitVec 32 := 1#32
  let arg22 : BitVec 32 := Scf.iv c0_i32_723 c1_i32_725 k0_t1
  let c128_i32_824 : BitVec 32 := 128#32
  let v4200 : BitVec 32 := Scalar.muli arg22 c128_i32_824
  v4200
def k0_off8 (k0_t1 : Fin k0_t1_loop.trips) : Fin 2 → Nat :=
  let c0_i32_723 : BitVec 32 := 0#32
  let c1_i32_725 : BitVec 32 := 1#32
  let arg22 : BitVec 32 := Scf.iv c0_i32_723 c1_i32_725 k0_t1
  let c128_i32_824 : BitVec 32 := 128#32
  let v4200 : BitVec 32 := Scalar.muli arg22 c128_i32_824
  let v4201 : BitVec 32 := v4200
  let v4203 : Index := Scalar.indexCast v4201
  let c0_827 : Index := 0#32
  ![v4203.toNat, 0]
def k0_off9 (k0_t1 : Fin k0_t1_loop.trips) : Fin 3 → Nat :=
  let c0_828 : Index := 0#32
  let c0_i32_723 : BitVec 32 := 0#32
  let c1_i32_725 : BitVec 32 := 1#32
  let arg22 : BitVec 32 := Scf.iv c0_i32_723 c1_i32_725 k0_t1
  let c128_i32_824 : BitVec 32 := 128#32
  let v4200 : BitVec 32 := Scalar.muli arg22 c128_i32_824
  let v4201 : BitVec 32 := v4200
  let v4205 : Index := Scalar.indexCast v4201
  let c0_829 : Index := 0#32
  ![0, v4205.toNat, 0]
def k0_off10 (k0_t1 : Fin k0_t1_loop.trips) : Fin 3 → Nat :=
  let c0_i32_723 : BitVec 32 := 0#32
  let c1_i32_725 : BitVec 32 := 1#32
  let arg22 : BitVec 32 := Scf.iv c0_i32_723 c1_i32_725 k0_t1
  let v4224 : Index := Scalar.indexCast arg22
  let c0_837 : Index := 0#32
  let c0_838 : Index := 0#32
  ![v4224.toNat, 0, 0]
def k0_mult18 (k0_t1 : Fin k0_t1_loop.trips) : BitVec 32 :=
  let c15_i32_841 : BitVec 32 := 15#32
  let c0_i32_723 : BitVec 32 := 0#32
  let c1_i32_725 : BitVec 32 := 1#32
  let arg22 : BitVec 32 := Scf.iv c0_i32_723 c1_i32_725 k0_t1
  let v4234 : BitVec 32 := Scalar.subi c15_i32_841 arg22
  let c128_i32_842 : BitVec 32 := 128#32
  let v4235 : BitVec 32 := Scalar.muli v4234 c128_i32_842
  v4235
def k0_off11 (k0_t1 : Fin k0_t1_loop.trips) : Fin 2 → Nat :=
  let c15_i32_841 : BitVec 32 := 15#32
  let c0_i32_723 : BitVec 32 := 0#32
  let c1_i32_725 : BitVec 32 := 1#32
  let arg22 : BitVec 32 := Scf.iv c0_i32_723 c1_i32_725 k0_t1
  let v4234 : BitVec 32 := Scalar.subi c15_i32_841 arg22
  let c128_i32_842 : BitVec 32 := 128#32
  let v4235 : BitVec 32 := Scalar.muli v4234 c128_i32_842
  let v4236 : BitVec 32 := v4235
  let v4238 : Index := Scalar.indexCast v4236
  let c0_845 : Index := 0#32
  ![v4238.toNat, 0]
def k0_off12 (k0_t1 : Fin k0_t1_loop.trips) : Fin 3 → Nat :=
  let c0_846 : Index := 0#32
  let c15_i32_841 : BitVec 32 := 15#32
  let c0_i32_723 : BitVec 32 := 0#32
  let c1_i32_725 : BitVec 32 := 1#32
  let arg22 : BitVec 32 := Scf.iv c0_i32_723 c1_i32_725 k0_t1
  let v4234 : BitVec 32 := Scalar.subi c15_i32_841 arg22
  let c128_i32_842 : BitVec 32 := 128#32
  let v4235 : BitVec 32 := Scalar.muli v4234 c128_i32_842
  let v4236 : BitVec 32 := v4235
  let v4240 : Index := Scalar.indexCast v4236
  let c0_847 : Index := 0#32
  ![0, v4240.toNat, 0]
def k0_off13 (k0_t1 : Fin k0_t1_loop.trips) : Fin 3 → Nat :=
  let c15_i32_841 : BitVec 32 := 15#32
  let c0_i32_723 : BitVec 32 := 0#32
  let c1_i32_725 : BitVec 32 := 1#32
  let arg22 : BitVec 32 := Scf.iv c0_i32_723 c1_i32_725 k0_t1
  let v4234 : BitVec 32 := Scalar.subi c15_i32_841 arg22
  let v4259 : Index := Scalar.indexCast v4234
  let c0_855 : Index := 0#32
  let c0_856 : Index := 0#32
  ![v4259.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SsdRefIdeal.lean ====
abbrev S8x2048x3072 : Shape := ⟨3, ![8, 2048, 3072]⟩
abbrev S8x2048x2048 : Shape := ⟨3, ![8, 2048, 2048]⟩
abbrev S8x16x2x64x128 : Shape := ⟨5, ![8, 16, 2, 64, 128]⟩
abbrev S8x4x2048x128 : Shape := ⟨4, ![8, 4, 2048, 128]⟩
abbrev S32 : Shape := ⟨1, ![32]⟩
abbrev S2048 : Shape := ⟨1, ![2048]⟩
abbrev S8x16x128x4x8x64 : Shape := ⟨6, ![8, 16, 128, 4, 8, 64]⟩
abbrev S8x2048x512 : Shape := ⟨3, ![8, 2048, 512]⟩
abbrev S8x16x128x4x128 : Shape := ⟨5, ![8, 16, 128, 4, 128]⟩
abbrev S8x4x16x128x128 : Shape := ⟨5, ![8, 4, 16, 128, 128]⟩
abbrev S8x16x4x128x128 : Shape := ⟨5, ![8, 16, 4, 128, 128]⟩
abbrev S8x16x4x32x128 : Shape := ⟨5, ![8, 16, 4, 32, 128]⟩
abbrev S8x16x4x8x128 : Shape := ⟨5, ![8, 16, 4, 8, 128]⟩
abbrev S8x16x128x4x8 : Shape := ⟨5, ![8, 16, 128, 4, 8]⟩
abbrev S8x16x128x4x8x1 : Shape := ⟨6, ![8, 16, 128, 4, 8, 1]⟩
abbrev S16x8x4x8x64x128 : Shape := ⟨6, ![16, 8, 4, 8, 64, 128]⟩
abbrev S16x8x32x64x128 : Shape := ⟨5, ![16, 8, 32, 64, 128]⟩
abbrev S16x1x8x32x64x128 : Shape := ⟨6, ![16, 1, 8, 32, 64, 128]⟩
abbrev S16x2x8x32x64x128 : Shape := ⟨6, ![16, 2, 8, 32, 64, 128]⟩
abbrev S8x16x4x8x1 : Shape := ⟨5, ![8, 16, 4, 8, 1]⟩
abbrev S8x16x4x8 : Shape := ⟨4, ![8, 16, 4, 8]⟩
abbrev S16x8x4x8 : Shape := ⟨4, ![16, 8, 4, 8]⟩
abbrev S16x8x32 : Shape := ⟨3, ![16, 8, 32]⟩
abbrev S16x1x8x32 : Shape := ⟨4, ![16, 1, 8, 32]⟩
abbrev S16x2x8x32 : Shape := ⟨4, ![16, 2, 8, 32]⟩
abbrev S_ : Shape := ⟨0, ![]⟩
abbrev S2x8x32x64x128 : Shape := ⟨5, ![2, 8, 32, 64, 128]⟩
abbrev S1x2x8x32 : Shape := ⟨4, ![1, 2, 8, 32]⟩
abbrev S2x8x32 : Shape := ⟨3, ![2, 8, 32]⟩
abbrev S1x2x8x32x64x128 : Shape := ⟨6, ![1, 2, 8, 32, 64, 128]⟩
abbrev S2x8x32x1x1 : Shape := ⟨5, ![2, 8, 32, 1, 1]⟩
abbrev S8x16x1x64x128 : Shape := ⟨5, ![8, 16, 1, 64, 128]⟩
abbrev S8x16x64x128 : Shape := ⟨4, ![8, 16, 64, 128]⟩
abbrev S8x16x4x16x128 : Shape := ⟨5, ![8, 16, 4, 16, 128]⟩
abbrev S8x16x4x1x128x128 : Shape := ⟨6, ![8, 16, 4, 1, 128, 128]⟩
abbrev S8x16x4x8x128x128 : Shape := ⟨6, ![8, 16, 4, 8, 128, 128]⟩
abbrev S8x16x4x8x128x1 : Shape := ⟨6, ![8, 16, 4, 8, 128, 1]⟩
abbrev S8x16x4x8x1x128 : Shape := ⟨6, ![8, 16, 4, 8, 1, 128]⟩
abbrev S8x16x4x8x64x128 : Shape := ⟨6, ![8, 16, 4, 8, 64, 128]⟩
abbrev S4x8 : Shape := ⟨2, ![4, 8]⟩
abbrev S4x8x1 : Shape := ⟨3, ![4, 8, 1]⟩
abbrev S1x1x1x4x8x1 : Shape := ⟨6, ![1, 1, 1, 4, 8, 1]⟩
abbrev S8x2048x4x512 : Shape := ⟨4, ![8, 2048, 4, 512]⟩
abbrev S8x2048x4 : Shape := ⟨3, ![8, 2048, 4]⟩
abbrev S8x2048x4x1 : Shape := ⟨4, ![8, 2048, 4, 1]⟩
abbrev S1x1x2048 : Shape := ⟨3, ![1, 1, 2048]⟩

abbrev nBuf : Space → Nat
  | .hbm => 216
  | .vmem => 0
  | .smem => 0
  | _ => 0

abbrev hbmTy0_0 (i : Nat) : BufTy := match i % 128 with
  | 0 => ⟨S8x2048x3072, .bf16⟩
  | 1 => ⟨S8x2048x2048, .bf16⟩
  | 2 => ⟨S8x16x2x64x128, .f32⟩
  | 3 => ⟨S8x4x2048x128, .f32⟩
  | 4 => ⟨S8x4x2048x128, .bf16⟩
  | 5 => ⟨S32, .f32⟩
  | 6 => ⟨S2048, .f32⟩
  | 7 => ⟨S8x2048x3072, .f32⟩
  | 8 => ⟨S8x2048x2048, .f32⟩
  | 9 => ⟨S8x16x128x4x8x64, .f32⟩
  | 10 => ⟨S8x2048x512, .f32⟩
  | 11 => ⟨S8x16x128x4x128, .f32⟩
  | 12 => ⟨S8x2048x512, .f32⟩
  | 13 => ⟨S8x16x128x4x128, .f32⟩
  | 14 => ⟨S8x4x2048x128, .f32⟩
  | 15 => ⟨S8x4x16x128x128, .f32⟩
  | 16 => ⟨S8x16x4x128x128, .f32⟩
  | 17 => ⟨S8x16x4x32x128, .f32⟩
  | 18 => ⟨S8x16x4x32x128, .f32⟩
  | 19 => ⟨S8x16x4x32x128, .f32⟩
  | 20 => ⟨S8x16x4x8x128, .f32⟩
  | 21 => ⟨S8x16x4x8x128, .f32⟩
  | 22 => ⟨S8x16x4x8x128, .f32⟩
  | 23 => ⟨S8x16x4x8x128, .f32⟩
  | 24 => ⟨S8x16x128x4x8, .f32⟩
  | 25 => ⟨S8x16x128x4x8x1, .f32⟩
  | 26 => ⟨S8x16x128x4x8x64, .f32⟩
  | 27 => ⟨S8x16x128x4x8x64, .f32⟩
  | 28 => ⟨S16x8x4x8x64x128, .f32⟩
  | 29 => ⟨S16x8x32x64x128, .f32⟩
  | 30 => ⟨S8x16x128x4x8, .f32⟩
  | 31 => ⟨S8x16x128x4x8x1, .f32⟩
  | 32 => ⟨S8x16x128x4x8x64, .f32⟩
  | 33 => ⟨S8x16x128x4x8x64, .f32⟩
  | 34 => ⟨S16x8x4x8x64x128, .f32⟩
  | 35 => ⟨S16x8x32x64x128, .f32⟩
  | 36 => ⟨S16x8x32x64x128, .f32⟩
  | 37 => ⟨S16x1x8x32x64x128, .f32⟩
  | 38 => ⟨S16x1x8x32x64x128, .f32⟩
  | 39 => ⟨S16x2x8x32x64x128, .f32⟩
  | 40 => ⟨S8x16x4x8x1, .f32⟩
  | 41 => ⟨S8x16x4x8, .f32⟩
  | 42 => ⟨S16x8x4x8, .f32⟩
  | 43 => ⟨S16x8x32, .f32⟩
  | 44 => ⟨S8x16x4x8x1, .f32⟩
  | 45 => ⟨S8x16x4x8, .f32⟩
  | 46 => ⟨S16x8x4x8, .f32⟩
  | 47 => ⟨S16x8x32, .f32⟩
  | 48 => ⟨S16x8x32, .f32⟩
  | 49 => ⟨S16x1x8x32, .f32⟩
  | 50 => ⟨S16x1x8x32, .f32⟩
  | 51 => ⟨S16x2x8x32, .f32⟩
  | 52 => ⟨S_, .f32⟩
  | 53 => ⟨S2x8x32x64x128, .f32⟩
  | 54 => ⟨S_, .f32⟩
  | 55 => ⟨S16x2x8x32x64x128, .f32⟩
  | 56 => ⟨S_, .i32⟩
  | 57 => ⟨S16x2x8x32, .f32⟩
  | 58 => ⟨S16x2x8x32x64x128, .f32⟩
  | 59 => ⟨S_, .i32⟩
  | 60 => ⟨S2x8x32x64x128, .f32⟩
  | 61 => ⟨S16x2x8x32x64x128, .f32⟩
  | 62 => ⟨S_, .i32⟩
  | 63 => ⟨S_, .i1⟩
  | 64 => ⟨S_, .i32⟩
  | 65 => ⟨S_, .i32⟩
  | 66 => ⟨S_, .i32⟩
  | 67 => ⟨S1x2x8x32, .f32⟩
  | 68 => ⟨S2x8x32, .f32⟩
  | 69 => ⟨S_, .i32⟩
  | 70 => ⟨S_, .i32⟩
  | 71 => ⟨S_, .i32⟩
  | 72 => ⟨S_, .i32⟩
  | 73 => ⟨S_, .i32⟩
  | 74 => ⟨S1x2x8x32x64x128, .f32⟩
  | 75 => ⟨S2x8x32x64x128, .f32⟩
  | 76 => ⟨S2x8x32x1x1, .f32⟩
  | 77 => ⟨S2x8x32x64x128, .f32⟩
  | 78 => ⟨S2x8x32x64x128, .f32⟩
  | 79 => ⟨S2x8x32x64x128, .f32⟩
  | 80 => ⟨S1x2x8x32x64x128, .f32⟩
  | 81 => ⟨S_, .i32⟩
  | 82 => ⟨S_, .i32⟩
  | 83 => ⟨S_, .i32⟩
  | 84 => ⟨S_, .i32⟩
  | 85 => ⟨S_, .i32⟩
  | 86 => ⟨S16x2x8x32x64x128, .f32⟩
  | 87 => ⟨S_, .i32⟩
  | 88 => ⟨S_, .i32⟩
  | 89 => ⟨S8x2048x3072, .f32⟩
  | 90 => ⟨S8x2048x2048, .f32⟩
  | 91 => ⟨S8x16x128x4x8x64, .f32⟩
  | 92 => ⟨S8x2048x512, .f32⟩
  | 93 => ⟨S8x16x128x4x128, .f32⟩
  | 94 => ⟨S8x2048x512, .f32⟩
  | 95 => ⟨S8x16x128x4x128, .f32⟩
  | 96 => ⟨S8x4x2048x128, .f32⟩
  | 97 => ⟨S8x4x16x128x128, .f32⟩
  | 98 => ⟨S8x16x4x128x128, .f32⟩
  | 99 => ⟨S8x16x4x32x128, .f32⟩
  | 100 => ⟨S8x16x4x32x128, .f32⟩
  | 101 => ⟨S8x16x4x32x128, .f32⟩
  | 102 => ⟨S8x16x4x8x128, .f32⟩
  | 103 => ⟨S8x16x4x8x128, .f32⟩
  | 104 => ⟨S8x16x4x8x128, .f32⟩
  | 105 => ⟨S8x16x4x8x128, .f32⟩
  | 106 => ⟨S8x4x16x128x128, .f32⟩
  | 107 => ⟨S8x16x4x128x128, .f32⟩
  | 108 => ⟨S8x16x4x8x128, .f32⟩
  | 109 => ⟨S8x16x4x8x128, .f32⟩
  | 110 => ⟨S8x16x1x64x128, .f32⟩
  | 111 => ⟨S8x16x64x128, .f32⟩
  | 112 => ⟨S8x16x4x16x128, .f32⟩
  | 113 => ⟨S8x16x4x8x128, .f32⟩
  | 114 => ⟨S8x16x4x8x128, .f32⟩
  | 115 => ⟨S8x16x1x64x128, .f32⟩
  | 116 => ⟨S8x16x64x128, .f32⟩
  | 117 => ⟨S8x16x4x16x128, .f32⟩
  | 118 => ⟨S8x16x4x8x128, .f32⟩
  | 119 => ⟨S8x16x4x128x128, .f32⟩
  | 120 => ⟨S8x16x4x1x128x128, .f32⟩
  | 121 => ⟨S8x16x4x8x128x128, .i32⟩
  | 122 => ⟨S8x16x4x8x128x128, .i32⟩
  | 123 => ⟨S8x16x4x8x128x128, .i1⟩
  | 124 => ⟨S8x16x4x8x128x1, .f32⟩
  | 125 => ⟨S8x16x4x8x1x128, .f32⟩
  | 126 => ⟨S8x16x4x8x128x128, .f32⟩
  | 127 => ⟨S8x16x4x8x128x128, .f32⟩
  | _ => ⟨S8x2048x3072, .bf16⟩

abbrev hbmTy0_1 (i : Nat) : BufTy := match i % 128 with
  | 0 => ⟨S8x16x4x8x128x128, .f32⟩
  | 1 => ⟨S8x16x4x8x128x128, .f32⟩
  | 2 => ⟨S_, .f32⟩
  | 3 => ⟨S_, .f32⟩
  | 4 => ⟨S8x16x4x8x128x128, .f32⟩
  | 5 => ⟨S8x16x4x8x128x128, .f32⟩
  | 6 => ⟨S8x16x4x8x128x128, .i1⟩
  | 7 => ⟨S8x16x4x8x128x1, .f32⟩
  | 8 => ⟨S8x16x4x8x1x128, .f32⟩
  | 9 => ⟨S8x16x4x8x128x128, .f32⟩
  | 10 => ⟨S8x16x4x8x128x128, .f32⟩
  | 11 => ⟨S8x16x4x8x128x128, .f32⟩
  | 12 => ⟨S8x16x4x8x128x128, .f32⟩
  | 13 => ⟨S_, .f32⟩
  | 14 => ⟨S_, .f32⟩
  | 15 => ⟨S8x16x4x8x128x128, .f32⟩
  | 16 => ⟨S8x16x4x8x128x128, .f32⟩
  | 17 => ⟨S8x16x4x8x128x128, .i1⟩
  | 18 => ⟨S8x16x4x8x128, .f32⟩
  | 19 => ⟨S8x16x4x8x1x128, .f32⟩
  | 20 => ⟨S_, .f32⟩
  | 21 => ⟨S_, .f32⟩
  | 22 => ⟨S8x16x4x8x128x128, .f32⟩
  | 23 => ⟨S8x16x4x8x128x128, .f32⟩
  | 24 => ⟨S8x16x4x8x128x128, .f32⟩
  | 25 => ⟨S8x16x4x8x128x128, .f32⟩
  | 26 => ⟨S8x16x4x8x128x128, .f32⟩
  | 27 => ⟨S8x16x4x8x64x128, .f32⟩
  | 28 => ⟨S8x16x128x4x8x64, .f32⟩
  | 29 => ⟨S8x16x4x8x128x128, .f32⟩
  | 30 => ⟨S8x16x4x8x128x128, .f32⟩
  | 31 => ⟨S8x16x4x8x64x128, .f32⟩
  | 32 => ⟨S8x16x128x4x8x64, .f32⟩
  | 33 => ⟨S8x16x128x4x8x64, .f32⟩
  | 34 => ⟨S8x16x4x8x128x128, .f32⟩
  | 35 => ⟨S8x16x4x8x128x128, .f32⟩
  | 36 => ⟨S8x16x4x8x64x128, .f32⟩
  | 37 => ⟨S8x16x128x4x8x64, .f32⟩
  | 38 => ⟨S8x16x128x4x8x64, .f32⟩
  | 39 => ⟨S16x1x8x32x64x128, .f32⟩
  | 40 => ⟨S16x8x32x64x128, .f32⟩
  | 41 => ⟨S16x8x4x8x64x128, .f32⟩
  | 42 => ⟨S8x16x4x8x64x128, .f32⟩
  | 43 => ⟨S8x16x128x4x8x64, .f32⟩
  | 44 => ⟨S8x16x128x4x8, .f32⟩
  | 45 => ⟨S8x16x128x4x8x1, .f32⟩
  | 46 => ⟨S8x16x128x4x8x64, .f32⟩
  | 47 => ⟨S8x16x128x4x8x64, .f32⟩
  | 48 => ⟨S8x16x128x4x8x64, .f32⟩
  | 49 => ⟨S16x1x8x32x64x128, .f32⟩
  | 50 => ⟨S16x8x32x64x128, .f32⟩
  | 51 => ⟨S16x8x32x64x128, .f32⟩
  | 52 => ⟨S16x8x4x8x64x128, .f32⟩
  | 53 => ⟨S8x16x4x8x64x128, .f32⟩
  | 54 => ⟨S8x16x128x4x8x64, .f32⟩
  | 55 => ⟨S8x16x128x4x8, .f32⟩
  | 56 => ⟨S8x16x128x4x8x1, .f32⟩
  | 57 => ⟨S8x16x128x4x8x64, .f32⟩
  | 58 => ⟨S8x16x128x4x8x64, .f32⟩
  | 59 => ⟨S8x16x128x4x8x64, .f32⟩
  | 60 => ⟨S4x8, .f32⟩
  | 61 => ⟨S4x8x1, .f32⟩
  | 62 => ⟨S1x1x1x4x8x1, .f32⟩
  | 63 => ⟨S8x16x128x4x8x64, .f32⟩
  | 64 => ⟨S8x16x128x4x8x64, .f32⟩
  | 65 => ⟨S8x16x128x4x8x64, .f32⟩
  | 66 => ⟨S8x2048x4x512, .f32⟩
  | 67 => ⟨S8x2048x2048, .f32⟩
  | 68 => ⟨S8x2048x4x512, .f32⟩
  | 69 => ⟨S8x2048x4x512, .f32⟩
  | 70 => ⟨S8x2048x4x512, .f32⟩
  | 71 => ⟨S_, .f32⟩
  | 72 => ⟨S8x2048x4, .f32⟩
  | 73 => ⟨S8x2048x4x1, .f32⟩
  | 74 => ⟨S_, .f32⟩
  | 75 => ⟨S8x2048x4x1, .f32⟩
  | 76 => ⟨S8x2048x4x1, .f32⟩
  | 77 => ⟨S_, .f32⟩
  | 78 => ⟨S8x2048x4x1, .f32⟩
  | 79 => ⟨S8x2048x4x1, .f32⟩
  | 80 => ⟨S8x2048x4x1, .f32⟩
  | 81 => ⟨S8x2048x4x512, .f32⟩
  | 82 => ⟨S8x2048x4x512, .f32⟩
  | 83 => ⟨S8x2048x2048, .f32⟩
  | 84 => ⟨S1x1x2048, .f32⟩
  | 85 => ⟨S8x2048x2048, .f32⟩
  | 86 => ⟨S8x2048x2048, .f32⟩
  | 87 => ⟨S8x2048x2048, .bf16⟩
  | _ => ⟨S8x2048x3072, .bf16⟩

abbrev hbmTy (i : Nat) : BufTy := match i / 128 with
  | 0 => hbmTy0_0 i
  | 1 => hbmTy0_1 i
  | _ => ⟨S8x2048x3072, .bf16⟩

abbrev bufTy : (tb : Table) → Fin (tcTables nBuf tb) → BufTy
  | .hbm, ⟨i, _⟩ => hbmTy i
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst : Ref sig .tc := ⟨.hbm, 52, rfl⟩
abbrev main_v45 : Ref sig .tc := ⟨.hbm, 53, rfl⟩
abbrev main_cst_0 : Ref sig .tc := ⟨.hbm, 54, rfl⟩
abbrev main_v46 : Ref sig .tc := ⟨.hbm, 55, rfl⟩
abbrev main_c : Ref sig .tc := ⟨.hbm, 56, rfl⟩
abbrev main_v47_0 : Ref sig .tc := ⟨.hbm, 57, rfl⟩
abbrev main_v47_1 : Ref sig .tc := ⟨.hbm, 58, rfl⟩
abbrev main_v47_2 : Ref sig .tc := ⟨.hbm, 59, rfl⟩
abbrev main_v47_3 : Ref sig .tc := ⟨.hbm, 60, rfl⟩
abbrev main_v47_4 : Ref sig .tc := ⟨.hbm, 61, rfl⟩
abbrev main_while0c_c_11 : Ref sig .tc := ⟨.hbm, 62, rfl⟩
abbrev main_while0c_v162 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_c_1 : Ref sig .tc := ⟨.hbm, 66, rfl⟩
abbrev main_while0b_call2_v0 : Ref sig .tc := ⟨.hbm, 67, rfl⟩
abbrev main_while0b_v162 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_c_1 : Ref sig .tc := ⟨.hbm, 71, rfl⟩
abbrev main_while0b_call3_c_2 : Ref sig .tc := ⟨.hbm, 72, rfl⟩
abbrev main_while0b_call3_c_3 : Ref sig .tc := ⟨.hbm, 73, rfl⟩
abbrev main_while0b_call3_v0 : Ref sig .tc := ⟨.hbm, 74, rfl⟩
abbrev main_while0b_v163 : Ref sig .tc := ⟨.hbm, 75, rfl⟩
abbrev main_while0b_v164 : Ref sig .tc := ⟨.hbm, 76, rfl⟩
abbrev main_while0b_v165 : Ref sig .tc := ⟨.hbm, 77, rfl⟩
abbrev main_while0b_v166 : Ref sig .tc := ⟨.hbm, 78, rfl⟩
abbrev main_while0b_v167 : Ref sig .tc := ⟨.hbm, 79, rfl⟩
abbrev main_while0b_call4_v0 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_c_2 : Ref sig .tc := ⟨.hbm, 84, rfl⟩
abbrev main_while0b_call4_c_3 : Ref sig .tc := ⟨.hbm, 85, rfl⟩
abbrev main_while0b_v168 : Ref sig .tc := ⟨.hbm, 86, rfl⟩
abbrev main_while0b_c_11 : Ref sig .tc := ⟨.hbm, 87, rfl⟩
abbrev main_while0b_v169 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_1 : Ref sig .tc := ⟨.hbm, 130, rfl⟩
abbrev main_call5_v0 : Ref sig .tc := ⟨.hbm, 131, rfl⟩
abbrev main_call5_v1 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_2 : Ref sig .tc := ⟨.hbm, 141, rfl⟩
abbrev main_call6_v0 : Ref sig .tc := ⟨.hbm, 142, rfl⟩
abbrev main_call6_v1 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_3 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_4 : Ref sig .tc := ⟨.hbm, 199, rfl⟩
abbrev main_v148 : Ref sig .tc := ⟨.hbm, 200, rfl⟩
abbrev main_v149 : Ref sig .tc := ⟨.hbm, 201, rfl⟩
abbrev main_cst_5 : Ref sig .tc := ⟨.hbm, 202, rfl⟩
abbrev main_v150 : Ref sig .tc := ⟨.hbm, 203, rfl⟩
abbrev main_v151 : Ref sig .tc := ⟨.hbm, 204, rfl⟩
abbrev main_cst_6 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩

abbrev nD : Nat := 1
abbrev τ : Topo := Topo.v7x

variable {F : FTy → Type} [FloatOps F]

abbrev main_while0_count : Scf.Loop 32 := ⟨0#32, 16#32, 1#32⟩
-- ==== Z.lean ====
abbrev S8x2048x1024 : Shape := ⟨3, ![8, 2048, 1024]⟩
abbrev S4x1024x8256 : Shape := ⟨3, ![4, 1024, 8256]⟩
abbrev S4x8256x1024 : Shape := ⟨3, ![4, 8256, 1024]⟩
abbrev S8x2048x2048 : Shape := ⟨3, ![8, 2048, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S4x1024x8256, .f32⟩
  | .hbm, ⟨2, _⟩ => ⟨S8x2048x1024, .bf16⟩
  | .hbm, ⟨3, _⟩ => ⟨S4x8256x1024, .f32⟩
  | .hbm, ⟨4, _⟩ => ⟨S8x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x2048x1024, .bf16⟩
  | .local _ .vmem, ⟨5, _⟩ => ⟨S1x2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZRefIdeal.lean ====
abbrev S8x2048x1024 : Shape := ⟨3, ![8, 2048, 1024]⟩
abbrev S4x1024x8256 : Shape := ⟨3, ![4, 1024, 8256]⟩
abbrev S1x1024x8256 : Shape := ⟨3, ![1, 1024, 8256]⟩
abbrev S1024x8256 : Shape := ⟨2, ![1024, 8256]⟩
abbrev S1024x2048 : Shape := ⟨2, ![1024, 2048]⟩
abbrev S8x2048x2048 : Shape := ⟨3, ![8, 2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024x8256, .f32⟩
  | .hbm, ⟨2, _⟩ => ⟨S1x1024x8256, .f32⟩
  | .hbm, ⟨3, _⟩ => ⟨S1024x8256, .f32⟩
  | .hbm, ⟨4, _⟩ => ⟨S1024x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Gates.lean ====
abbrev S8x2048x1024 : Shape := ⟨3, ![8, 2048, 1024]⟩
abbrev S4x1024x8256 : Shape := ⟨3, ![4, 1024, 8256]⟩
abbrev S4x8256x1024 : Shape := ⟨3, ![4, 8256, 1024]⟩
abbrev S1x2048x1024 : Shape := ⟨3, ![1, 2048, 1024]⟩
abbrev S2048x1024 : Shape := ⟨2, ![2048, 1024]⟩
abbrev S8x2048x2048 : Shape := ⟨3, ![8, 2048, 2048]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S4x1024x8256, .f32⟩
  | .hbm, ⟨2, _⟩ => ⟨S4x8256x1024, .f32⟩
  | .hbm, ⟨3, _⟩ => ⟨S1x2048x1024, .f32⟩
  | .hbm, ⟨4, _⟩ => ⟨S2048x1024, .f32⟩
  | .hbm, ⟨5, _⟩ => ⟨S1x2048x1024, .f32⟩
  | .hbm, ⟨6, _⟩ => ⟨S8x2048x1024, .bf16⟩
  | .hbm, ⟨7, _⟩ => ⟨S8x2048x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x2048x1024, .bf16⟩
  | .local _ .vmem, ⟨5, _⟩ => ⟨S1x2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8x2048x1024 : Shape := ⟨3, ![8, 2048, 1024]⟩
abbrev S4x1024x8256 : Shape := ⟨3, ![4, 1024, 8256]⟩
abbrev S1x1024x8256 : Shape := ⟨3, ![1, 1024, 8256]⟩
abbrev S1024x8256 : Shape := ⟨2, ![1024, 8256]⟩
abbrev S1024x2048 : Shape := ⟨2, ![1024, 2048]⟩
abbrev S8x2048x2048 : Shape := ⟨3, ![8, 2048, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024x8256, .f32⟩
  | .hbm, ⟨2, _⟩ => ⟨S1x1024x8256, .f32⟩
  | .hbm, ⟨3, _⟩ => ⟨S1024x8256, .f32⟩
  | .hbm, ⟨4, _⟩ => ⟨S1024x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FfnDown.lean ====
abbrev S16384x2816 : Shape := ⟨2, ![16384, 2816]⟩
abbrev S16384x1024 : Shape := ⟨2, ![16384, 1024]⟩
abbrev S4x2816x1024 : Shape := ⟨3, ![4, 2816, 1024]⟩
abbrev S4x1024 : Shape := ⟨2, ![4, 1024]⟩
abbrev S1x1024 : Shape := ⟨2, ![1, 1024]⟩
abbrev S1024 : Shape := ⟨1, ![1024]⟩
abbrev S1024x2816 : Shape := ⟨2, ![1024, 2816]⟩
abbrev S1024x1024 : Shape := ⟨2, ![1024, 1024]⟩
abbrev S1x2816x1024 : Shape := ⟨3, ![1, 2816, 1024]⟩
abbrev S2816x1024 : Shape := ⟨2, ![2816, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S4x2816x1024, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x2816x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S2816x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnDownIdeal.lean ====
variable {F : FTy → Type} [FloatOps F] [Named F]
def κ : String → Option EReal := fun
  | "alpha" => some ((Real.sqrt (Real.sqrt 8) : ℝ) : EReal)
  | _ => none
-- ==== FfnDownRefIdeal.lean ====
abbrev S16384x2816 : Shape := ⟨2, ![16384, 2816]⟩
abbrev S16384x1024 : Shape := ⟨2, ![16384, 1024]⟩
abbrev S4x2816x1024 : Shape := ⟨3, ![4, 2816, 1024]⟩
abbrev S4x1024 : Shape := ⟨2, ![4, 1024]⟩
abbrev S_ : Shape := ⟨0, ![]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S4x2816x1024, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x2816, .f32⟩
  | .hbm, ⟨11, _⟩ => ⟨S1x2816x1024, .f32⟩
  | .hbm, ⟨12, _⟩ => ⟨S2816x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S4x2048x1024 : Shape := ⟨3, ![4, 2048, 1024]⟩
abbrev S4x1024x1024 : Shape := ⟨3, ![4, 1024, 1024]⟩
abbrev S4x1024 : Shape := ⟨2, ![4, 1024]⟩
abbrev S1x1024 : Shape := ⟨2, ![1, 1024]⟩
abbrev S1024 : Shape := ⟨1, ![1024]⟩
abbrev S512x2048 : Shape := ⟨2, ![512, 2048]⟩
abbrev S512x1024 : Shape := ⟨2, ![512, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .bf16⟩
  | .hbm, ⟨3, _⟩ => ⟨S16384x1024, .f32⟩
  | .hbm, ⟨4, _⟩ => ⟨S4x2048x1024, .f32⟩
  | .hbm, ⟨5, _⟩ => ⟨S4x1024x1024, .f32⟩
  | .hbm, ⟨6, _⟩ => ⟨S4x1024, .f32⟩
  | .hbm, ⟨7, _⟩ => ⟨S4x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x2048x1024, .f32⟩
  | .local _ .vmem, ⟨11, _⟩ => ⟨S1x1024x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S2048x1024, .bf16⟩
  | .local _ .vmem, ⟨19, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeIdeal.lean ====
variable {F : FTy → Type} [FloatOps F] [Named F]
def κ : String → Option EReal := fun
  | "alpha" => some ((Real.sqrt (Real.sqrt 8) : ℝ) : EReal)
  | _ => none
-- ==== MergeRefIdeal.lean ====
abbrev S16384x2048 : Shape := ⟨2, ![16384, 2048]⟩
abbrev S16384x1024 : Shape := ⟨2, ![16384, 1024]⟩
abbrev S4x2048x1024 : Shape := ⟨3, ![4, 2048, 1024]⟩
abbrev S4x1024x1024 : Shape := ⟨3, ![4, 1024, 1024]⟩
abbrev S4x1024 : Shape := ⟨2, ![4, 1024]⟩
abbrev S_ : Shape := ⟨0, ![]⟩
abbrev S1x2048x1024 : Shape := ⟨3, ![1, 2048, 1024]⟩
abbrev S2048x1024 : Shape := ⟨2, ![2048, 1024]⟩
abbrev S16384x2x1024 : Shape := ⟨3, ![16384, 2, 1024]⟩
abbrev S16384x1x1024 : Shape := ⟨3, ![16384, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x2048, .bf16⟩
  | .hbm, ⟨3, _⟩ => ⟨S16384x1024, .f32⟩
  | .hbm, ⟨4, _⟩ => ⟨S4x2048x1024, .f32⟩
  | .hbm, ⟨5, _⟩ => ⟨S4x1024x1024, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x2048, .f32⟩
  | .hbm, ⟨12, _⟩ => ⟨S1x2048x1024, .f32⟩
  | .hbm, ⟨13, _⟩ => ⟨S2048x1024, .f32⟩
  | .hbm, ⟨14, _⟩ => ⟨S16384x1024, .f32⟩
  | .hbm, ⟨15, _⟩ => ⟨S16384x2048, .f32⟩
  | .hbm, ⟨16, _⟩ => ⟨S16384x2x1024, .f32⟩
  | .hbm, ⟨17, _⟩ => ⟨S16384x1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x1024x1024, .f32⟩
  | .hbm, ⟨28, _⟩ => ⟨S1024x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== FfnUp.lean ====
abbrev S8x2048x1024 : Shape := ⟨3, ![8, 2048, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S8x2048x2816 : Shape := ⟨3, ![8, 2048, 2816]⟩
abbrev S1x2048x1024 : Shape := ⟨3, ![1, 2048, 1024]⟩
abbrev S1x1024x256 : Shape := ⟨3, ![1, 1024, 256]⟩
abbrev S3x256 : Shape := ⟨2, ![3, 256]⟩
abbrev S1x256 : Shape := ⟨2, ![1, 256]⟩
abbrev S1x2048x256 : Shape := ⟨3, ![1, 2048, 256]⟩
abbrev S2x2064x128 : Shape := ⟨3, ![2, 2064, 128]⟩
abbrev S2x2048x128 : Shape := ⟨3, ![2, 2048, 128]⟩
abbrev S1024x256 : Shape := ⟨2, ![1024, 256]⟩
abbrev S8x128 : Shape := ⟨2, ![8, 128]⟩
abbrev S1x8x128 : Shape := ⟨3, ![1, 8, 128]⟩
abbrev S1x512x1024 : Shape := ⟨3, ![1, 512, 1024]⟩
abbrev S512x1024 : Shape := ⟨2, ![512, 1024]⟩
abbrev S512x256 : Shape := ⟨2, ![512, 256]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩
abbrev S1x128 : Shape := ⟨2, ![1, 128]⟩
abbrev S1x256x128 : Shape := ⟨3, ![1, 256, 128]⟩
abbrev S256x128 : Shape := ⟨2, ![256, 128]⟩

abbrev nBuf : Space → Nat
  | .hbm => 10
  | .vmem => 19
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x5632, .f32⟩
  | .hbm, ⟨2, _⟩ => ⟨S4x3x5632, .f32⟩
  | .hbm, ⟨3, _⟩ => ⟨S4x5632, .f32⟩
  | .hbm, ⟨4, _⟩ => ⟨S1x3x5632, .f32⟩
  | .hbm, ⟨5, _⟩ => ⟨S3x5632, .f32⟩
  | .hbm, ⟨6, _⟩ => ⟨S1x5632, .f32⟩
  | .hbm, ⟨7, _⟩ => ⟨S5632, .f32⟩
  | .hbm, ⟨8, _⟩ => ⟨S1x5632, .f32⟩
  | .hbm, ⟨9, _⟩ => ⟨S8x2048x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x2048x256, .bf16⟩
  | .local _ .vmem, ⟨15, _⟩ => ⟨S1x2048x256, .bf16⟩
  | .local _ .vmem, ⟨16, _⟩ => ⟨S2x2064x128, .f32⟩
  | .local _ .vmem, ⟨17, _⟩ => ⟨S2x2064x128, .f32⟩
  | .local _ .vmem, ⟨18, _⟩ => ⟨S2x2048x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnUpIdeal.lean ====
variable {F : FTy → Type} [FloatOps F] [Named F]
def κ : String → Option EReal := fun
  | "inv_sqrt_2" => some (((Real.sqrt 2)⁻¹ : ℝ) : EReal)
  | _ => none
-- ==== FfnUpRefIdeal.lean ====
abbrev S8x2048x1024 : Shape := ⟨3, ![8, 2048, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S_ : Shape := ⟨0, ![]⟩
abbrev S8x2050x5632 : Shape := ⟨3, ![8, 2050, 5632]⟩
abbrev S1x1x5632 : Shape := ⟨3, ![1, 1, 5632]⟩
abbrev S5632 : Shape := ⟨1, ![5632]⟩
abbrev S1x5632 : Shape := ⟨2, ![1, 5632]⟩
abbrev S8x2048x2816 : Shape := ⟨3, ![8, 2048, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x1024x5632, .f32⟩
  | .hbm, ⟨2, _⟩ => ⟨S4x3x5632, .f32⟩
  | .hbm, ⟨3, _⟩ => ⟨S4x5632, .f32⟩
  | .hbm, ⟨4, _⟩ => ⟨S8x2048x1024, .f32⟩
  | .hbm, ⟨5, _⟩ => ⟨S1x1024x5632, .f32⟩
  | .hbm, ⟨6, _⟩ => ⟨S1024x5632, .f32⟩
  | .hbm, ⟨7, _⟩ => ⟨S8x2048x5632, .f32⟩
  | .hbm, ⟨8, _⟩ => ⟨S_, .i32⟩
  | .hbm, ⟨9, _⟩ => ⟨S_, .f32⟩
  | .hbm, ⟨10, _⟩ => ⟨S8x2050x5632, .f32⟩
  | .hbm, ⟨11, _⟩ => ⟨S8x2048x5632, .f32⟩
  | .hbm, ⟨12, _⟩ => ⟨S1x1x5632, .f32⟩
  | .hbm, ⟨13, _⟩ => ⟨S5632, .f32⟩
  | .hbm, ⟨14, _⟩ => ⟨S1x1x5632, .f32⟩
  | .hbm, ⟨15, _⟩ => ⟨S8x2048x5632, .f32⟩
  | .hbm, ⟨16, _⟩ => ⟨S8x2048x5632, .f32⟩
  | .hbm, ⟨17, _⟩ => ⟨S_, .f32⟩
  | .hbm, ⟨18, _⟩ => ⟨S8x2048x5632, .f32⟩
  | .hbm, ⟨19, _⟩ => ⟨S8x2048x5632, .f32⟩
  | .hbm, ⟨20, _⟩ => ⟨S8x2048x5632, .f32⟩
  | .hbm, ⟨21, _⟩ => ⟨S1x1x5632, .f32⟩
  | .hbm, ⟨22, _⟩ => ⟨S5632, .f32⟩
  | .hbm, ⟨23, _⟩ => ⟨S1x1x5632, .f32⟩
  | .hbm, ⟨24, _⟩ => ⟨S8x2048x5632, .f32⟩
  | .hbm, ⟨25, _⟩ => ⟨S8x2048x5632, .f32⟩
  | .hbm, ⟨26, _⟩ => ⟨S8x2048x5632, .f32⟩
  | .hbm, ⟨27, _⟩ => ⟨S8x2048x5632, .f32⟩
  | .hbm, ⟨28, _⟩ => ⟨S1x1x5632, .f32⟩
  | .hbm, ⟨29, _⟩ => ⟨S5632, .f32⟩
  | .hbm, ⟨30, _⟩ => ⟨S1x1x5632, .f32⟩
  | .hbm, ⟨31, _⟩ => ⟨S8x2048x5632, .f32⟩
  | .hbm, ⟨32, _⟩ => ⟨S8x2048x5632, .f32⟩
  | .hbm, ⟨33, _⟩ => ⟨S8x2048x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S8x2048x5632, .f32⟩
  | .hbm, ⟨38, _⟩ => ⟨S8x2048x5632, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S_, .f32⟩
  | .hbm, ⟨45, _⟩ => ⟨S_, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Pool.lean ====
abbrev S8x2048x1024 : Shape := ⟨3, ![8, 2048, 1024]⟩
abbrev S4x1024x8256 : Shape := ⟨3, ![4, 1024, 8256]⟩
abbrev S4x4x256x256 : Shape := ⟨4, ![4, 4, 256, 256]⟩
abbrev S4x1024 : Shape := ⟨2, ![4, 1024]⟩
abbrev S4x8256x1024 : Shape := ⟨3, ![4, 8256, 1024]⟩
abbrev S1x1024 : Shape := ⟨2, ![1, 1024]⟩
abbrev S1024 : Shape := ⟨1, ![1024]⟩
abbrev S1x2048x1024 : Shape := ⟨3, ![1, 2048, 1024]⟩
abbrev S1x256x1024 : Shape := ⟨3, ![1, 256, 1024]⟩
abbrev S1x1x256x256 : Shape := ⟨4, ![1, 1, 256, 256]⟩
abbrev S1x256 : Shape := ⟨2, ![1, 256]⟩
abbrev S1x2048x256 : Shape := ⟨3, ![1, 2048, 256]⟩
abbrev S2048x256 : Shape := ⟨2, ![2048, 256]⟩
abbrev S2048x1024 : Shape := ⟨2, ![2048, 1024]⟩
abbrev S256x1024 : Shape := ⟨2, ![256, 1024]⟩
abbrev S256x288 : Shape := ⟨2, ![256, 288]⟩
abbrev S288x256 : Shape := ⟨2, ![288, 256]⟩
abbrev S256x256 : Shape := ⟨2, ![256, 256]⟩
abbrev S1x256x256 : Shape := ⟨3, ![1, 256, 256]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S4x1024x8256, .f32⟩
  | .hbm, ⟨2, _⟩ => ⟨S4x4x256x256, .f32⟩
  | .hbm, ⟨3, _⟩ => ⟨S4x1024, .f32⟩
  | .hbm, ⟨4, _⟩ => ⟨S8x2048x1024, .bf16⟩
  | .hbm, ⟨5, _⟩ => ⟨S4x8256x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S8x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x1x256x256, .f32⟩
  | .local _ .vmem, ⟨5, _⟩ => ⟨S1x1x256x256, .f32⟩
  | .local _ .vmem, ⟨6, _⟩ => ⟨S1x256, .f32⟩
  | .local _ .vmem, ⟨7, _⟩ => ⟨S1x256, .f32⟩
  | .local _ .vmem, ⟨8, _⟩ => ⟨S1x2048x256, .bf16⟩
  | .local _ .vmem, ⟨9, _⟩ => ⟨S1x2048x256, .bf16⟩
  | .local _ .vmem, ⟨10, _⟩ => ⟨S2048x256, .f32⟩
  | .local _ .vmem, ⟨11, _⟩ => ⟨S2048x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolRefIdeal.lean ====
abbrev S8x2048x1024 : Shape := ⟨3, ![8, 2048, 1024]⟩
abbrev S4x1024x8256 : Shape := ⟨3, ![4, 1024, 8256]⟩
abbrev S4x4x256x256 : Shape := ⟨4, ![4, 4, 256, 256]⟩
abbrev S4x1024 : Shape := ⟨2, ![4, 1024]⟩
abbrev S1x1024x8256 : Shape := ⟨3, ![1, 1024, 8256]⟩
abbrev S1024x8256 : Shape := ⟨2, ![1024, 8256]⟩
abbrev S1024x1024 : Shape := ⟨2, ![1024, 1024]⟩
abbrev S8x2048x4x256 : Shape := ⟨4, ![8, 2048, 4, 256]⟩
abbrev S4x2048x2048 : Shape := ⟨3, ![4, 2048, 2048]⟩
abbrev S_ : Shape := ⟨0, ![]⟩
abbrev S2048x4x256 : Shape := ⟨3, ![2048, 4, 256]⟩
abbrev S4x8x256x2048 : Shape := ⟨4, ![4, 8, 256, 2048]⟩
abbrev S1x2048x4x256 : Shape := ⟨4, ![1, 2048, 4, 256]⟩
abbrev S1x4x256x256 : Shape := ⟨4, ![1, 4, 256, 256]⟩
abbrev S4x256x256 : Shape := ⟨3, ![4, 256, 256]⟩
abbrev S4x256x8x2048 : Shape := ⟨4, ![4, 256, 8, 2048]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024x8256, .f32⟩
  | .hbm, ⟨2, _⟩ => ⟨S4x4x256x256, .f32⟩
  | .hbm, ⟨3, _⟩ => ⟨S4x1024, .f32⟩
  | .hbm, ⟨4, _⟩ => ⟨S1x1024x8256, .f32⟩
  | .hbm, ⟨5, _⟩ => ⟨S1024x8256, .f32⟩
  | .hbm, ⟨6, _⟩ => ⟨S1024x1024, .f32⟩
  | .hbm, ⟨7, _⟩ => ⟨S8x2048x1024, .f32⟩
  | .hbm, ⟨8, _⟩ => ⟨S8x2048x4x256, .f32⟩
  | .hbm, ⟨9, _⟩ => ⟨S4x2048x2048, .i32⟩
  | .hbm, ⟨10, _⟩ => ⟨S4x2048x2048, .i32⟩
  | .hbm, ⟨11, _⟩ => ⟨S4x2048x2048, .i32⟩
  | .hbm, ⟨12, _⟩ => ⟨S_, .i32⟩
  | .hbm, ⟨13, _⟩ => ⟨S4x2048x2048, .i32⟩
  | .hbm, ⟨14, _⟩ => ⟨S4x2048x2048, .i32⟩
  | .hbm, ⟨15, _⟩ => ⟨S4x2048x2048, .i32⟩
  | .hbm, ⟨16, _⟩ => ⟨S4x2048x2048, .i1⟩
  | .hbm, ⟨17, _⟩ => ⟨S4x2048x2048, .i32⟩
  | .hbm, ⟨18, _⟩ => ⟨S4x2048x2048, .i1⟩
  | .hbm, ⟨19, _⟩ => ⟨S4x2048x2048, .i1⟩
  | .hbm, ⟨20, _⟩ => ⟨S2048x4x256, .i32⟩
  | .hbm, ⟨21, _⟩ => ⟨S2048x4x256, .i32⟩
  | .hbm, ⟨22, _⟩ => ⟨S_, .i32⟩
  | .hbm, ⟨23, _⟩ => ⟨S2048x4x256, .i32⟩
  | .hbm, ⟨24, _⟩ => ⟨S2048x4x256, .i32⟩
  | .hbm, ⟨25, _⟩ => ⟨S2048x4x256, .i32⟩
  | .hbm, ⟨26, _⟩ => ⟨S_, .i32⟩
  | .hbm, ⟨27, _⟩ => ⟨S2048x4x256, .i32⟩
  | .hbm, ⟨28, _⟩ => ⟨S2048x4x256, .i32⟩
  | .hbm, ⟨29, _⟩ => ⟨S_, .i32⟩
  | .hbm, ⟨30, _⟩ => ⟨S2048x4x256, .i32⟩
  | .hbm, ⟨31, _⟩ => ⟨S2048x4x256, .i32⟩
  | .hbm, ⟨32, _⟩ => ⟨S2048x4x256, .i32⟩
  | .hbm, ⟨33, _⟩ => ⟨S_, .i32⟩
  | .hbm, ⟨34, _⟩ => ⟨S2048x4x256, .i32⟩
  | .hbm, ⟨35, _⟩ => ⟨S2048x4x256, .i32⟩
  | .hbm, ⟨36, _⟩ => ⟨S2048x4x256, .i32⟩
  | .hbm, ⟨37, _⟩ => ⟨S_, .i32⟩
  | .hbm, ⟨38, _⟩ => ⟨S2048x4x256, .i32⟩
  | .hbm, ⟨39, _⟩ => ⟨S2048x4x256, .i32⟩
  | .hbm, ⟨40, _⟩ => ⟨S4x2048x2048, .f32⟩
  | .hbm, ⟨41, _⟩ => ⟨S4x8x256x2048, .f32⟩
  | .hbm, ⟨42, _⟩ => ⟨S8x2048x4x256, .f32⟩
  | .hbm, ⟨43, _⟩ => ⟨S2048x4x256, .f32⟩
  | .hbm, ⟨44, _⟩ => ⟨S1x2048x4x256, .f32⟩
  | .hbm, ⟨45, _⟩ => ⟨S8x2048x4x256, .f32⟩
  | .hbm, ⟨46, _⟩ => ⟨S8x2048x4x256, .f32⟩
  | .hbm, ⟨47, _⟩ => ⟨S8x2048x4x256, .f32⟩
  | .hbm, ⟨48, _⟩ => ⟨S1x4x256x256, .f32⟩
  | .hbm, ⟨49, _⟩ => ⟨S4x256x256, .f32⟩
  | .hbm, ⟨50, _⟩ => ⟨S4x256x8x2048, .f32⟩
  | .hbm, ⟨51, _⟩ => ⟨S8x2048x4x256, .f32⟩
  | .hbm, ⟨52, _⟩ => ⟨S8x2048x1024, .f32⟩
  | .hbm, ⟨53, _⟩ => ⟨S1x1024, .f32⟩
  | .hbm, ⟨54, _⟩ => ⟨S1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Proof.SsdChunk.lean ====
/-
  What the scan kernel's first pass computes for one chunk of 128 tokens, as functions of the chunk's blocks: the
  output inside the chunk, and the factors that the pass over the chunks uses. The kernel writes this work out once
  for each of its 16 chunks; here it is stated once.
-/
module

public import proofs.«01_k».proof.Proof.Gen.SsdIdeal.Value
public import Idealize.ShloMosaic.Lib.Pointwise
public import Idealize.ShloMosaic.Lib.Tactic

@[expose] public section

set_option maxRecDepth 16384

noncomputable section

namespace Cert.SsdIdeal.Chunk

open Cert.SsdIdeal Cert.SsdIdeal.Gen Idealize.ShloMosaic Idealize.ShloMosaic.TcCoe

variable {F : FTy → Type} [FloatOps F]

theorem slices_col : ∀ h : Fin 16, S128x128.Slices ![0, h.val] S128x1 := by decide
theorem slices_row : ∀ h : Fin 16, S16x128.Slices ![h.val, 0] S1x128 := by decide
theorem slices_pair : ∀ j : Fin 4, S128x512.Slices ![0, 128 * j.val] S128x128 := by decide

/-- Entry `(l, t)`: `a` of token `l` less `r` of token `t`, both of head `h` (of 16: the forward ones, then the
    backward ones). -/
def gap (a : FVec F S128x128 .f32) (r : FVec F S16x128 .f32) (h : Fin 16) : FVec F S128x128 .f32 :=
  subf (broadcastTo S128x128 (extractStridedSlice S128x1 ![0, h.val] a (slices_col h)) broadcasts_S128x1_S128x128)
    (broadcastTo S128x128 (extractStridedSlice S1x128 ![h.val, 0] r (slices_row h)) broadcasts_S1x128_S128x128)

/-- Entry `(l, t)`: the score of the two tokens times the decay between them for head `h`: forward below the
    diagonal, backward above it, both together on it. -/
def weights (s a : FVec F S128x128 .f32) (r r' : FVec F S16x128 .f32) (h : Fin 8) : FVec F S128x128 .bf16 :=
  truncf .bf16 (mulf s (exp (select k0_pay4 (gap a r ⟨h.val, by omega⟩)
    (select k0_pay5 (gap a r ⟨h.val + 8, by omega⟩)
      (broadcastTo S128x128 (shapeCast S1x128 (extractStridedSlice S1x128 ![h.val, 0] r' (slices_row ⟨h.val, by omega⟩))
        shapeCasts_S1x128_S1x128) broadcasts_S1x128_S128x128))))) bitsLt_bf16_f32

/-- The outputs of heads `2j` and `2j + 1` side by side: one product of the two weight matrices in a row with the
    block diagonal of the two heads' inputs. -/
def pairOut (x : FVec F S128x512 .bf16) (s a : FVec F S128x128 .f32) (r r' : FVec F S16x128 .f32) (j : Fin 4) :
    FVec F S128x128 .f32 :=
  matmul dot_S128x256_S256x128_S128x128_1_0_0_1_n_n none
    (concatenate S128x256 1 [⟨S128x128, weights s a r r' ⟨2 * j.val, by omega⟩⟩, ⟨S128x128, weights s a r r' ⟨2 * j.val + 1, by omega⟩⟩]
      concatenates_S128x128_S128x128_S128x256_d1)
    (concatenate S256x128 0
      [⟨S128x128, select k0_pay6 (extractStridedSlice S128x128 ![0, 128 * j.val] x (slices_pair j)) (broadcast S128x128 (Scalar.ofBits .bf16 0x0000#16))⟩,
       ⟨S128x128, select k0_pay6 (broadcast S128x128 (Scalar.ofBits .bf16 0x0000#16)) (extractStridedSlice S128x128 ![0, 128 * j.val] x (slices_pair j))⟩]
      concatenates_S128x128_S128x128_S256x128_d0)
    (constant S128x128 .f32 0x00000000#32)

/-- A chunk's output before the states of the other chunks: what its own tokens contribute, plus the skip. -/
def inner (x : Vec F S1x128x512 .bf16) (b c : Vec F S1x128x128 .bf16) (r r' : Vec F S1x1x1x16x128 .f32)
    (a : Vec F S1x1x128x128 .f32) (d : Vec F S1x512 .f32) : FVec F S128x512 .f32 :=
  k0_pay22 (k0_pay20 (k0_pay7 x))
    (concatenate S128x512 1
      [⟨S128x128, pairOut (k0_pay7 x) (k0_pay8 b c) (k0_pay11 a) (k0_pay9 r) (k0_pay10 r') 0⟩,
       ⟨S128x128, pairOut (k0_pay7 x) (k0_pay8 b c) (k0_pay11 a) (k0_pay9 r) (k0_pay10 r') 1⟩,
       ⟨S128x128, pairOut (k0_pay7 x) (k0_pay8 b c) (k0_pay11 a) (k0_pay9 r) (k0_pay10 r') 2⟩,
       ⟨S128x128, pairOut (k0_pay7 x) (k0_pay8 b c) (k0_pay11 a) (k0_pay9 r) (k0_pay10 r') 3⟩]
      concatenates_S128x128_S128x128_S128x128_S128x128_S128x512_d1) d

/-! ## The blocks of a grid point -/

/-- The ten input blocks of one grid point (one sequence, one head group). -/
structure Blocks (F : FTy → Type) where
  x0 : Vec F S1x2048x512 .bf16
  x1 : Vec F S1x2048x128 .bf16
  x2 : Vec F S1x2048x128 .bf16
  x3 : Vec F S1x2048x512 .bf16
  x4 : Vec F S1x16x2x16x128 .f32
  x5 : Vec F S1x1x2048x128 .f32
  x6 : Vec F S1x1x2048x128 .bf16
  x7 : Vec F S128x2048 .bf16
  x8 : Vec F S1x512 .f32
  x9 : Vec F S1x512 .f32

theorem inb_rows : ∀ u : Fin 16, ∀ a, (![128 * u.val, 0] : Fin 2 → ℕ) a + S128x512.size a ≤ S2048x512.size a := by decide
theorem inb_x : ∀ u : Fin 16, ∀ a, (![0, 128 * u.val, 0] : Fin 3 → ℕ) a + S1x128x512.size a ≤ S1x2048x512.size a := by decide
theorem inb_bc : ∀ u : Fin 16, ∀ a, (![0, 128 * u.val, 0] : Fin 3 → ℕ) a + S1x128x128.size a ≤ S1x2048x128.size a := by decide
theorem inb_r : ∀ u : Fin 16, ∀ d : Fin 2, ∀ a, (![0, u.val, d.val, 0, 0] : Fin 5 → ℕ) a + S1x1x1x16x128.size a ≤ S1x16x2x16x128.size a := by decide
theorem inb_a : ∀ u : Fin 16, ∀ a, (![0, 0, 128 * u.val, 0] : Fin 4 → ℕ) a + S1x1x128x128.size a ≤ S1x1x2048x128.size a := by decide
theorem inb_e : ∀ u : Fin 16, ∀ a, (![u.val, 0, 0] : Fin 3 → ℕ) a + S1x8x512.size a ≤ S16x8x512.size a := by decide
theorem inb_z : ∀ r : Fin 8, ∀ a, (![0, 256 * r.val, 0] : Fin 3 → ℕ) a + S1x256x512.size a ≤ S1x2048x512.size a := by decide
theorem inb_y : ∀ r : Fin 8, ∀ a, (![256 * r.val, 0] : Fin 2 → ℕ) a + S256x512.size a ≤ S2048x512.size a := by decide

namespace Blocks
variable (X : Blocks F) (u : Fin 16)

/-! Chunk `u` of each block. -/
def x : Vec F S1x128x512 .bf16 := View.ld X.x0 (Rect.unit (s := S1x2048x512) ![0, 128 * u.val, 0] S1x128x512.size (inb_x u))
def b : Vec F S1x128x128 .bf16 := View.ld X.x1 (Rect.unit (s := S1x2048x128) ![0, 128 * u.val, 0] S1x128x128.size (inb_bc u))
def c : Vec F S1x128x128 .bf16 := View.ld X.x2 (Rect.unit (s := S1x2048x128) ![0, 128 * u.val, 0] S1x128x128.size (inb_bc u))
def r (d : Fin 2) : Vec F S1x1x1x16x128 .f32 :=
  View.ld X.x4 (Rect.unit (s := S1x16x2x16x128) ![0, u.val, d.val, 0, 0] S1x1x1x16x128.size (inb_r u d))
def a : Vec F S1x1x128x128 .f32 := View.ld X.x5 (Rect.unit (s := S1x1x2048x128) ![0, 0, 128 * u.val, 0] S1x1x128x128.size (inb_a u))
def f : Vec F S1x1x128x128 .bf16 := View.ld X.x6 (Rect.unit (s := S1x1x2048x128) ![0, 0, 128 * u.val, 0] S1x1x128x128.size (inb_a u))
def e : Vec F S128x2048 .bf16 := View.ld X.x7 (Rect.unit (s := S128x2048) ![0, 0] S128x2048.size inb_S128x2048_S128x2048_0_0)
def d : Vec F S1x512 .f32 := View.ld X.x8 (Rect.unit (s := S1x512) ![0, 0] S1x512.size inb_S1x512_S1x512_0_0)
def g : Vec F S1x512 .f32 := View.ld X.x9 (Rect.unit (s := S1x512) ![0, 0] S1x512.size inb_S1x512_S1x512_0_0)
def z (k : Fin 8) : Vec F S1x256x512 .bf16 :=
  View.ld X.x3 (Rect.unit (s := S1x2048x512) ![0, 256 * k.val, 0] S1x256x512.size (inb_z k))

/-- What the first pass leaves for chunk `u`: the output so far; -/
def innerAt : FVec F S128x512 .f32 := inner (X.x u) (X.b u) (X.c u) (X.r u 0) (X.r u 1) (X.a u) X.d
/-- the factor on the state that the forward scan brings to the chunk's tokens; -/
def outF : FVec F S128x512 .f32 := k0_pay24 (X.f u) X.e
/-- the inputs, weighted for the forward scan's state after the chunk; -/
def inF : FVec F S128x512 .bf16 := k0_pay25 (k0_pay20 (k0_pay7 (X.x u))) (X.f u) X.e
/-- the factor on the state that the backward scan brings; -/
def outB : FVec F S128x512 .f32 := k0_pay26 (X.f u) X.e
/-- the inputs, weighted for the backward scan's state; -/
def inB : FVec F S128x512 .bf16 := k0_pay27 (k0_pay20 (k0_pay7 (X.x u))) (X.f u) X.e
/-- the whole chunk's decay forward, -/
def endF : FVec F S1x8x512 .f32 := k0_pay29 (k0_pay28 (X.f u) X.e)
/-- and backward. -/
def endB : FVec F S1x8x512 .f32 := k0_pay30 (k0_pay23 (X.f u) X.e)

/-! ## The pass over the chunks -/

/-- The output by chunks, the forward state and the backward state. -/
abbrev Carry (F : FTy → Type) := (Fin 16 → FVec F S128x512 .f32) × FVec F S128x512 .f32 × FVec F S128x512 .f32

/-- Before the pass. -/
def start : Carry F := (X.innerAt, k0_pay416, k0_pay417)

/-- Trip `k`: the forward scan meets chunk `k`, the backward scan chunk `15 - k`. -/
def trip (k : Fin 16) (s : Carry F) : Carry F :=
  let y := Function.update s.1 k (k0_pay2 s.2.1 (s.1 k) (X.c k) (X.outF k))
  (Function.update y k.rev (k0_pay418 s.2.2 (y k.rev) (X.c k.rev) (X.outB k.rev)),
    k0_pay3 s.2.1 (X.b k) (X.inF k) (X.endF k),
    k0_pay419 s.2.2 (X.b k.rev) (X.inB k.rev) (X.endB k.rev))

/-- After the first `n` trips. -/
def after : ℕ → Carry F
  | 0 => X.start
  | n + 1 => if h : n < 16 then X.trip ⟨n, h⟩ (after n) else after n

theorem after_succ (k : Fin 16) : X.after (k.val + 1) = X.trip k (X.after k.val) := dif_pos k.isLt

/-! ## The result block -/

/-- The output's chunks as one array of 2048 rows. -/
def joined (y : Fin 16 → FVec F S128x512 .f32) : Vec F S2048x512 .f32 := fun i =>
  y ⟨(i 0).val / 128, by have : (i 0).val < 2048 := (i 0).isLt; omega⟩
    (ValueIdx.ix2 (n0 := 128) (n1 := 512) ⟨(i 0).val % 128, Nat.mod_lt _ (by decide)⟩ (i 1))

/-- The result's rows `256 k` to `256 k + 255`: gated and normalised. -/
def normed (k : Fin 8) : FVec F S1x256x512 .bf16 :=
  k0_pay420 (View.ld (joined (X.after 16).1) (Rect.unit (s := S2048x512) ![256 * k.val, 0] S256x512.size (inb_y k))) (X.z k) X.g

end Blocks

end Cert.SsdIdeal.Chunk
end
-- ==== Proof.SsdSpec.lean ====
/-
  The scan as mathematics: for one sequence and one group of 8 heads (512 channels), what the layer's bidirectional
  state-space scan with its gated RMS norm yields, over the extended reals. The 2048 tokens come in 16 chunks of 128.
-/
module

public import Idealize.ShloMosaic.Lib.Pointwise

@[expose] public section

noncomputable section

namespace Cert.Ssm

open Idealize.ShloMosaic

/-- Token `l` of chunk `u`. -/
def tok (u : Fin 16) (l : Fin 128) : Fin 2048 := ⟨128 * u.val + l.val, by omega⟩

/-- The head of a channel. -/
def hd (q : Fin 512) : Fin 8 := ⟨q.val / 64, by omega⟩

/-- What the scan is given for one sequence and one group. -/
structure Data where
  /-- the inputs by chunk, token, channel -/
  x : Fin 16 → Fin 128 → Fin 512 → EReal
  /-- the input vectors -/
  b : Fin 16 → Fin 128 → Fin 128 → EReal
  /-- the output vectors -/
  c : Fin 16 → Fin 128 → Fin 128 → EReal
  /-- the cumulative decay of each head (8 forward, then 8 backward), by chunk, token, head -/
  a : Fin 16 → Fin 128 → Fin 16 → EReal
  /-- the same less the logarithm of the step, by chunk, head, token -/
  r : Fin 16 → Fin 16 → Fin 128 → EReal
  /-- the logarithm of the two directions' steps summed, by chunk, head, token -/
  s : Fin 16 → Fin 8 → Fin 128 → EReal
  /-- the decay from the chunk's edge to a token, forward -/
  eF : Fin 16 → Fin 128 → Fin 8 → EReal
  /-- and backward -/
  eB : Fin 16 → Fin 128 → Fin 8 → EReal
  /-- the step times the decay from a token to the chunk's far edge, forward -/
  wF : Fin 16 → Fin 128 → Fin 8 → EReal
  /-- and backward -/
  wB : Fin 16 → Fin 128 → Fin 8 → EReal
  /-- the gate -/
  z : Fin 16 → Fin 128 → Fin 512 → EReal
  /-- the skip of each head -/
  d : Fin 8 → EReal
  /-- the norm's gain -/
  g : Fin 512 → EReal

namespace Data
variable (D : Data)

/-- The product of token `l`'s output vector with token `t`'s input vector. -/
def score (u : Fin 16) (l t : Fin 128) : EReal := ∑ n : Fin 128, D.c u l n * D.b u t n

/-- The logarithm of the weight of token `t` in token `l`'s output. -/
def logw (u : Fin 16) (h : Fin 8) (l t : Fin 128) : EReal :=
  if t.val < l.val then D.a u l ⟨h.val, by omega⟩ - D.r u ⟨h.val, by omega⟩ t
  else if l.val < t.val then D.a u l ⟨h.val + 8, by omega⟩ - D.r u ⟨h.val + 8, by omega⟩ t
  else D.s u h t

/-- What a chunk's own tokens contribute. -/
def inside (u : Fin 16) (l : Fin 128) (q : Fin 512) : EReal :=
  ∑ t : Fin 128, D.score u l t * Ideal.exp (D.logw u (hd q) l t) * D.x u t q

/-- The forward state before chunk `k`. -/
def stF : ℕ → Fin 128 → Fin 512 → EReal
  | 0 => fun _ _ => 0
  | k + 1 => fun n q => if h : k < 16 then
      stF k n q * D.eF ⟨k, h⟩ 127 (hd q) + ∑ l : Fin 128, D.b ⟨k, h⟩ l n * (D.x ⟨k, h⟩ l q * D.wF ⟨k, h⟩ l (hd q))
    else stF k n q

/-- The backward state that the last `k` chunks leave. -/
def stB : ℕ → Fin 128 → Fin 512 → EReal
  | 0 => fun _ _ => 0
  | k + 1 => fun n q => if h : k < 16 then
      stB k n q * D.eB (Fin.rev ⟨k, h⟩) 0 (hd q)
        + ∑ l : Fin 128, D.b (Fin.rev ⟨k, h⟩) l n * (D.x (Fin.rev ⟨k, h⟩) l q * D.wB (Fin.rev ⟨k, h⟩) l (hd q))
    else stB k n q

theorem stF_succ (k : Fin 16) (n : Fin 128) (q : Fin 512) : D.stF (k.val + 1) n q
    = D.stF k.val n q * D.eF k 127 (hd q) + ∑ l : Fin 128, D.b k l n * (D.x k l q * D.wF k l (hd q)) :=
  dif_pos k.isLt

theorem stB_succ (k : Fin 16) (n : Fin 128) (q : Fin 512) : D.stB (k.val + 1) n q
    = D.stB k.val n q * D.eB k.rev 0 (hd q) + ∑ l : Fin 128, D.b k.rev l n * (D.x k.rev l q * D.wB k.rev l (hd q)) :=
  dif_pos k.isLt

/-- What the chunks before contribute, -/
def before (u : Fin 16) (l : Fin 128) (q : Fin 512) : EReal :=
  (∑ n : Fin 128, D.c u l n * D.stF u.val n q) * D.eF u l (hd q)

/-- and the chunks after. -/
def behind (u : Fin 16) (l : Fin 128) (q : Fin 512) : EReal :=
  (∑ n : Fin 128, D.c u l n * D.stB u.rev.val n q) * D.eB u l (hd q)

/-- The scan's output. -/
def y (u : Fin 16) (l : Fin 128) (q : Fin 512) : EReal :=
  D.inside u l q + D.d (hd q) * D.x u l q + D.before u l q + D.behind u l q

/-- The output gated, -/
def v (u : Fin 16) (l : Fin 128) (q : Fin 512) : EReal := D.y u l q * D.z u l q

/-- and normalised over the group's channels. -/
def out (u : Fin 16) (l : Fin 128) (q : Fin 512) : EReal :=
  D.v u l q * Ideal.rsqrt (Ideal.div (∑ p : Fin 512, D.v u l p * D.v u l p) (Ideal.ofBits .f32 0x44000000#32)
    + Ideal.ofBits .f32 0x3727C5AC#32) * D.g q

end Data

end Cert.Ssm
end
-- ==== Proof.SsdEntries.lean ====
/-
  The scan kernel's chunk functions read at an index, over the extended reals.
-/
module

public import proofs.«01_k».proof.Proof.SsdChunk
public import proofs.«01_k».proof.Proof.SsdSpec
public import Idealize.ShloMosaic.Lib.Pipeline.Value
public import Idealize.ShloMosaic.Lib.Pipeline.ValueKit.Tiles

@[expose] public section

set_option maxRecDepth 16384

noncomputable section

namespace Cert.SsdIdeal.Chunk

open Cert.SsdIdeal Cert.SsdIdeal.Gen Idealize.ShloMosaic Idealize.ShloMosaic.TcCoe Cert.Ssm

/-! ## The stored values at an index -/

theorem pay2_at (s y : FVec Ideal S128x512 .f32) (c : Vec Ideal S1x128x128 .bf16) (e : FVec Ideal S128x512 .f32) (l : Fin 128) (q : Fin 512) :
    k0_pay2 s y c e (ix2 l q) = y (ix2 l q) + (∑ n : Fin 128, c (ix3 0 l n) * s (ix2 n q)) * e (ix2 l q) := by
  pointwise [k0_pay2]

theorem pay418_at (s y : FVec Ideal S128x512 .f32) (c : Vec Ideal S1x128x128 .bf16) (e : FVec Ideal S128x512 .f32) (l : Fin 128) (q : Fin 512) :
    k0_pay418 s y c e (ix2 l q) = y (ix2 l q) + (∑ n : Fin 128, c (ix3 0 l n) * s (ix2 n q)) * e (ix2 l q) := by
  pointwise [k0_pay418]

theorem pay3_at (s : FVec Ideal S128x512 .f32) (b : Vec Ideal S1x128x128 .bf16) (w : FVec Ideal S128x512 .bf16) (e : FVec Ideal S1x8x512 .f32)
    (n : Fin 128) (q : Fin 512) :
    k0_pay3 s b w e (ix2 n q) = s (ix2 n q) * e (ix3 0 0 q) + ∑ l : Fin 128, b (ix3 0 l n) * w (ix2 l q) := by
  pointwise [k0_pay3]

theorem pay419_at (s : FVec Ideal S128x512 .f32) (b : Vec Ideal S1x128x128 .bf16) (w : FVec Ideal S128x512 .bf16) (e : FVec Ideal S1x8x512 .f32)
    (n : Fin 128) (q : Fin 512) :
    k0_pay419 s b w e (ix2 n q) = s (ix2 n q) * e (ix3 0 0 q) + ∑ l : Fin 128, b (ix3 0 l n) * w (ix2 l q) := by
  pointwise [k0_pay419]

theorem pay416_at (n : Fin 128) (q : Fin 512) : k0_pay416 (F := Ideal) (ix2 n q) = 0 := by pointwise [k0_pay416]

theorem pay417_at (n : Fin 128) (q : Fin 512) : k0_pay417 (F := Ideal) (ix2 n q) = 0 := by pointwise [k0_pay417]

theorem pay8_at (b c : Vec Ideal S1x128x128 .bf16) (l t : Fin 128) :
    k0_pay8 b c (ix2 l t) = ∑ n : Fin 128, c (ix3 0 l n) * b (ix3 0 t n) := by
  pointwise [k0_pay8]

theorem pay22_at (x y : FVec Ideal S128x512 .f32) (d : Vec Ideal S1x512 .f32) (l : Fin 128) (q : Fin 512) :
    k0_pay22 x y d (ix2 l q) = y (ix2 l q) + d (ix2 0 q) * x (ix2 l q) := by
  pointwise [k0_pay22]

theorem pay23_at (f : Vec Ideal S1x1x128x128 .bf16) (e : Vec Ideal S128x2048 .bf16) (l : Fin 128) (q : Fin 2048) :
    k0_pay23 f e (ix2 l q) = ∑ k : Fin 128, f (ix4 0 0 l k) * e (ix2 k q) := by
  pointwise [k0_pay23]

theorem pay24_at (f : Vec Ideal S1x1x128x128 .bf16) (e : Vec Ideal S128x2048 .bf16) (l : Fin 128) (q : Fin 512) :
    k0_pay24 f e (ix2 l q) = k0_pay23 f e (ix2 l ⟨q.val, by omega⟩) := by
  pointwise [k0_pay24]

theorem pay25_at (x : FVec Ideal S128x512 .f32) (f : Vec Ideal S1x1x128x128 .bf16) (e : Vec Ideal S128x2048 .bf16) (l : Fin 128) (q : Fin 512) :
    k0_pay25 x f e (ix2 l q) = x (ix2 l q) * k0_pay23 f e (ix2 l ⟨512 + q.val, by omega⟩) := by
  pointwise [k0_pay25]

theorem pay26_at (f : Vec Ideal S1x1x128x128 .bf16) (e : Vec Ideal S128x2048 .bf16) (l : Fin 128) (q : Fin 512) :
    k0_pay26 f e (ix2 l q) = k0_pay23 f e (ix2 l ⟨1024 + q.val, by omega⟩) := by
  pointwise [k0_pay26]

theorem pay27_at (x : FVec Ideal S128x512 .f32) (f : Vec Ideal S1x1x128x128 .bf16) (e : Vec Ideal S128x2048 .bf16) (l : Fin 128) (q : Fin 512) :
    k0_pay27 x f e (ix2 l q) = x (ix2 l q) * k0_pay23 f e (ix2 l ⟨1536 + q.val, by omega⟩) := by
  pointwise [k0_pay27]

theorem pay29_at (f : Vec Ideal S1x1x128x128 .bf16) (e : Vec Ideal S128x2048 .bf16) (q : Fin 512) :
    k0_pay29 (k0_pay28 f e) (ix3 0 0 q) = k0_pay23 f e (ix2 127 ⟨q.val, by omega⟩) := by
  pointwise [k0_pay29, k0_pay28]

theorem pay30_at (f : FVec Ideal S128x2048 .f32) (q : Fin 512) :
    k0_pay30 f (ix3 0 0 q) = f (ix2 0 ⟨1024 + q.val, by omega⟩) := by
  pointwise [k0_pay30]

theorem pay420_at (y : FVec Ideal S256x512 .f32) (z : Vec Ideal S1x256x512 .bf16) (g : Vec Ideal S1x512 .f32) (l : Fin 256) (q : Fin 512) :
    k0_pay420 y z g (ix3 0 l q) = y (ix2 l q) * z (ix3 0 l q) *
        Ideal.rsqrt
          (Ideal.div (∑ x : Fin 512, y (ix2 l x) * z (ix3 0 l x) * (y (ix2 l x) * z (ix3 0 l x)))
              (Ideal.ofBits FTy.f32 0x44000000#32) + Ideal.ofBits FTy.f32 0x3727C5AC#32) * g (ix2 0 q) := by
  pointwise [k0_pay420]

/-! ## The chunk's own tokens -/

theorem slt_at : ∀ l t : Fin 128, IntOp.cmpi .slt (BitVec.ofNat 32 t.val) (BitVec.ofNat 32 l.val) = BitVec.ofBool (decide (t.val < l.val)) := by
  decide +kernel

theorem sgt_at : ∀ l t : Fin 128, IntOp.cmpi .sgt (BitVec.ofNat 32 t.val) (BitVec.ofNat 32 l.val) = BitVec.ofBool (decide (l.val < t.val)) := by
  decide +kernel

theorem lane_at : ∀ q : Fin 128, IntOp.cmpi .slt (BitVec.ofNat 32 q.val) 64#32 = BitVec.ofBool (decide (q.val < 64)) := by
  decide +kernel

theorem gap_at (a : FVec Ideal S128x128 .f32) (r : FVec Ideal S16x128 .f32) (h : Fin 16) (l t : Fin 128) :
    gap a r h (ix2 l t) = a (ix2 l ⟨h.val, by omega⟩) - r (ix2 h t) := by
  pointwise [gap]

theorem weights_at (s a : FVec Ideal S128x128 .f32) (r r' : FVec Ideal S16x128 .f32) (h : Fin 8) (l t : Fin 128) :
    weights s a r r' h (ix2 l t) = s (ix2 l t) * Ideal.exp
      (if t.val < l.val then a (ix2 l ⟨h.val, by omega⟩) - r (ix2 ⟨h.val, by omega⟩ t)
       else if l.val < t.val then a (ix2 l ⟨h.val + 8, by omega⟩) - r (ix2 ⟨h.val + 8, by omega⟩ t)
       else r' (ix2 ⟨h.val, by omega⟩ t)) := by
  pointwise [weights, k0_pay4, k0_pay5]
  rw [slt_at, sgt_at, Scalar.select_decide, Scalar.select_decide, gap_at, gap_at]

theorem pair_at (x : FVec Ideal S128x512 .bf16) (s a : FVec Ideal S128x128 .f32) (r r' : FVec Ideal S16x128 .f32) (j : Fin 4) (l q : Fin 128) :
    pairOut x s a r r' j (ix2 l q)
      = ∑ t : Fin 128, weights s a r r' ⟨2 * j.val + q.val / 64, by omega⟩ (ix2 l t) * x (ix2 t ⟨128 * j.val + q.val, by omega⟩) := by
  pointwise [pairOut, k0_pay6]
  simp only [lane_at, Scalar.select_decide]
  by_cases h : q.val < 64
  · have e : q.val / 64 = 0 := by omega
    simp only [if_pos h, Finset.sum_const_zero, add_zero, e]
  · have e : q.val / 64 = 1 := by omega
    simp only [if_neg h, Finset.sum_const_zero, zero_add, e]

theorem cat_at (p : Fin 4 → FVec Ideal S128x128 .f32) (l : Fin 128) (q : Fin 512) :
    concatenate S128x512 1 [⟨S128x128, p 0⟩, ⟨S128x128, p 1⟩, ⟨S128x128, p 2⟩, ⟨S128x128, p 3⟩]
      concatenates_S128x128_S128x128_S128x128_S128x128_S128x512_d1 (ix2 l q)
        = p ⟨q.val / 128, by omega⟩ (ix2 l ⟨q.val % 128, Nat.mod_lt _ (by decide)⟩) := by
  refine concatenate_ofFn_apply (t := S128x512) (s₁ := S128x128) 1 p _ rfl 128 rfl (ix2 l q) ⟨q.val / 128, by omega⟩ rfl _ rfl fun b hb => ?_
  match b with
  | ⟨0, _⟩ => rfl
  | ⟨1, _⟩ => exact absurd rfl hb

/-! ## The blocks at an index -/

/-- The blocks of a grid point hold the data `D`. -/
structure Reads (X : Blocks Ideal) (D : Data) : Prop where
  x : ∀ u l q, X.x0 (ix3 0 (tok u l) q) = D.x u l q
  b : ∀ u l n, X.x1 (ix3 0 (tok u l) n) = D.b u l n
  c : ∀ u l n, X.x2 (ix3 0 (tok u l) n) = D.c u l n
  z : ∀ u l q, X.x3 (ix3 0 (tok u l) q) = D.z u l q
  r : ∀ u j t, X.x4 (ix5 0 u 0 j t) = D.r u j t
  s : ∀ u (h : Fin 8) t, X.x4 (ix5 0 u 1 ⟨h.val, by omega⟩ t) = D.s u h t
  a : ∀ u l (j : Fin 16), X.x5 (ix4 0 0 (tok u l) ⟨j.val, by omega⟩) = D.a u l j
  eF : ∀ u l (q : Fin 512), ∑ k : Fin 128, X.x6 (ix4 0 0 (tok u l) k) * X.x7 (ix2 k ⟨q.val, by omega⟩) = D.eF u l (hd q)
  wF : ∀ u l (q : Fin 512), ∑ k : Fin 128, X.x6 (ix4 0 0 (tok u l) k) * X.x7 (ix2 k ⟨512 + q.val, by omega⟩) = D.wF u l (hd q)
  eB : ∀ u l (q : Fin 512), ∑ k : Fin 128, X.x6 (ix4 0 0 (tok u l) k) * X.x7 (ix2 k ⟨1024 + q.val, by omega⟩) = D.eB u l (hd q)
  wB : ∀ u l (q : Fin 512), ∑ k : Fin 128, X.x6 (ix4 0 0 (tok u l) k) * X.x7 (ix2 k ⟨1536 + q.val, by omega⟩) = D.wB u l (hd q)
  d : ∀ q, X.x8 (ix2 0 q) = D.d (hd q)
  g : ∀ q, X.x9 (ix2 0 q) = D.g q

section Loads
variable (X : Blocks Ideal) (u : Fin 16)

theorem x_at (l : Fin 128) (q : Fin 512) : X.x u (ix3 0 l q) = X.x0 (ix3 0 (tok u l) q) :=
  View.ld_unit_apply_of _ _ _ _ _ _ fun a => by
    match a with
    | ⟨0, _⟩ => rfl
    | ⟨1, _⟩ => rfl
    | ⟨2, _⟩ => exact (Nat.zero_add _).symm

theorem b_at (l n : Fin 128) : X.b u (ix3 0 l n) = X.x1 (ix3 0 (tok u l) n) :=
  View.ld_unit_apply_of _ _ _ _ _ _ fun a => by
    match a with
    | ⟨0, _⟩ => rfl
    | ⟨1, _⟩ => rfl
    | ⟨2, _⟩ => exact (Nat.zero_add _).symm

theorem c_at (l n : Fin 128) : X.c u (ix3 0 l n) = X.x2 (ix3 0 (tok u l) n) :=
  View.ld_unit_apply_of _ _ _ _ _ _ fun a => by
    match a with
    | ⟨0, _⟩ => rfl
    | ⟨1, _⟩ => rfl
    | ⟨2, _⟩ => exact (Nat.zero_add _).symm

theorem r_at (d : Fin 2) (j : Fin 16) (t : Fin 128) : X.r u d (ix5 0 0 0 j t) = X.x4 (ix5 0 u d j t) :=
  View.ld_unit_apply_of _ _ _ _ _ _ fun a => by
    match a with
    | ⟨0, _⟩ => rfl
    | ⟨1, _⟩ => rfl
    | ⟨2, _⟩ => rfl
    | ⟨3, _⟩ => exact (Nat.zero_add _).symm
    | ⟨4, _⟩ => exact (Nat.zero_add _).symm

theorem a_at (l k : Fin 128) : X.a u (ix4 0 0 l k) = X.x5 (ix4 0 0 (tok u l) k) :=
  View.ld_unit_apply_of _ _ _ _ _ _ fun a => by
    match a with
    | ⟨0, _⟩ => rfl
    | ⟨1, _⟩ => rfl
    | ⟨2, _⟩ => rfl
    | ⟨3, _⟩ => exact (Nat.zero_add _).symm

theorem f_at (l k : Fin 128) : X.f u (ix4 0 0 l k) = X.x6 (ix4 0 0 (tok u l) k) :=
  View.ld_unit_apply_of _ _ _ _ _ _ fun a => by
    match a with
    | ⟨0, _⟩ => rfl
    | ⟨1, _⟩ => rfl
    | ⟨2, _⟩ => rfl
    | ⟨3, _⟩ => exact (Nat.zero_add _).symm

theorem e_at (k : Fin 128) (q : Fin 2048) : X.e (ix2 k q) = X.x7 (ix2 k q) :=
  View.ld_unit_apply_of _ _ _ _ _ _ fun a => by
    match a with
    | ⟨0, _⟩ => exact (Nat.zero_add _).symm
    | ⟨1, _⟩ => exact (Nat.zero_add _).symm

theorem d_at (q : Fin 512) : X.d (ix2 0 q) = X.x8 (ix2 0 q) :=
  View.ld_unit_apply_of _ _ _ _ _ _ fun a => by
    match a with
    | ⟨0, _⟩ => rfl
    | ⟨1, _⟩ => exact (Nat.zero_add _).symm

theorem g_at (q : Fin 512) : X.g (ix2 0 q) = X.x9 (ix2 0 q) :=
  View.ld_unit_apply_of _ _ _ _ _ _ fun a => by
    match a with
    | ⟨0, _⟩ => rfl
    | ⟨1, _⟩ => exact (Nat.zero_add _).symm

end Loads

/-! ## The chunk functions on the data -/

section Chunks
variable {X : Blocks Ideal} {D : Data} (H : Reads X D) (u : Fin 16)
include H

theorem fac_at (l : Fin 128) (q : Fin 2048) : k0_pay23 (X.f u) X.e (ix2 l q)
    = ∑ k : Fin 128, X.x6 (ix4 0 0 (tok u l) k) * X.x7 (ix2 k q) := by
  rw [pay23_at]
  exact Finset.sum_congr rfl fun k _ => by rw [f_at, e_at]

theorem outF_at (l : Fin 128) (q : Fin 512) : X.outF u (ix2 l q) = D.eF u l (hd q) := by
  unfold Blocks.outF
  rw [pay24_at, fac_at H, H.eF]

theorem outB_at (l : Fin 128) (q : Fin 512) : X.outB u (ix2 l q) = D.eB u l (hd q) := by
  unfold Blocks.outB
  rw [pay26_at, fac_at H, H.eB]

theorem input_at (l : Fin 128) (q : Fin 512) : k0_pay20 (k0_pay7 (X.x u)) (ix2 l q) = D.x u l q := by
  have : k0_pay20 (k0_pay7 (X.x u)) (ix2 l q) = X.x u (ix3 0 l q) := by pointwise [k0_pay20, k0_pay7]
  rw [this, x_at, H.x]

theorem inF_at (l : Fin 128) (q : Fin 512) : X.inF u (ix2 l q) = D.x u l q * D.wF u l (hd q) := by
  unfold Blocks.inF
  rw [pay25_at, fac_at H, H.wF, input_at H]

theorem inB_at (l : Fin 128) (q : Fin 512) : X.inB u (ix2 l q) = D.x u l q * D.wB u l (hd q) := by
  unfold Blocks.inB
  rw [pay27_at, fac_at H, H.wB, input_at H]

theorem endF_at (q : Fin 512) : X.endF u (ix3 0 0 q) = D.eF u 127 (hd q) := by
  unfold Blocks.endF
  rw [pay29_at, fac_at H, H.eF]

theorem endB_at (q : Fin 512) : X.endB u (ix3 0 0 q) = D.eB u 0 (hd q) := by
  unfold Blocks.endB
  rw [pay30_at, fac_at H, H.eB]

theorem score_at (l t : Fin 128) : k0_pay8 (X.b u) (X.c u) (ix2 l t) = D.score u l t := by
  rw [pay8_at]
  exact Finset.sum_congr rfl fun n _ => by rw [c_at, b_at, H.c, H.b]

theorem decay_at (l : Fin 128) (j : Fin 16) : k0_pay11 (X.a u) (ix2 l ⟨j.val, by omega⟩) = D.a u l j := by
  have (k : Fin 128) : k0_pay11 (X.a u) (ix2 l k) = X.a u (ix4 0 0 l k) := by pointwise [k0_pay11]
  rw [this, a_at, H.a]

theorem less_at (j : Fin 16) (t : Fin 128) : k0_pay9 (X.r u 0) (ix2 j t) = D.r u j t := by
  have : k0_pay9 (X.r u 0) (ix2 j t) = X.r u 0 (ix5 0 0 0 j t) := by pointwise [k0_pay9]
  rw [this, r_at, H.r]

theorem both_at (h : Fin 8) (t : Fin 128) : k0_pay10 (X.r u 1) (ix2 ⟨h.val, by omega⟩ t) = D.s u h t := by
  have (j : Fin 16) : k0_pay10 (X.r u 1) (ix2 j t) = X.r u 1 (ix5 0 0 0 j t) := by pointwise [k0_pay10]
  rw [this, r_at, H.s]

/-- The weights are those of the data. -/
theorem weight_at (h : Fin 8) (l t : Fin 128) :
    weights (k0_pay8 (X.b u) (X.c u)) (k0_pay11 (X.a u)) (k0_pay9 (X.r u 0)) (k0_pay10 (X.r u 1)) h (ix2 l t)
      = D.score u l t * Ideal.exp (D.logw u h l t) := by
  rw [weights_at, score_at H, both_at H u h, less_at H, less_at H,
    decay_at H u l ⟨h.val, by omega⟩, decay_at H u l ⟨h.val + 8, by omega⟩]
  rfl

theorem innerAt_at (l : Fin 128) (q : Fin 512) : X.innerAt u (ix2 l q) = D.inside u l q + D.d (hd q) * D.x u l q := by
  unfold Blocks.innerAt inner
  rw [pay22_at, input_at H, d_at, H.d]
  refine congrArg (· + _) ?_
  rw [cat_at (fun j => pairOut (k0_pay7 (X.x u)) (k0_pay8 (X.b u) (X.c u)) (k0_pay11 (X.a u)) (k0_pay9 (X.r u 0)) (k0_pay10 (X.r u 1)) j), pair_at]
  refine Finset.sum_congr rfl fun t _ => ?_
  rw [weight_at H]
  have e1 : (⟨2 * (q.val / 128) + q.val % 128 / 64, by omega⟩ : Fin 8) = hd q := Fin.ext (by show 2 * (q.val / 128) + q.val % 128 / 64 = q.val / 64; omega)
  have e2 : (⟨128 * (q.val / 128) + q.val % 128, by omega⟩ : Fin 512) = q := Fin.ext (by show 128 * (q.val / 128) + q.val % 128 = q.val; omega)
  have e3 (q' : Fin 512) : k0_pay7 (X.x u) (ix2 t q') = X.x u (ix3 0 t q') := by pointwise [k0_pay7]
  dsimp only
  rw [e1, e2, e3, x_at, H.x]

end Chunks

end Cert.SsdIdeal.Chunk
end
-- ==== Proof.SsdRun.lean ====
/-
  The scan kernel's body at one grid point, as memory: what its scratch buffers hold after the first pass and after each
  trip of the loop over the chunks, and what it leaves in the output block, all in terms of the functions of SsdChunk.
-/
module

public import proofs.«01_k».proof.Proof.SsdChunk
public import Idealize.ShloMosaic.Lib.WritesUnit
public import Idealize.ShloMosaic.Lib.Pipeline.ValueKit.Tiles

@[expose] public section

set_option maxRecDepth 16384

noncomputable section

namespace Cert.SsdIdeal.Chunk

open Cert.SsdIdeal Cert.SsdIdeal.Gen Idealize.ShloMosaic Idealize.ShloMosaic.TcCoe

variable {F : FTy → Type} [FloatOps F]

/-- The buffers of a grid point: ten inputs, the output, and the nine scratch buffers. -/
structure Refs where
  arg2 : Memref sig .tc .vmem S1x2048x512 .bf16
  harg2 : arg2.IsWhole
  arg3 : Memref sig .tc .vmem S1x2048x128 .bf16
  harg3 : arg3.IsWhole
  arg4 : Memref sig .tc .vmem S1x2048x128 .bf16
  harg4 : arg4.IsWhole
  arg5 : Memref sig .tc .vmem S1x2048x512 .bf16
  harg5 : arg5.IsWhole
  arg6 : Memref sig .tc .vmem S1x16x2x16x128 .f32
  harg6 : arg6.IsWhole
  arg7 : Memref sig .tc .vmem S1x1x2048x128 .f32
  harg7 : arg7.IsWhole
  arg8 : Memref sig .tc .vmem S1x1x2048x128 .bf16
  harg8 : arg8.IsWhole
  arg9 : Memref sig .tc .vmem S128x2048 .bf16
  harg9 : arg9.IsWhole
  arg10 : Memref sig .tc .vmem S1x512 .f32
  harg10 : arg10.IsWhole
  arg11 : Memref sig .tc .vmem S1x512 .f32
  harg11 : arg11.IsWhole
  arg12 : Memref sig .tc .vmem S1x2048x512 .bf16
  harg12 : arg12.IsWhole
  arg13 : Memref sig .tc .vmem S2048x512 .f32
  harg13 : arg13.IsWhole
  arg14 : Memref sig .tc .vmem S2048x512 .bf16
  harg14 : arg14.IsWhole
  arg15 : Memref sig .tc .vmem S2048x512 .bf16
  harg15 : arg15.IsWhole
  arg16 : Memref sig .tc .vmem S2048x512 .f32
  harg16 : arg16.IsWhole
  arg17 : Memref sig .tc .vmem S2048x512 .f32
  harg17 : arg17.IsWhole
  arg18 : Memref sig .tc .vmem S16x8x512 .f32
  harg18 : arg18.IsWhole
  arg19 : Memref sig .tc .vmem S16x8x512 .f32
  harg19 : arg19.IsWhole
  arg20 : Memref sig .tc .vmem S128x512 .f32
  harg20 : arg20.IsWhole
  arg21 : Memref sig .tc .vmem S128x512 .f32
  harg21 : arg21.IsWhole

/-! ## Chunks of a buffer -/

/-- Chunk `u` (rows `128 u` to `128 u + 127`) of a buffer of 2048 rows. -/
def rows {α : Type} (Y : S2048x512.Idx → α) (u : Fin 16) : S128x512.Idx → α := fun i =>
  Y (ValueIdx.ix2 (n0 := 2048) (n1 := 512) ⟨128 * u.val + (i 0).val, by have : (i 0).val < 128 := (i 0).isLt; omega⟩ (i 1))

/-- Slot `u` of a buffer of 16 slots. -/
def slot {α : Type} (Y : S16x8x512.Idx → α) (u : Fin 16) : S1x8x512.Idx → α := fun i =>
  Y (ValueIdx.ix3 (n0 := 16) (n1 := 8) (n2 := 512) u (i 1) (i 2))

theorem ld_rows {e : EltTy} (Y : S2048x512.Idx → Elt F e) {off : Fin 2 → ℕ} (u : Fin 16) (h : off = ![128 * u.val, 0])
    (inb : ∀ a, off a + S128x512.size a ≤ S2048x512.size a) :
    View.ld Y (Rect.unit (s := S2048x512) off S128x512.size inb) = rows Y u := by
  subst h
  funext i
  refine View.ld_unit_apply_of Y _ _ _ i _ fun a => ?_
  match a with
  | ⟨0, _⟩ => rfl
  | ⟨1, _⟩ => exact (Nat.zero_add _).symm

theorem ld_slot {e : EltTy} (Y : S16x8x512.Idx → Elt F e) {off : Fin 3 → ℕ} (u : Fin 16) (h : off = ![u.val, 0, 0])
    (inb : ∀ a, off a + S1x8x512.size a ≤ S16x8x512.size a) :
    View.ld Y (Rect.unit (s := S16x8x512) off S1x8x512.size inb) = slot Y u := by
  subst h
  funext i
  refine View.ld_unit_apply_of Y _ _ _ i _ fun a => ?_
  match a with
  | ⟨0, _⟩ => have : (i 0).val < 1 := (i 0).isLt
              show u.val = u.val + (i 0).val; omega
  | ⟨1, _⟩ => exact (Nat.zero_add _).symm
  | ⟨2, _⟩ => exact (Nat.zero_add _).symm

section Writes
variable {sig' : RefSig} {κ : Kind} {sp : Space} {e : EltTy}

/-- A store of whole rows, read back by chunks. -/
theorem rows_writes_cons (v : View sig' κ sp S2048x512 e) (f : v.ty.Contents (Elt F)) {off : Fin 2 → ℕ} (k : Fin 16)
    (h : off = ![128 * k.val, 0]) (inb : ∀ a, off a + S128x512.size a ≤ S2048x512.size a)
    (w : S128x512.Idx → Elt F e) (L : List (View.Piece (Elt F) S2048x512 e)) :
    rows (v.read (Elt F) (v.writes (Elt F) f (⟨Rect.unit (s := S2048x512) off S128x512.size inb, w⟩ :: L)))
      = Function.update (rows (v.read (Elt F) (v.writes (Elt F) f L))) k w := by
  funext u i
  have hi : (i 0).val < 128 := (i 0).isLt
  by_cases huk : u = k
  · subst huk
    rw [Function.update_self]
    refine View.read_writes_cons_rows_of_mem v f inb w L _ i h rfl rfl
  · rw [Function.update_of_ne huk]
    refine View.read_writes_cons_rows_of_not_mem v f (W := 128) inb w L _ h rfl ?_
    have : u.val ≠ k.val := fun h => huk (Fin.ext h)
    show 128 * u.val + (i 0).val < 128 * k.val ∨ 128 * k.val + 128 ≤ 128 * u.val + (i 0).val
    omega

/-- Sixteen stores of whole rows, one per chunk, read back by chunks. -/
theorem rows_writes_all (v : View sig' κ sp S2048x512 e) (f : v.ty.Contents (Elt F)) (P : Fin 16 → S128x512.Idx → Elt F e) :
    rows (v.read (Elt F) (v.writes (Elt F) f (List.ofFn fun k : Fin 16 =>
      (⟨Rect.unit (s := S2048x512) ![128 * k.rev.val, 0] S128x512.size (inb_rows k.rev), P k.rev⟩ : View.Piece (Elt F) S2048x512 e)))) = P := by
  funext u i
  refine (View.read_writes_apply_of_pieces v f (fun y : S2048x512.Idx => P ⟨(y 0).val / 128, by have : (y 0).val < 2048 := (y 0).isLt; omega⟩
    (ValueIdx.ix2 (n0 := 128) (n1 := 512) ⟨(y 0).val % 128, Nat.mod_lt _ (by decide)⟩ (y 1))) _ ?_ _ ?_).trans ?_
  · intro p hp x
    obtain ⟨k, rfl⟩ := List.mem_ofFn.mp hp
    have hx : (x 0).val < 128 := (x 0).isLt
    have e0 : (((Rect.unit (s := S2048x512) ![128 * k.rev.val, 0] S128x512.size (inb_rows k.rev)).emb x) 0).val = 128 * k.rev.val + 1 * (x 0).val := rfl
    have e1 : (((Rect.unit (s := S2048x512) ![128 * k.rev.val, 0] S128x512.size (inb_rows k.rev)).emb x) 1).val = 0 + 1 * (x 1).val := rfl
    show P k.rev x = P _ _
    congr 1
    · exact Fin.ext (by dsimp only; simp only [e0]; omega)
    · funext a
      match a with
      | ⟨0, _⟩ => exact Fin.ext (by show (x 0).val = _ % 128; simp only [e0]; omega)
      | ⟨1, _⟩ => exact Fin.ext (by show (x 1).val = _; rw [e1]; omega)
  · have hi : (i 0).val < 128 := (i 0).isLt
    refine ⟨_, List.mem_ofFn.mpr ⟨u.rev, rfl⟩, (Rect.mem_set_unit (inb := inb_rows u.rev.rev)).mpr fun a => ?_⟩
    rw [Fin.rev_rev]
    match a with
    | ⟨0, _⟩ => show 128 * u.val ≤ 128 * u.val + (i 0).val ∧ 128 * u.val + (i 0).val < 128 * u.val + 128; omega
    | ⟨1, _⟩ => have : (i 1).val < 512 := (i 1).isLt
                show 0 ≤ (i 1).val ∧ (i 1).val < 0 + 512; omega
  · have hi : (i 0).val < 128 := (i 0).isLt
    show P _ _ = P u i
    congr 1
    · exact Fin.ext (by show (128 * u.val + (i 0).val) / 128 = u.val; omega)
    · funext a
      match a with
      | ⟨0, _⟩ => exact Fin.ext (by show (128 * u.val + (i 0).val) % 128 = (i 0).val; omega)
      | ⟨1, _⟩ => rfl

/-- Sixteen stores, one per slot, read back by slots. -/
theorem slot_writes_all (v : View sig' κ sp S16x8x512 e) (f : v.ty.Contents (Elt F)) (P : Fin 16 → S1x8x512.Idx → Elt F e) :
    slot (v.read (Elt F) (v.writes (Elt F) f (List.ofFn fun k : Fin 16 =>
      (⟨Rect.unit (s := S16x8x512) ![k.rev.val, 0, 0] S1x8x512.size (inb_e k.rev), P k.rev⟩ : View.Piece (Elt F) S16x8x512 e)))) = P := by
  funext u i
  refine (View.read_writes_apply_of_pieces v f (fun y : S16x8x512.Idx => P (y 0)
    (ValueIdx.ix3 (n0 := 1) (n1 := 8) (n2 := 512) 0 (y 1) (y 2))) _ ?_ _ ?_).trans ?_
  · intro p hp x
    obtain ⟨k, rfl⟩ := List.mem_ofFn.mp hp
    have hx : (x 0).val < 1 := (x 0).isLt
    have e0 : (((Rect.unit (s := S16x8x512) ![k.rev.val, 0, 0] S1x8x512.size (inb_e k.rev)).emb x) 0).val = k.rev.val + 1 * (x 0).val := rfl
    have e1 : (((Rect.unit (s := S16x8x512) ![k.rev.val, 0, 0] S1x8x512.size (inb_e k.rev)).emb x) 1).val = 0 + 1 * (x 1).val := rfl
    have e2 : (((Rect.unit (s := S16x8x512) ![k.rev.val, 0, 0] S1x8x512.size (inb_e k.rev)).emb x) 2).val = 0 + 1 * (x 2).val := rfl
    show P k.rev x = P _ _
    congr 1
    · exact Fin.ext (by dsimp only; simp only [e0]; omega)
    · funext a
      match a with
      | ⟨0, _⟩ => exact Fin.ext (by show (x 0).val = 0; omega)
      | ⟨1, _⟩ => exact Fin.ext (by show (x 1).val = _; rw [e1]; omega)
      | ⟨2, _⟩ => exact Fin.ext (by show (x 2).val = _; rw [e2]; omega)
  · refine ⟨_, List.mem_ofFn.mpr ⟨u.rev, rfl⟩, (Rect.mem_set_unit (inb := inb_e u.rev.rev)).mpr fun a => ?_⟩
    rw [Fin.rev_rev]
    match a with
    | ⟨0, _⟩ => show u.val ≤ u.val ∧ u.val < u.val + 1; omega
    | ⟨1, _⟩ => have : (i 1).val < 8 := (i 1).isLt
                show 0 ≤ (i 1).val ∧ (i 1).val < 0 + 8; omega
    | ⟨2, _⟩ => have : (i 2).val < 512 := (i 2).isLt
                show 0 ≤ (i 2).val ∧ (i 2).val < 0 + 512; omega
  · have hi : (i 0).val < 1 := (i 0).isLt
    show P u _ = P u i
    congr 1
    funext a
    match a with
    | ⟨0, _⟩ => exact Fin.ext (by show 0 = (i 0).val; omega)
    | ⟨1, _⟩ => rfl
    | ⟨2, _⟩ => rfl

end Writes

/-! ## The body -/

variable (t : Dev nD) (i : grid0.Coords) (R : Refs) (X : Blocks F)

/-- The stores of one chunk buffer in the first pass, last chunk first. -/
def chunkPieces {e : EltTy} (P : Fin 16 → S128x512.Idx → Elt F e) : List (View.Piece (Elt F) S2048x512 e) :=
  List.ofFn fun k : Fin 16 => ⟨Rect.unit (s := S2048x512) ![128 * k.rev.val, 0] S128x512.size (inb_rows k.rev), P k.rev⟩

/-- The stores of one slot buffer in the first pass. -/
def slotPieces {e : EltTy} (P : Fin 16 → S1x8x512.Idx → Elt F e) : List (View.Piece (Elt F) S16x8x512 e) :=
  List.ofFn fun k : Fin 16 => ⟨Rect.unit (s := S16x8x512) ![k.rev.val, 0, 0] S1x8x512.size (inb_e k.rev), P k.rev⟩

/-- The store of a whole state. -/
def statePieces (w : FVec F S128x512 .f32) : List (View.Piece (Elt F) S128x512 .f32) :=
  [⟨Rect.unit (s := S128x512) ![0, 0] S128x512.size inb_S128x512_S128x512_0_0, w⟩]

/-- The stores of the loop's first `n` trips into the output scratch and the two states, over what the first pass
    left. -/
def loopPieces (n : ℕ) : List (View.Piece (Elt F) S2048x512 .f32) × List (View.Piece (Elt F) S128x512 .f32) × List (View.Piece (Elt F) S128x512 .f32) :=
  pb_k0_t1 Variants.none t none i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21
    (R.harg3.unread X.x1) (R.harg4.unread X.x2)
    (R.arg14.view.writes (Elt F) R.arg14.view.junk (chunkPieces X.inF))
    (R.arg15.view.writes (Elt F) R.arg15.view.junk (chunkPieces X.inB))
    (R.arg16.view.writes (Elt F) R.arg16.view.junk (chunkPieces X.outF))
    (R.arg17.view.writes (Elt F) R.arg17.view.junk (chunkPieces X.outB))
    (R.arg18.view.writes (Elt F) R.arg18.view.junk (slotPieces X.endF))
    (R.arg19.view.writes (Elt F) R.arg19.view.junk (slotPieces X.endB))
    (R.arg13.view.writes (Elt F) R.arg13.view.junk (chunkPieces X.innerAt))
    (R.arg20.view.writes (Elt F) R.arg20.view.junk (statePieces k0_pay416))
    (R.arg21.view.writes (Elt F) R.arg21.view.junk (statePieces k0_pay417)) n

/-! The first pass's stores, as the generated run names them. -/

theorem HS0_16_eq : kernelRun0_A.sl.HS0_16 t R.arg2 R.harg2 R.arg3 R.harg3 R.arg4 R.harg4 R.arg6 R.harg6 R.arg7 R.harg7 R.arg10 R.harg10 X.x0 X.x1 X.x2 X.x4 X.x5 X.x8 = chunkPieces X.innerAt := by
  refine Eq.trans (b := chunkPieces fun u : Fin 16 => inner (View.readAt (Elt F) R.arg2.view (Rect.unit (s := S1x2048x512) ![0, 128 * u.val, 0] S1x128x512.size (inb_x u)).toLoadRect (R.harg2.unread X.x0))
      (View.readAt (Elt F) R.arg3.view (Rect.unit (s := S1x2048x128) ![0, 128 * u.val, 0] S1x128x128.size (inb_bc u)).toLoadRect (R.harg3.unread X.x1))
      (View.readAt (Elt F) R.arg4.view (Rect.unit (s := S1x2048x128) ![0, 128 * u.val, 0] S1x128x128.size (inb_bc u)).toLoadRect (R.harg4.unread X.x2))
      (View.readAt (Elt F) R.arg6.view (Rect.unit (s := S1x16x2x16x128) ![0, u.val, 0, 0, 0] S1x1x1x16x128.size (inb_r u 0)).toLoadRect (R.harg6.unread X.x4))
      (View.readAt (Elt F) R.arg6.view (Rect.unit (s := S1x16x2x16x128) ![0, u.val, 1, 0, 0] S1x1x1x16x128.size (inb_r u 1)).toLoadRect (R.harg6.unread X.x4))
      (View.readAt (Elt F) R.arg7.view (Rect.unit (s := S1x1x2048x128) ![0, 0, 128 * u.val, 0] S1x1x128x128.size (inb_a u)).toLoadRect (R.harg7.unread X.x5))
      (View.readAt (Elt F) R.arg10.view (Rect.unit (s := S1x512) ![0, 0] S1x512.size inb_S1x512_S1x512_0_0).toLoadRect (R.harg10.unread X.x8))) rfl ?_
  simp only [View.readAt_eq_ld, R.harg2.read_unread, R.harg3.read_unread, R.harg4.read_unread, R.harg6.read_unread, R.harg7.read_unread, R.harg10.read_unread]
  rfl

theorem HS1_16_eq : kernelRun0_A.sl.HS1_16 t R.arg2 R.harg2 R.arg8 R.harg8 R.arg9 R.harg9 X.x0 X.x6 X.x7 = chunkPieces X.inF := by
  refine Eq.trans (b := chunkPieces fun u : Fin 16 => k0_pay25 (k0_pay20 (k0_pay7 (View.readAt (Elt F) R.arg2.view (Rect.unit (s := S1x2048x512) ![0, 128 * u.val, 0] S1x128x512.size (inb_x u)).toLoadRect (R.harg2.unread X.x0))))
      (View.readAt (Elt F) R.arg8.view (Rect.unit (s := S1x1x2048x128) ![0, 0, 128 * u.val, 0] S1x1x128x128.size (inb_a u)).toLoadRect (R.harg8.unread X.x6))
      (View.readAt (Elt F) R.arg9.view (Rect.unit (s := S128x2048) ![0, 0] S128x2048.size inb_S128x2048_S128x2048_0_0).toLoadRect (R.harg9.unread X.x7))) rfl ?_
  simp only [View.readAt_eq_ld, R.harg2.read_unread, R.harg8.read_unread, R.harg9.read_unread]
  rfl

theorem HS2_16_eq : kernelRun0_A.sl.HS2_16 t R.arg2 R.harg2 R.arg8 R.harg8 R.arg9 R.harg9 X.x0 X.x6 X.x7 = chunkPieces X.inB := by
  refine Eq.trans (b := chunkPieces fun u : Fin 16 => k0_pay27 (k0_pay20 (k0_pay7 (View.readAt (Elt F) R.arg2.view (Rect.unit (s := S1x2048x512) ![0, 128 * u.val, 0] S1x128x512.size (inb_x u)).toLoadRect (R.harg2.unread X.x0))))
      (View.readAt (Elt F) R.arg8.view (Rect.unit (s := S1x1x2048x128) ![0, 0, 128 * u.val, 0] S1x1x128x128.size (inb_a u)).toLoadRect (R.harg8.unread X.x6))
      (View.readAt (Elt F) R.arg9.view (Rect.unit (s := S128x2048) ![0, 0] S128x2048.size inb_S128x2048_S128x2048_0_0).toLoadRect (R.harg9.unread X.x7))) rfl ?_
  simp only [View.readAt_eq_ld, R.harg2.read_unread, R.harg8.read_unread, R.harg9.read_unread]
  rfl

theorem HS3_16_eq : kernelRun0_A.sl.HS3_16 t R.arg8 R.harg8 R.arg9 R.harg9 X.x6 X.x7 = chunkPieces X.outF := by
  refine Eq.trans (b := chunkPieces fun u : Fin 16 => k0_pay24 (View.readAt (Elt F) R.arg8.view (Rect.unit (s := S1x1x2048x128) ![0, 0, 128 * u.val, 0] S1x1x128x128.size (inb_a u)).toLoadRect (R.harg8.unread X.x6))
      (View.readAt (Elt F) R.arg9.view (Rect.unit (s := S128x2048) ![0, 0] S128x2048.size inb_S128x2048_S128x2048_0_0).toLoadRect (R.harg9.unread X.x7))) rfl ?_
  simp only [View.readAt_eq_ld, R.harg8.read_unread, R.harg9.read_unread]
  rfl

theorem HS4_16_eq : kernelRun0_A.sl.HS4_16 t R.arg8 R.harg8 R.arg9 R.harg9 X.x6 X.x7 = chunkPieces X.outB := by
  refine Eq.trans (b := chunkPieces fun u : Fin 16 => k0_pay26 (View.readAt (Elt F) R.arg8.view (Rect.unit (s := S1x1x2048x128) ![0, 0, 128 * u.val, 0] S1x1x128x128.size (inb_a u)).toLoadRect (R.harg8.unread X.x6))
      (View.readAt (Elt F) R.arg9.view (Rect.unit (s := S128x2048) ![0, 0] S128x2048.size inb_S128x2048_S128x2048_0_0).toLoadRect (R.harg9.unread X.x7))) rfl ?_
  simp only [View.readAt_eq_ld, R.harg8.read_unread, R.harg9.read_unread]
  rfl

theorem HS5_16_eq : kernelRun0_A.sl.HS5_16 t R.arg8 R.harg8 R.arg9 R.harg9 X.x6 X.x7 = slotPieces X.endF := by
  refine Eq.trans (b := slotPieces fun u : Fin 16 => k0_pay29 (k0_pay28 (View.readAt (Elt F) R.arg8.view (Rect.unit (s := S1x1x2048x128) ![0, 0, 128 * u.val, 0] S1x1x128x128.size (inb_a u)).toLoadRect (R.harg8.unread X.x6))
      (View.readAt (Elt F) R.arg9.view (Rect.unit (s := S128x2048) ![0, 0] S128x2048.size inb_S128x2048_S128x2048_0_0).toLoadRect (R.harg9.unread X.x7)))) rfl ?_
  simp only [View.readAt_eq_ld, R.harg8.read_unread, R.harg9.read_unread]
  rfl

theorem HS6_16_eq : kernelRun0_A.sl.HS6_16 t R.arg8 R.harg8 R.arg9 R.harg9 X.x6 X.x7 = slotPieces X.endB := by
  refine Eq.trans (b := slotPieces fun u : Fin 16 => k0_pay30 (k0_pay23 (View.readAt (Elt F) R.arg8.view (Rect.unit (s := S1x1x2048x128) ![0, 0, 128 * u.val, 0] S1x1x128x128.size (inb_a u)).toLoadRect (R.harg8.unread X.x6))
      (View.readAt (Elt F) R.arg9.view (Rect.unit (s := S128x2048) ![0, 0] S128x2048.size inb_S128x2048_S128x2048_0_0).toLoadRect (R.harg9.unread X.x7)))) rfl ?_
  simp only [View.readAt_eq_ld, R.harg8.read_unread, R.harg9.read_unread]
  rfl

/-- What the output scratch holds after `n` trips, -/
def held (n : ℕ) : BufTy.Contents (Elt F) R.arg13.view.ty :=
  R.arg13.view.writes (Elt F) (R.arg13.view.writes (Elt F) R.arg13.view.junk (chunkPieces X.innerAt)) (loopPieces t i R X n).1

/-- the forward state, -/
def heldF (n : ℕ) : BufTy.Contents (Elt F) R.arg20.view.ty :=
  R.arg20.view.writes (Elt F) (R.arg20.view.writes (Elt F) R.arg20.view.junk (statePieces k0_pay416)) (loopPieces t i R X n).2.1

/-- and the backward state. -/
def heldB (n : ℕ) : BufTy.Contents (Elt F) R.arg21.view.ty :=
  R.arg21.view.writes (Elt F) (R.arg21.view.writes (Elt F) R.arg21.view.junk (statePieces k0_pay417)) (loopPieces t i R X n).2.2

/-- The stores of the whole body into the output block: eight blocks of rows, each from the output scratch after the
    loop. -/
theorem run_pieces :
    (kernelRun0_A t i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 X.x0 X.x1 X.x2 X.x3 X.x4 X.x5 X.x6 X.x7 X.x8 X.x9).1
      = List.ofFn fun k : Fin 8 => (⟨Rect.unit (s := S1x2048x512) ![0, 256 * k.rev.val, 0] S1x256x512.size (inb_z k.rev),
          k0_pay420 (View.ld (R.arg13.view.read (Elt F) (held t i R X 16)) (Rect.unit (s := S2048x512) ![256 * k.rev.val, 0] S256x512.size (inb_y k.rev)))
            (X.z k.rev) X.g⟩ : View.Piece (Elt F) S1x2048x512 .bf16) := by
  unfold kernelRun0_A
  refine Eq.trans (b := List.ofFn fun k : Fin 8 => (⟨Rect.unit (s := S1x2048x512) ![0, 256 * k.rev.val, 0] S1x256x512.size (inb_z k.rev),
      k0_pay420 (View.readAt (Elt F) R.arg13.view (Rect.unit (s := S2048x512) ![256 * k.rev.val, 0] S256x512.size (inb_y k.rev)).toLoadRect
        (R.arg13.view.writes (Elt F) R.arg13.view.junk ((pb_k0_t1 Variants.none t none i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21
        (R.harg3.unread X.x1) (R.harg4.unread X.x2)
        (R.arg14.view.writes (Elt F) R.arg14.view.junk (kernelRun0_A.sl.HS1_16 t R.arg2 R.harg2 R.arg8 R.harg8 R.arg9 R.harg9 X.x0 X.x6 X.x7))
        (R.arg15.view.writes (Elt F) R.arg15.view.junk (kernelRun0_A.sl.HS2_16 t R.arg2 R.harg2 R.arg8 R.harg8 R.arg9 R.harg9 X.x0 X.x6 X.x7))
        (R.arg16.view.writes (Elt F) R.arg16.view.junk (kernelRun0_A.sl.HS3_16 t R.arg8 R.harg8 R.arg9 R.harg9 X.x6 X.x7))
        (R.arg17.view.writes (Elt F) R.arg17.view.junk (kernelRun0_A.sl.HS4_16 t R.arg8 R.harg8 R.arg9 R.harg9 X.x6 X.x7))
        (R.arg18.view.writes (Elt F) R.arg18.view.junk (kernelRun0_A.sl.HS5_16 t R.arg8 R.harg8 R.arg9 R.harg9 X.x6 X.x7))
        (R.arg19.view.writes (Elt F) R.arg19.view.junk (kernelRun0_A.sl.HS6_16 t R.arg8 R.harg8 R.arg9 R.harg9 X.x6 X.x7))
        (R.arg13.view.writes (Elt F) R.arg13.view.junk (kernelRun0_A.sl.HS0_16 t R.arg2 R.harg2 R.arg3 R.harg3 R.arg4 R.harg4 R.arg6 R.harg6 R.arg7 R.harg7 R.arg10 R.harg10 X.x0 X.x1 X.x2 X.x4 X.x5 X.x8))
        (R.arg20.view.writes (Elt F) R.arg20.view.junk (statePieces k0_pay416))
        (R.arg21.view.writes (Elt F) R.arg21.view.junk (statePieces k0_pay417)) 16).1
          ++ (kernelRun0_A.sl.HS0_16 t R.arg2 R.harg2 R.arg3 R.harg3 R.arg4 R.harg4 R.arg6 R.harg6 R.arg7 R.harg7 R.arg10 R.harg10 X.x0 X.x1 X.x2 X.x4 X.x5 X.x8))))
        (View.readAt (Elt F) R.arg5.view (Rect.unit (s := S1x2048x512) ![0, 256 * k.rev.val, 0] S1x256x512.size (inb_z k.rev)).toLoadRect (R.harg5.unread X.x3))
        (View.readAt (Elt F) R.arg11.view (Rect.unit (s := S1x512) ![0, 0] S1x512.size inb_S1x512_S1x512_0_0).toLoadRect (R.harg11.unread X.x9))⟩ :
      View.Piece (Elt F) S1x2048x512 .bf16)) rfl ?_
  rw [HS0_16_eq, HS1_16_eq, HS2_16_eq, HS3_16_eq, HS4_16_eq, HS5_16_eq, HS6_16_eq]
  simp only [View.readAt_eq_ld, R.harg5.read_unread, R.harg11.read_unread, View.writes_append]
  rfl

/-! ## The loop -/

theorem off8 : ∀ k : Fin k0_t1_loop.trips, k0_off8 k = ![128 * k.val, 0] := by decide +kernel
theorem off9 : ∀ k : Fin k0_t1_loop.trips, k0_off9 k = ![0, 128 * k.val, 0] := by decide +kernel
theorem off10 : ∀ k : Fin k0_t1_loop.trips, k0_off10 k = ![k.val, 0, 0] := by decide +kernel
theorem off11 : ∀ k : Fin k0_t1_loop.trips, k0_off11 k = ![128 * (Fin.rev (n := 16) k).val, 0] := by decide +kernel
theorem off12 : ∀ k : Fin k0_t1_loop.trips, k0_off12 k = ![0, 128 * (Fin.rev (n := 16) k).val, 0] := by decide +kernel
theorem off13 : ∀ k : Fin k0_t1_loop.trips, k0_off13 k = ![(Fin.rev (n := 16) k).val, 0, 0] := by decide +kernel

theorem fit_rows {off : Fin 2 → ℕ} (u : Fin 16) (h : off = ![128 * u.val, 0]) : ∀ a, off a + S128x512.size a ≤ S2048x512.size a :=
  h ▸ inb_rows u

theorem fit_bc {off : Fin 3 → ℕ} (u : Fin 16) (h : off = ![0, 128 * u.val, 0]) : ∀ a, off a + S1x128x128.size a ≤ S1x2048x128.size a :=
  h ▸ inb_bc u

theorem fit_e {off : Fin 3 → ℕ} (u : Fin 16) (h : off = ![u.val, 0, 0]) : ∀ a, off a + S1x8x512.size a ≤ S16x8x512.size a :=
  h ▸ inb_e u

theorem ld_bc {e : EltTy} (Y : S1x2048x128.Idx → Elt F e) {off : Fin 3 → ℕ} (u : Fin 16) (h : off = ![0, 128 * u.val, 0])
    (inb : ∀ a, off a + S1x128x128.size a ≤ S1x2048x128.size a) :
    View.ld Y (Rect.unit (s := S1x2048x128) off S1x128x128.size inb)
      = View.ld Y (Rect.unit (s := S1x2048x128) ![0, 128 * u.val, 0] S1x128x128.size (inb_bc u)) := by
  subst h; rfl

/-- The load of a whole state. -/
def whole (Y : S128x512.Idx → Elt F .f32) : FVec F S128x512 .f32 :=
  View.ld Y (Rect.unit (s := S128x512) ![0, 0] S128x512.size inb_S128x512_S128x512_0_0)

/-- The forward half of trip `k`'s store into the output scratch. -/
def putF (k : Fin 16) : View.Piece (Elt F) S2048x512 .f32 :=
  ⟨Rect.unit (s := S2048x512) (k0_off8 k) S128x512.size (fit_rows k (off8 k)),
    k0_pay2 (whole (R.arg20.view.read (Elt F) (heldF t i R X k.val)))
      (View.ld (R.arg13.view.read (Elt F) (held t i R X k.val)) (Rect.unit (s := S2048x512) (k0_off8 k) S128x512.size (fit_rows k (off8 k))))
      (View.ld (R.arg4.view.read (Elt F) (R.harg4.unread X.x2)) (Rect.unit (s := S1x2048x128) (k0_off9 k) S1x128x128.size (fit_bc k (off9 k))))
      (View.ld (R.arg16.view.read (Elt F) (R.arg16.view.writes (Elt F) R.arg16.view.junk (chunkPieces X.outF)))
        (Rect.unit (s := S2048x512) (k0_off8 k) S128x512.size (fit_rows k (off8 k))))⟩

/-- The backward half. -/
def putB (k : Fin 16) : View.Piece (Elt F) S2048x512 .f32 :=
  ⟨Rect.unit (s := S2048x512) (k0_off11 k) S128x512.size (fit_rows k.rev (off11 k)),
    k0_pay418 (whole (R.arg21.view.read (Elt F) (heldB t i R X k.val)))
      (View.ld (R.arg13.view.read (Elt F) (R.arg13.view.writes (Elt F) (held t i R X k.val) [putF t i R X k]))
        (Rect.unit (s := S2048x512) (k0_off11 k) S128x512.size (fit_rows k.rev (off11 k))))
      (View.ld (R.arg4.view.read (Elt F) (R.harg4.unread X.x2)) (Rect.unit (s := S1x2048x128) (k0_off12 k) S1x128x128.size (fit_bc k.rev (off12 k))))
      (View.ld (R.arg17.view.read (Elt F) (R.arg17.view.writes (Elt F) R.arg17.view.junk (chunkPieces X.outB)))
        (Rect.unit (s := S2048x512) (k0_off11 k) S128x512.size (fit_rows k.rev (off11 k))))⟩

/-- Trip `k`'s stores, over those of the trips before. -/
theorem loopPieces_succ (k : Fin 16) : loopPieces t i R X (k.val + 1)
    = (putB t i R X k :: putF t i R X k :: (loopPieces t i R X k.val).1,
      ⟨Rect.unit (s := S128x512) ![0, 0] S128x512.size inb_S128x512_S128x512_0_0,
        k0_pay3 (whole (R.arg20.view.read (Elt F) (heldF t i R X k.val)))
          (View.ld (R.arg3.view.read (Elt F) (R.harg3.unread X.x1)) (Rect.unit (s := S1x2048x128) (k0_off9 k) S1x128x128.size (fit_bc k (off9 k))))
          (View.ld (R.arg14.view.read (Elt F) (R.arg14.view.writes (Elt F) R.arg14.view.junk (chunkPieces X.inF)))
            (Rect.unit (s := S2048x512) (k0_off8 k) S128x512.size (fit_rows k (off8 k))))
          (View.ld (R.arg18.view.read (Elt F) (R.arg18.view.writes (Elt F) R.arg18.view.junk (slotPieces X.endF)))
            (Rect.unit (s := S16x8x512) (k0_off10 k) S1x8x512.size (fit_e k (off10 k))))⟩ :: (loopPieces t i R X k.val).2.1,
      ⟨Rect.unit (s := S128x512) ![0, 0] S128x512.size inb_S128x512_S128x512_0_0,
        k0_pay419 (whole (R.arg21.view.read (Elt F) (heldB t i R X k.val)))
          (View.ld (R.arg3.view.read (Elt F) (R.harg3.unread X.x1)) (Rect.unit (s := S1x2048x128) (k0_off12 k) S1x128x128.size (fit_bc k.rev (off12 k))))
          (View.ld (R.arg15.view.read (Elt F) (R.arg15.view.writes (Elt F) R.arg15.view.junk (chunkPieces X.inB)))
            (Rect.unit (s := S2048x512) (k0_off11 k) S128x512.size (fit_rows k.rev (off11 k))))
          (View.ld (R.arg19.view.read (Elt F) (R.arg19.view.writes (Elt F) R.arg19.view.junk (slotPieces X.endB)))
            (Rect.unit (s := S16x8x512) (k0_off13 k) S1x8x512.size (fit_e k.rev (off13 k))))⟩ :: (loopPieces t i R X k.val).2.2) := by
  refine (pb_k0_t1_succ _ _ _ _ _ _ _ _ _ _ _ _ _ _ _ _ _ _ _ _ _ _ _ _ _ _ _ _ _ _ _ _ _ _ _ _ _ _ _ _ _ _ _ _ _ _ _ _ _ _ _ _ _ _ _
    (k : Fin k0_t1_loop.trips)).trans ?_
  unfold tripL_k0_t1 trip_k0_t1
  rfl

theorem zero2 (x : S128x512.Idx) : ∀ a, (x a).val = (![0, 0] : Fin 2 → ℕ) a + (x a).val := by
  intro a
  match a with
  | ⟨0, _⟩ => exact (Nat.zero_add _).symm
  | ⟨1, _⟩ => exact (Nat.zero_add _).symm

theorem whole_writes_cons (v : View sig .tc .vmem S128x512 .f32) (f : v.ty.Contents (Elt F)) (w : FVec F S128x512 .f32)
    (L : List (View.Piece (Elt F) S128x512 .f32)) :
    whole (v.read (Elt F) (v.writes (Elt F) f (⟨Rect.unit (s := S128x512) ![0, 0] S128x512.size inb_S128x512_S128x512_0_0, w⟩ :: L))) = w := by
  unfold whole
  funext x
  exact (View.ld_unit_apply_of _ _ _ _ x x (zero2 x)).trans (View.read_writes_cons_unit_of_mem v f _ w L x x rfl (zero2 x))

/-- What the three buffers hold after `n` trips. -/
def Held (n : ℕ) : Prop :=
  rows (R.arg13.view.read (Elt F) (held t i R X n)) = (X.after n).1
    ∧ whole (R.arg20.view.read (Elt F) (heldF t i R X n)) = (X.after n).2.1
    ∧ whole (R.arg21.view.read (Elt F) (heldB t i R X n)) = (X.after n).2.2

theorem held_zero : Held t i R X 0 := by
  have hs : loopPieces t i R X 0 = ([], [], []) := by unfold loopPieces; rw [pb_k0_t1.eq_1]
  refine ⟨?_, ?_, ?_⟩
  · unfold held
    rw [hs, View.writes_nil]
    exact rows_writes_all R.arg13.view R.arg13.view.junk X.innerAt
  · unfold heldF
    rw [hs]
    unfold statePieces
    rw [View.writes_nil]
    exact whole_writes_cons R.arg20.view R.arg20.view.junk k0_pay416 []
  · unfold heldB
    rw [hs]
    unfold statePieces
    rw [View.writes_nil]
    exact whole_writes_cons R.arg21.view R.arg21.view.junk k0_pay417 []

theorem held_succ (n : ℕ) (hn : n < 16) (h : Held t i R X n) : Held t i R X (n + 1) := by
    obtain ⟨h13, h20, h21⟩ := h
    have hs := loopPieces_succ t i R X ⟨n, hn⟩
    have ha := X.after_succ ⟨n, hn⟩
    dsimp only at hs ha
    unfold Held
    rw [ha]
    have hF := rows_writes_all R.arg14.view R.arg14.view.junk X.inF
    have hB := rows_writes_all R.arg15.view R.arg15.view.junk X.inB
    have hoF := rows_writes_all R.arg16.view R.arg16.view.junk X.outF
    have hoB := rows_writes_all R.arg17.view R.arg17.view.junk X.outB
    have heF := slot_writes_all R.arg18.view R.arg18.view.junk X.endF
    have heB := slot_writes_all R.arg19.view R.arg19.view.junk X.endB
    refine ⟨?_, ?_, ?_⟩
    · unfold held
      rw [hs]
      dsimp only
      unfold putB
      rw [rows_writes_cons _ _ (Fin.rev ⟨n, hn⟩) (off11 _)]
      rw [ld_bc _ (Fin.rev ⟨n, hn⟩) (off12 _), ld_rows _ (Fin.rev ⟨n, hn⟩) (off11 _), ld_rows _ (Fin.rev ⟨n, hn⟩) (off11 _), R.harg4.read_unread]
      unfold putF
      rw [rows_writes_cons _ _ ⟨n, hn⟩ (off8 _), rows_writes_cons _ _ ⟨n, hn⟩ (off8 _)]
      rw [ld_bc _ ⟨n, hn⟩ (off9 _), ld_rows _ ⟨n, hn⟩ (off8 _), ld_rows _ ⟨n, hn⟩ (off8 _), R.harg4.read_unread, View.writes_nil]
      have h13' : rows (R.arg13.view.read (Elt F) (R.arg13.view.writes (Elt F)
        (R.arg13.view.writes (Elt F) R.arg13.view.junk (chunkPieces X.innerAt)) (loopPieces t i R X n).1)) = (X.after n).1 := h13
      rw [h13', h13, h20, h21]
      have e1 : rows (R.arg16.view.read (Elt F) (R.arg16.view.writes (Elt F) R.arg16.view.junk (chunkPieces X.outF))) = X.outF := hoF
      have e2 : rows (R.arg17.view.read (Elt F) (R.arg17.view.writes (Elt F) R.arg17.view.junk (chunkPieces X.outB))) = X.outB := hoB
      rw [e1, e2]
      rfl
    · unfold heldF
      rw [hs]
      dsimp only
      rw [whole_writes_cons, ld_bc _ ⟨n, hn⟩ (off9 _), ld_rows _ ⟨n, hn⟩ (off8 _), ld_slot _ ⟨n, hn⟩ (off10 _), R.harg3.read_unread]
      exact congr (congr (congrArg (k0_pay3 · (X.b ⟨n, hn⟩)) h20) (congrFun hF _)) (congrFun heF _)
    · unfold heldB
      rw [hs]
      dsimp only
      rw [whole_writes_cons, ld_bc _ (Fin.rev ⟨n, hn⟩) (off12 _), ld_rows _ (Fin.rev ⟨n, hn⟩) (off11 _), ld_slot _ (Fin.rev ⟨n, hn⟩) (off13 _), R.harg3.read_unread]
      exact congr (congr (congrArg (k0_pay419 · (X.b (Fin.rev ⟨n, hn⟩))) h21) (congrFun hB _)) (congrFun heB _)

theorem held_after : ∀ n ≤ 16, Held t i R X n := fun n => n.rec (fun _ => held_zero t i R X)
  fun n ih hn => held_succ t i R X n hn (ih (Nat.le_of_succ_le hn))

/-! ## The result -/

/-- The result block: eight blocks of 256 rows. -/
def Blocks.result (X : Blocks F) : Vec F S1x2048x512 .bf16 := fun y =>
  X.normed ⟨(y 1).val / 256, by have : (y 1).val < 2048 := (y 1).isLt; omega⟩
    (ValueIdx.ix3 (n0 := 1) (n1 := 256) (n2 := 512) 0 ⟨(y 1).val % 256, Nat.mod_lt _ (by decide)⟩ (y 2))

theorem joined_rows (Y : Vec F S2048x512 .f32) : Blocks.joined (rows Y) = Y := by
  funext i
  refine congrArg Y (funext fun a => ?_)
  match a with
  | ⟨0, _⟩ => exact Fin.ext (Nat.div_add_mod (i 0).val 128)
  | ⟨1, _⟩ => rfl

/-- The body leaves the result block in its output buffer. -/
theorem out_eq : out0_A_10 t i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 X.x0 X.x1 X.x2 X.x3 X.x4 X.x5 X.x6 X.x7 X.x8 X.x9 = X.result := by
  have hY : R.arg13.view.read (Elt F) (held t i R X 16) = Blocks.joined (X.after 16).1 := by
    rw [← (held_after t i R X 16 le_rfl).1, joined_rows]
  unfold out0_A_10
  rw [run_pieces, hY]
  funext y
  have hy1 : (y 1).val < 2048 := (y 1).isLt
  refine View.read_writes_apply_of_pieces VO0_10 VO0_10.junk X.result _ ?_ y ?_
  · intro p hp x
    obtain ⟨k, rfl⟩ := List.mem_ofFn.mp hp
    have hx : (x 1).val < 256 := (x 1).isLt
    have h0 : (x 0).val < 1 := (x 0).isLt
    have e1 : (((Rect.unit (s := S1x2048x512) ![0, 256 * k.rev.val, 0] S1x256x512.size (inb_z k.rev)).emb x) 1).val = 256 * k.rev.val + 1 * (x 1).val := rfl
    have e2 : (((Rect.unit (s := S1x2048x512) ![0, 256 * k.rev.val, 0] S1x256x512.size (inb_z k.rev)).emb x) 2).val = 0 + 1 * (x 2).val := rfl
    show X.normed k.rev x = X.normed _ _
    congr 1
    · exact Fin.ext (by dsimp only; simp only [e1]; omega)
    · funext a
      match a with
      | ⟨0, _⟩ => exact Fin.ext (by show (x 0).val = 0; omega)
      | ⟨1, _⟩ => exact Fin.ext (by show (x 1).val = _ % 256; simp only [e1]; omega)
      | ⟨2, _⟩ => exact Fin.ext (by show (x 2).val = _; simp only [e2]; omega)
  · let k : Fin 8 := ⟨(y 1).val / 256, by omega⟩
    refine ⟨_, List.mem_ofFn.mpr ⟨k.rev, rfl⟩, (Rect.mem_set_unit (inb := inb_z k.rev.rev)).mpr fun a => ?_⟩
    rw [Fin.rev_rev]
    match a with
    | ⟨0, _⟩ => have : (y 0).val < 1 := (y 0).isLt
                show 0 ≤ (y 0).val ∧ (y 0).val < 0 + 1; omega
    | ⟨1, _⟩ => show 256 * ((y 1).val / 256) ≤ (y 1).val ∧ (y 1).val < 256 * ((y 1).val / 256) + 256; omega
    | ⟨2, _⟩ => have : (y 2).val < 512 := (y 2).isLt
                show 0 ≤ (y 2).val ∧ (y 2).val < 0 + 512; omega

end Cert.SsdIdeal.Chunk
end
-- ==== Proof.SsdClosed.lean ====
/-
  The scan kernel's result block in closed form: of blocks that hold the data `D`, the block is `D.out`.
-/
module

public import proofs.«01_k».proof.Proof.SsdEntries
public import proofs.«01_k».proof.Proof.SsdRun

@[expose] public section

set_option maxRecDepth 16384

noncomputable section

namespace Cert.SsdIdeal.Chunk

open Cert.SsdIdeal Cert.SsdIdeal.Gen Idealize.ShloMosaic Idealize.ShloMosaic.TcCoe Cert.Ssm

variable {X : Blocks Ideal} {D : Data} (H : Reads X D)
include H

/-- What trip `k` adds to chunk `k`'s output from the forward state, -/
theorem meetF (k : Fin 16) (s y : FVec Ideal S128x512 .f32) (hs : ∀ n q, s (ix2 n q) = D.stF k.val n q) (l : Fin 128) (q : Fin 512) :
    k0_pay2 s y (X.c k) (X.outF k) (ix2 l q) = y (ix2 l q) + D.before k l q := by
  rw [pay2_at, outF_at H]
  refine congrArg (fun v => y (ix2 l q) + v * _) (Finset.sum_congr rfl fun n _ => ?_)
  rw [c_at, H.c, hs]

/-- and to chunk `15 - k`'s output from the backward state. -/
theorem meetB (k : Fin 16) (s y : FVec Ideal S128x512 .f32) (hs : ∀ n q, s (ix2 n q) = D.stB k.val n q) (l : Fin 128) (q : Fin 512) :
    k0_pay418 s y (X.c k.rev) (X.outB k.rev) (ix2 l q) = y (ix2 l q) + D.behind k.rev l q := by
  rw [pay418_at, outB_at H]
  unfold Data.behind
  rw [Fin.rev_rev]
  refine congrArg (fun v => y (ix2 l q) + v * _) (Finset.sum_congr rfl fun n _ => ?_)
  rw [c_at, H.c, hs]

/-- The forward state after trip `k`, -/
theorem passF (k : Fin 16) (s : FVec Ideal S128x512 .f32) (hs : ∀ n q, s (ix2 n q) = D.stF k.val n q) (n : Fin 128) (q : Fin 512) :
    k0_pay3 s (X.b k) (X.inF k) (X.endF k) (ix2 n q) = D.stF (k.val + 1) n q := by
  rw [pay3_at, endF_at H, hs, D.stF_succ]
  refine congrArg _ (Finset.sum_congr rfl fun l _ => ?_)
  rw [b_at, H.b, inF_at H]

/-- and the backward state. -/
theorem passB (k : Fin 16) (s : FVec Ideal S128x512 .f32) (hs : ∀ n q, s (ix2 n q) = D.stB k.val n q) (n : Fin 128) (q : Fin 512) :
    k0_pay419 s (X.b k.rev) (X.inB k.rev) (X.endB k.rev) (ix2 n q) = D.stB (k.val + 1) n q := by
  rw [pay419_at, endB_at H, hs, D.stB_succ]
  refine congrArg _ (Finset.sum_congr rfl fun l _ => ?_)
  rw [b_at, H.b, inB_at H]

/-- The carry after `n` trips: each chunk's output holds what the scans that have met it contribute. -/
theorem after_at (n : ℕ) (hn : n ≤ 16) :
    (∀ c l q, (X.after n).1 c (ix2 l q) = (D.inside c l q + D.d (hd q) * D.x c l q + if c.val < n then D.before c l q else 0)
        + if c.rev.val < n then D.behind c l q else 0)
    ∧ (∀ m q, (X.after n).2.1 (ix2 m q) = D.stF n m q) ∧ (∀ m q, (X.after n).2.2 (ix2 m q) = D.stB n m q) := by
  induction n with
  | zero =>
    refine ⟨fun c l q => ?_, fun m q => pay416_at m q, fun m q => pay417_at m q⟩
    rw [if_neg (Nat.not_lt_zero _), if_neg (Nat.not_lt_zero _), add_zero, add_zero]
    exact innerAt_at H c l q
  | succ n ih =>
    obtain ⟨iy, iF, iB⟩ := ih (by omega)
    obtain ⟨k, rfl⟩ : ∃ k : Fin 16, k.val = n := ⟨⟨n, by omega⟩, rfl⟩
    rw [X.after_succ k]
    have hne : k.rev ≠ k := fun h => by have := congrArg Fin.val h; rw [Fin.val_rev] at this; omega
    refine ⟨fun c l q => ?_, passF H k _ iF, passB H k _ iB⟩
    show Function.update (Function.update (X.after k.val).1 k _) k.rev (k0_pay418 _ (Function.update (X.after k.val).1 k _ k.rev) _ _) c (ix2 l q) = _
    rw [Function.update_of_ne hne]
    by_cases hB : c = k.rev
    · subst hB
      rw [Function.update_self, meetB H k _ _ iB, iy, Fin.rev_rev, if_neg (lt_irrefl _), add_zero, if_pos (Nat.lt_succ_self _)]
      have h : k.rev.val ≠ k.val := fun h => hne (Fin.ext h)
      refine congrArg (fun v => _ + v + _) (if_congr ?_ rfl rfl)
      omega
    · rw [Function.update_of_ne hB]
      have hB' : c.rev.val ≠ k.val := fun h => hB (by rw [← Fin.rev_rev c]; exact congrArg Fin.rev (Fin.ext h))
      have eB : (c.rev.val < k.val + 1) = (c.rev.val < k.val) := propext (by omega)
      simp only [eB]
      by_cases hF : c = k
      · subst hF
        rw [Function.update_self, meetF H c _ _ iF, iy, if_neg (lt_irrefl _), add_zero, if_pos (Nat.lt_succ_self _), add_right_comm]
      · rw [Function.update_of_ne hF, iy]
        have hF' : c.val ≠ k.val := fun h => hF (Fin.ext h)
        refine congrArg (fun v => _ + v + _) (if_congr ?_ rfl rfl)
        omega

/-- The output that the pass leaves is the scan's output. -/
theorem y_at (c : Fin 16) (l : Fin 128) (q : Fin 512) : (X.after 16).1 c (ix2 l q) = D.y c l q := by
  rw [(after_at H 16 le_rfl).1, if_pos c.isLt, if_pos c.rev.isLt]
  rfl

theorem z_at (k : Fin 8) (l : Fin 256) (q : Fin 512) : X.z k (ix3 0 l q) = X.x3 (ix3 0 ⟨256 * k.val + l.val, by omega⟩ q) :=
  View.ld_unit_apply_of _ _ _ _ _ _ fun a => by
    match a with
    | ⟨0, _⟩ => rfl
    | ⟨1, _⟩ => rfl
    | ⟨2, _⟩ => exact (Nat.zero_add _).symm

/-- The result block. -/
theorem result_at (u : Fin 16) (l : Fin 128) (q : Fin 512) : X.result (ix3 0 (tok u l) q) = D.out u l q := by
  have ht : (tok u l).val = 128 * u.val + l.val := rfl
  have hu : 128 * u.val + l.val < 2048 := (tok u l).isLt
  obtain ⟨k, hk⟩ : ∃ k : Fin 8, k.val = (128 * u.val + l.val) / 256 := ⟨⟨(128 * u.val + l.val) / 256, by omega⟩, rfl⟩
  obtain ⟨r, hr⟩ : ∃ r : Fin 256, r.val = (128 * u.val + l.val) % 256 := ⟨⟨(128 * u.val + l.val) % 256, by omega⟩, rfl⟩
  have e : X.result (ix3 0 (tok u l) q) = X.normed k (ix3 0 r q) := by
    show X.normed ⟨(128 * u.val + l.val) / 256, _⟩ (ValueIdx.ix3 0 ⟨(128 * u.val + l.val) % 256, _⟩ q) = _
    have e1 : (⟨(128 * u.val + l.val) / 256, by omega⟩ : Fin 8) = k := Fin.ext hk.symm
    have e2 : (⟨(128 * u.val + l.val) % 256, by omega⟩ : Fin 256) = r := Fin.ext hr.symm
    rw [← ix3_eq_valueIdx, e1, e2]
  rw [e]
  have hy (p : Fin 512) : View.ld (Blocks.joined (X.after 16).1) (Rect.unit (s := S2048x512) ![256 * k.val, 0] S256x512.size (inb_y k)) (ix2 r p)
      = D.y u l p := by
    rw [View.ld_unit_apply_of _ _ _ _ _ (ix2 (tok u l) p) fun a => by
      match a with
      | ⟨0, _⟩ => show (tok u l).val = 256 * k.val + r.val; omega
      | ⟨1, _⟩ => exact (Nat.zero_add _).symm]
    rw [← y_at H]
    show (X.after 16).1 ⟨(128 * u.val + l.val) / 128, _⟩ (ValueIdx.ix2 ⟨(128 * u.val + l.val) % 128, _⟩ p) = _
    rw [← ix2_eq_valueIdx]
    have e1 : (⟨(128 * u.val + l.val) / 128, by omega⟩ : Fin 16) = u := Fin.ext (by show (128 * u.val + l.val) / 128 = u.val; omega)
    have e2 : (⟨(128 * u.val + l.val) % 128, by omega⟩ : Fin 128) = l := Fin.ext (by show (128 * u.val + l.val) % 128 = l.val; omega)
    rw [e1, e2]
  have hz (p : Fin 512) : X.z k (ix3 0 r p) = D.z u l p := by
    rw [z_at H, ← H.z]
    exact congrArg (fun t => X.x3 (ix3 0 t p)) (Fin.ext (by show 256 * k.val + r.val = 128 * u.val + l.val; omega))
  unfold Blocks.normed
  rw [pay420_at, g_at, H.g]
  simp only [hy, hz]
  rfl

end Cert.SsdIdeal.Chunk
end
-- ==== Proof.SsdArrays.lean ====
/-
  The scan kernel's result array: block by block the scan of the arguments' data.
-/
module

public import proofs.«01_k».proof.Proof.SsdClosed
public import Idealize.ShloMosaic.Lib.Pipeline.ValueKit
public import Idealize.ShloMosaic.Lib.Claim

@[expose] public section

set_option maxRecDepth 16384

noncomputable section

namespace Cert.Ssm

open Idealize.ShloMosaic Cert.SsdIdeal

/-- The data of sequence `b` and head group `g` in the seven arguments. -/
def data (A0 : FVec Ideal S8x2048x3072 .bf16) (A1 : FVec Ideal S8x2048x2048 .bf16) (A2 : FVec Ideal S8x16x2x64x128 .f32)
    (A3 : FVec Ideal S8x4x2048x128 .f32) (A4 : FVec Ideal S8x4x2048x128 .bf16) (A5 : FVec Ideal S32 .f32)
    (A6 : FVec Ideal S2048 .f32) (b : Fin 8) (g : Fin 4) : Data where
  x u l q := A0 (ix3 b (tok u l) ⟨512 * g.val + q.val, by omega⟩)
  b u l n := A0 (ix3 b (tok u l) ⟨2048 + 128 * g.val + n.val, by omega⟩)
  c u l n := A0 (ix3 b (tok u l) ⟨2560 + 128 * g.val + n.val, by omega⟩)
  z u l q := A1 (ix3 b (tok u l) ⟨512 * g.val + q.val, by omega⟩)
  r u j t := A2 (ix5 b u 0 ⟨16 * g.val + j.val, by omega⟩ t)
  s u h t := A2 (ix5 b u 1 ⟨16 * g.val + h.val, by omega⟩ t)
  a u l j := A3 (ix4 b g (tok u l) ⟨j.val, by omega⟩)
  eF u l h := A4 (ix4 b g (tok u l) ⟨h.val, by omega⟩) + A4 (ix4 b g (tok u l) ⟨32 + h.val, by omega⟩)
  eB u l h := A4 (ix4 b g (tok u l) ⟨8 + h.val, by omega⟩) + A4 (ix4 b g (tok u l) ⟨40 + h.val, by omega⟩)
  wF u l h := A4 (ix4 b g (tok u l) ⟨16 + h.val, by omega⟩) + A4 (ix4 b g (tok u l) ⟨48 + h.val, by omega⟩)
  wB u l h := A4 (ix4 b g (tok u l) ⟨24 + h.val, by omega⟩) + A4 (ix4 b g (tok u l) ⟨56 + h.val, by omega⟩)
  d h := A5 (ix1 ⟨8 * g.val + h.val, by omega⟩)
  g q := A6 (ix1 ⟨512 * g.val + q.val, by omega⟩)

/-- The result of the seven arguments at sequence `b`, token `s`, channel `q`. -/
def result (A0 : FVec Ideal S8x2048x3072 .bf16) (A1 : FVec Ideal S8x2048x2048 .bf16) (A2 : FVec Ideal S8x16x2x64x128 .f32)
    (A3 : FVec Ideal S8x4x2048x128 .f32) (A4 : FVec Ideal S8x4x2048x128 .bf16) (A5 : FVec Ideal S32 .f32)
    (A6 : FVec Ideal S2048 .f32) (b : Fin 8) (s q : Fin 2048) : EReal :=
  (data A0 A1 A2 A3 A4 A5 A6 b ⟨q.val / 512, by omega⟩).out ⟨s.val / 128, by omega⟩ ⟨s.val % 128, by omega⟩ ⟨q.val % 512, by omega⟩

end Cert.Ssm

namespace Cert.SsdIdeal.Chunk

open Cert.SsdIdeal Cert.SsdIdeal.Gen Idealize.ShloMosaic Idealize.ShloMosaic.TcCoe Cert.Ssm
open Idealize.ShloMosaic.Pipeline (Dat)

variable (m : (ℓ : Loc nD τ sig) → Buf (Elt Ideal) ℓ) (c : Dev nD)

/-- The sequence and the head group of a grid point. -/
def seqOf (t : Fin cfg0.N) : Fin 8 := ⟨t.val / 4, by have : t.val < 32 := t.isLt; omega⟩
def groupOf (t : Fin cfg0.N) : Fin 4 := ⟨t.val % 4, by omega⟩

theorem idx : ∀ t : Fin cfg0.N,
    win0_0.index t = ![t.val / 4, 0, t.val % 4] ∧ win0_1.index t = ![t.val / 4, 0, 16 + t.val % 4]
    ∧ win0_2.index t = ![t.val / 4, 0, 20 + t.val % 4] ∧ win0_3.index t = ![t.val / 4, 0, t.val % 4]
    ∧ win0_4.index t = ![t.val / 4, 0, 0, t.val % 4, 0] ∧ win0_5.index t = ![t.val / 4, t.val % 4, 0, 0]
    ∧ win0_6.index t = ![t.val / 4, t.val % 4, 0, 0] ∧ win0_7.index t = ![0, 0]
    ∧ win0_8.index t = ![0, t.val % 4] ∧ win0_9.index t = ![0, t.val % 4]
    ∧ win0_10.index t = ![t.val / 4, 0, t.val % 4] :=
  (by decide +kernel : ∀ t : Fin grid0.N, _)

/-- The input blocks of a grid point. -/
def blocks (t : Fin cfg0.N) : Blocks Ideal where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

/-- The row of the head-expanding matrix that column `q` selects, modulo 32. -/
def rowOf (q : Fin 2048) : ℕ := q.val / 512 % 2 * 16 + q.val / 1024 * 8 + q.val / 64 % 8

section
variable (t : Fin cfg0.N)

theorem blocks_x (s : Fin 2048) (q : Fin 512) : (blocks m c t).x0 (ix3 0 s q)
    = m ((c : Thread nD τ).loc main_arg0) (ix3 (seqOf t) s ⟨512 * (groupOf t).val + q.val, by have := (groupOf t).isLt; omega⟩) := by
  show iblk m c 0 t (ix3 0 s q) = _
  blk_ext [iblk, V, idx t, seqOf, groupOf]

theorem blocks_b (s : Fin 2048) (n : Fin 128) : (blocks m c t).x1 (ix3 0 s n)
    = m ((c : Thread nD τ).loc main_arg0) (ix3 (seqOf t) s ⟨2048 + 128 * (groupOf t).val + n.val, by have := (groupOf t).isLt; omega⟩) := by
  show iblk m c 1 t (ix3 0 s n) = _
  blk_ext [iblk, V, idx t, seqOf, groupOf]

theorem blocks_c (s : Fin 2048) (n : Fin 128) : (blocks m c t).x2 (ix3 0 s n)
    = m ((c : Thread nD τ).loc main_arg0) (ix3 (seqOf t) s ⟨2560 + 128 * (groupOf t).val + n.val, by have := (groupOf t).isLt; omega⟩) := by
  show iblk m c 2 t (ix3 0 s n) = _
  blk_ext [iblk, V, idx t, seqOf, groupOf]

theorem blocks_z (s : Fin 2048) (q : Fin 512) : (blocks m c t).x3 (ix3 0 s q)
    = m ((c : Thread nD τ).loc main_arg1) (ix3 (seqOf t) s ⟨512 * (groupOf t).val + q.val, by have := (groupOf t).isLt; omega⟩) := by
  show iblk m c 3 t (ix3 0 s q) = _
  blk_ext [iblk, V, idx t, seqOf, groupOf]

theorem blocks_r (u : Fin 16) (d : Fin 2) (j : Fin 16) (l : Fin 128) : (blocks m c t).x4 (ix5 0 u d j l)
    = m ((c : Thread nD τ).loc main_arg2) (ix5 (seqOf t) u d ⟨16 * (groupOf t).val + j.val, by have := (groupOf t).isLt; omega⟩ l) := by
  show iblk m c 4 t (ix5 0 u d j l) = _
  blk_ext [iblk, V, idx t, seqOf, groupOf]

theorem blocks_a (s : Fin 2048) (k : Fin 128) : (blocks m c t).x5 (ix4 0 0 s k)
    = m ((c : Thread nD τ).loc main_arg3) (ix4 (seqOf t) (groupOf t) s k) := by
  show iblk m c 5 t (ix4 0 0 s k) = _
  blk_ext [iblk, V, idx t, seqOf, groupOf]

theorem blocks_f (s : Fin 2048) (k : Fin 128) : (blocks m c t).x6 (ix4 0 0 s k)
    = m ((c : Thread nD τ).loc main_arg4) (ix4 (seqOf t) (groupOf t) s k) := by
  show iblk m c 6 t (ix4 0 0 s k) = _
  blk_ext [iblk, V, idx t, seqOf, groupOf]

/-- The words of the head-expanding matrix's test: the row that a column selects, -/
theorem row_word : ∀ q : Fin 2048, IntOp.addi
      (IntOp.addi (IntOp.muli (IntOp.andi (IntOp.shrui ArithUnit.host (BitVec.ofNat 32 q.val) 9#32) 1#32) 16#32)
        (IntOp.muli (IntOp.shrui ArithUnit.host (IntOp.shrui ArithUnit.host (BitVec.ofNat 32 q.val) 9#32) 1#32) 8#32))
      (IntOp.andi (IntOp.shrui ArithUnit.host (BitVec.ofNat 32 q.val) 6#32) 7#32) = BitVec.ofNat 32 (rowOf q) := by
  decide +kernel

theorem rowOf_lt (q : Fin 2048) : rowOf q < 32 := by unfold rowOf; omega

/-- and the test of row `k`. -/
theorem mask_word : ∀ (k : Fin 128) (r : Fin 32),
    IntOp.andi (IntOp.cmpi .eq (IntOp.andi (BitVec.ofNat 32 k.val) 31#32) (BitVec.ofNat 32 r.val)) (IntOp.cmpi .slt (BitVec.ofNat 32 k.val) 64#32)
      = BitVec.ofBool (decide (k.val % 32 = r.val ∧ k.val < 64)) := by
  decide +kernel

theorem bit_value (p : Prop) [Decidable p] : FloatOps.uitofp (F := Ideal) .f32 (BitVec.ofBool (decide p)) = (if p then 1 else 0 : EReal) := by
  by_cases h : p
  · rw [decide_eq_true h, if_pos h]
    show (((1 : ℕ) : ℝ) : EReal) = 1
    rw [Nat.cast_one, EReal.coe_one]
  · rw [decide_eq_false h, if_neg h]
    show (((0 : ℕ) : ℝ) : EReal) = 0
    rw [Nat.cast_zero, EReal.coe_zero]

theorem blocks_e (k : Fin 128) (q : Fin 2048) : (blocks m c t).x7 (ix2 k q)
    = if k.val % 32 = rowOf q ∧ k.val < 64 then 1 else 0 := by
  have e : ((View.whole main_v25).slice (win0_7.rect t)).emb (ix2 k q) = ix2 k q := by blk_ext! [idx t]
  show iblk m c 7 t (ix2 k q) = _
  blk_simp [iblk, idx t]
  entry_read
  rw [e]
  pointwise
  rw [row_word]
  exact (congrArg _ (mask_word k ⟨rowOf q, rowOf_lt q⟩)).trans (bit_value _)

theorem blocks_d (q : Fin 512) : (blocks m c t).x8 (ix2 0 q)
    = m ((c : Thread nD τ).loc main_arg5) (ix1 ⟨8 * (groupOf t).val + q.val / 64, by have := (groupOf t).isLt; omega⟩) := by
  have e : ((View.whole main_v28).slice (win0_8.rect t)).emb (ix2 0 q) = ix2 0 ⟨512 * (groupOf t).val + q.val, by have := (groupOf t).isLt; omega⟩ := by
    blk_ext! [idx t, groupOf]
  show iblk m c 8 t (ix2 0 q) = _
  blk_simp [iblk, idx t]
  entry_read
  rw [e]
  pointwise
  exact congrArg (fun i => m ((c : Thread nD τ).loc main_arg5) (ix1 i)) (Fin.ext (by show (512 * (groupOf t).val + q.val) / 64 = 8 * (groupOf t).val + q.val / 64; omega))

theorem blocks_g (q : Fin 512) : (blocks m c t).x9 (ix2 0 q)
    = m ((c : Thread nD τ).loc main_arg6) (ix1 ⟨512 * (groupOf t).val + q.val, by have := (groupOf t).isLt; omega⟩) := by
  have e : ((View.whole main_v29).slice (win0_9.rect t)).emb (ix2 0 q) = ix2 0 ⟨512 * (groupOf t).val + q.val, by have := (groupOf t).isLt; omega⟩ := by
    blk_ext! [idx t, groupOf]
  show iblk m c 9 t (ix2 0 q) = _
  blk_simp [iblk, idx t]
  entry_read
  rw [e]
  pointwise

/-- A row of the factors times a column of the head-expanding matrix: the high and the low part, summed. -/
theorem sum_pick (f : Fin 128 → EReal) (r : ℕ) (hr : r < 32) :
    ∑ k : Fin 128, f k * (if k.val % 32 = r ∧ k.val < 64 then 1 else 0) = f ⟨r, by omega⟩ + f ⟨32 + r, by omega⟩ := by
  have h (k : Fin 128) : f k * (if k.val % 32 = r ∧ k.val < 64 then 1 else 0 : EReal)
      = (if k = ⟨r, by omega⟩ then f k else 0) + (if k = ⟨32 + r, by omega⟩ then f k else 0) := by
    simp only [Fin.ext_iff]
    by_cases h1 : k.val = r
    · rw [if_pos (by omega), if_pos h1, if_neg (by omega), mul_one, add_zero]
    · by_cases h2 : k.val = 32 + r
      · rw [if_pos (by omega), if_neg h1, if_pos h2, mul_one, zero_add]
      · rw [if_neg (by omega), if_neg h1, if_neg h2, mul_zero, add_zero]
  rw [Finset.sum_congr rfl fun k _ => h k, Finset.sum_add_distrib, Finset.sum_ite_eq' _ _ f, Finset.sum_ite_eq' _ _ f,
    if_pos (Finset.mem_univ _), if_pos (Finset.mem_univ _)]

/-- Lane `k` of a token's factors. -/
def facOf (s : Fin 2048) (k : Fin 128) : EReal := m ((c : Thread nD τ).loc main_arg4) (ix4 (seqOf t) (groupOf t) s k)

/-- The expanded factor of a token at a column. -/
theorem blocks_fac (s q : Fin 2048) (r r' : ℕ) (hr : rowOf q = r) (hlt : r < 32) (hr' : 32 + r = r') :
    ∑ k : Fin 128, (blocks m c t).x6 (ix4 0 0 s k) * (blocks m c t).x7 (ix2 k q)
      = facOf m c t s ⟨r, by omega⟩ + facOf m c t s ⟨r', by omega⟩ := by
  subst hr'
  rw [← sum_pick (facOf m c t s) r hlt]
  exact Finset.sum_congr rfl fun k _ => by rw [blocks_f, blocks_e, hr]; rfl

/-- The data of a grid point. -/
abbrev dataOf : Data := data (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (seqOf t) (groupOf t)

theorem reads : Reads (blocks m c t) (dataOf m c t) where
  x u l q := blocks_x m c t _ q
  b u l n := blocks_b m c t _ n
  c u l n := blocks_c m c t _ n
  z u l q := blocks_z m c t _ q
  r u j l := blocks_r m c t u 0 j l
  s u h l := blocks_r m c t u 1 ⟨h.val, by omega⟩ l
  a u l j := blocks_a m c t _ _
  eF u l q := blocks_fac m c t _ _ (q.val / 64) (32 + q.val / 64) (by unfold rowOf; dsimp only; omega) (by omega) (by omega)
  wF u l q := blocks_fac m c t _ _ (16 + q.val / 64) (48 + q.val / 64) (by unfold rowOf; dsimp only; omega) (by omega) (by omega)
  eB u l q := blocks_fac m c t _ _ (8 + q.val / 64) (40 + q.val / 64) (by unfold rowOf; dsimp only; omega) (by omega) (by omega)
  wB u l q := blocks_fac m c t _ _ (24 + q.val / 64) (56 + q.val / 64) (by unfold rowOf; dsimp only; omega) (by omega) (by omega)
  d q := blocks_d m c t q
  g q := blocks_g m c t q

end

end Cert.SsdIdeal.Chunk
end
-- ==== Proof.SsdFinal.lean ====
/-
  The scan kernel's result array: the scan's result of the arguments.
-/
module

public import proofs.«01_k».proof.Proof.SsdArrays

@[expose] public section

set_option maxRecDepth 16384

noncomputable section

namespace Cert.SsdIdeal.Chunk

open Cert.SsdIdeal Cert.SsdIdeal.Gen Idealize.ShloMosaic Idealize.ShloMosaic.TcCoe Cert.Ssm
open Idealize.ShloMosaic.Pipeline (Dat)

variable (m : (ℓ : Loc nD τ sig) → Buf (Elt Ideal) ℓ) (c : Dev nD)

/-- The result array's contents. -/
def final : FVec Ideal S8x2048x2048 .bf16 := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

/-- The result block, of any memrefs and blocks. -/
theorem out_of (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x16x2x16x128 .f32) (harg6 : arg6.IsWhole) (arg7 : Memref sig .tc .vmem S1x1x2048x128 .f32) (harg7 : arg7.IsWhole) (arg8 : Memref sig .tc .vmem S1x1x2048x128 .bf16) (harg8 : arg8.IsWhole) (arg9 : Memref sig .tc .vmem S128x2048 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x2048x512 .bf16) (harg12 : arg12.IsWhole) (arg13 : Memref sig .tc .vmem S2048x512 .f32) (harg13 : arg13.IsWhole) (arg14 : Memref sig .tc .vmem S2048x512 .bf16) (harg14 : arg14.IsWhole) (arg15 : Memref sig .tc .vmem S2048x512 .bf16) (harg15 : arg15.IsWhole) (arg16 : Memref sig .tc .vmem S2048x512 .f32) (harg16 : arg16.IsWhole) (arg17 : Memref sig .tc .vmem S2048x512 .f32) (harg17 : arg17.IsWhole) (arg18 : Memref sig .tc .vmem S16x8x512 .f32) (harg18 : arg18.IsWhole) (arg19 : Memref sig .tc .vmem S16x8x512 .f32) (harg19 : arg19.IsWhole) (arg20 : Memref sig .tc .vmem S128x512 .f32) (harg20 : arg20.IsWhole) (arg21 : Memref sig .tc .vmem S128x512 .f32) (harg21 : arg21.IsWhole) (x0 : Vec Ideal S1x2048x512 .bf16) (x1 : Vec Ideal S1x2048x128 .bf16) (x2 : Vec Ideal S1x2048x128 .bf16) (x3 : Vec Ideal S1x2048x512 .bf16) (x4 : Vec Ideal S1x16x2x16x128 .f32) (x5 : Vec Ideal S1x1x2048x128 .f32) (x6 : Vec Ideal S1x1x2048x128 .bf16) (x7 : Vec Ideal S128x2048 .bf16) (x8 : Vec Ideal S1x512 .f32) (x9 : Vec Ideal S1x512 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9
      = (Blocks.mk x0 x1 x2 x3 x4 x5 x6 x7 x8 x9).result :=
  out_eq c i (Refs.mk arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (Blocks.mk x0 x1 x2 x3 x4 x5 x6 x7 x8 x9)

/-- What a grid point leaves in the result's buffer. -/
theorem outsAt_eq (t : Fin cfg0.N) : outsAt0 m c t = (blocks m c t).result := by
  unfold outsAt0
  rw [out_of]
  rfl

theorem block_at (t : Fin cfg0.N) (s : Fin 2048) (q : Fin 512) : (blocks m c t).result (ix3 0 s q)
    = final m c (ix3 (seqOf t) s ⟨512 * (groupOf t).val + q.val, by have := (groupOf t).isLt; omega⟩) := by
  have hg := (groupOf t).isLt
  obtain ⟨u, l, rfl⟩ : ∃ u l, tok u l = s := ⟨⟨s.val / 128, by omega⟩, ⟨s.val % 128, by omega⟩, Fin.ext (by show 128 * (s.val / 128) + s.val % 128 = s.val; omega)⟩
  rw [result_at (reads m c t)]
  have e0 : (⟨(512 * (groupOf t).val + q.val) / 512, by omega⟩ : Fin 4) = groupOf t := Fin.ext (by show (512 * (groupOf t).val + q.val) / 512 = _; omega)
  have e1 : (⟨(512 * (groupOf t).val + q.val) % 512, by omega⟩ : Fin 512) = q := Fin.ext (by show (512 * (groupOf t).val + q.val) % 512 = q.val; omega)
  have e2 : (⟨(tok u l).val / 128, by omega⟩ : Fin 16) = u := Fin.ext (by show (128 * u.val + l.val) / 128 = u.val; omega)
  have e3 : (⟨(tok u l).val % 128, by omega⟩ : Fin 128) = l := Fin.ext (by show (128 * u.val + l.val) % 128 = l.val; omega)
  show _ = (data _ _ _ _ _ _ _ (seqOf t) ⟨(512 * (groupOf t).val + q.val) / 512, _⟩).out ⟨(tok u l).val / 128, _⟩ ⟨(tok u l).val % 128, _⟩ ⟨(512 * (groupOf t).val + q.val) % 512, _⟩
  rw [e0, e1, e2, e3]

theorem arr_eq : (dats m 0 c).arrAt 10 cfg0.N = final m c := by
  refine (dats m 0 c).arrAt_eq_of_covers 10 _ (by decide +kernel) fun t _ y => ?_
  blk_simp
  rw [after0_10, outsAt_eq]
  obtain ⟨s, q, rfl⟩ : ∃ (s : Fin 2048) (q : Fin 512), y = ix3 0 s q := ⟨y 1, y 2, by rw [eq_ix3 y]; congr 1; exact Subsingleton.elim _ _⟩
  refine (block_at m c t s q).trans (congrArg (final m c) ?_)
  blk_ext! [idx t, seqOf, groupOf]

end Cert.SsdIdeal.Chunk
end
-- ==== Proof.SsdRefScan.lean ====
/-
  The reference's scan over the chunks: the states it makes are those of the arguments' data.
-/
module

public import proofs.«01_k».proof.Proof.Gen.SsdRefIdeal.Step
public import proofs.«01_k».proof.Proof.SsdArrays
public import Idealize.ShloMosaic.Lib.Pointwise
public import Idealize.ShloMosaic.Lib.WordCmp

@[expose] public section

set_option maxRecDepth 16384

noncomputable section

namespace Cert.SsdRefIdeal.Chunk

open Cert.SsdRefIdeal Cert.SsdRefIdeal.Gen Idealize.ShloMosaic Idealize.ShloMosaic.TcCoe Cert.Ssm Cert.SsdRefIdeal.Step

variable (A0 : FVec Ideal S8x2048x3072 .bf16) (A4 : FVec Ideal S8x4x2048x128 .bf16)

theorem fac_at (b : Fin 8) (u : Fin 16) (g : Fin 4) (k : Fin 32) (l : Fin 128) :
    A_main_v12 (F := Ideal) A0 A4 (ix5 b u g k l) = A4 (ix4 b g (tok u l) ⟨k.val, by omega⟩) + A4 (ix4 b g (tok u l) ⟨32 + k.val, by omega⟩) := by
  have e : (⟨u.val * 128 + l.val, by omega⟩ : Fin 2048) = tok u l := Fin.ext (by show u.val * 128 + l.val = 128 * u.val + l.val; omega)
  pointwise [A_main_v12, A_main_v11, A_main_v10, A_main_v9, A_main_v8, A_main_v7]
  rw [e]

theorem endF_at (b : Fin 8) (u : Fin 16) (h : Fin 32) :
    A_main_v44 (F := Ideal) A0 A4 (ix4 u 0 b h) = A_main_v12 (F := Ideal) A0 A4 (ix5 b u ⟨h.val / 8, by omega⟩ ⟨h.val % 8, by omega⟩ 127) := by
  pointwise [A_main_v44, A_main_v42, A_main_v36, A_main_v35, A_main_v34, A_main_v33, A_main_v13]

theorem endB_at (b : Fin 8) (u : Fin 16) (h : Fin 32) :
    A_main_v44 (F := Ideal) A0 A4 (ix4 u 1 b h) = A_main_v12 (F := Ideal) A0 A4 (ix5 b u.rev ⟨h.val / 8, by omega⟩ ⟨8 + h.val % 8, by omega⟩ 0) := by
  pointwise [A_main_v44, A_main_v43, A_main_v41]
  show A_main_v40 (F := Ideal) A0 A4 (ix3 u.rev b h) = _
  pointwise [A_main_v40, A_main_v39, A_main_v38, A_main_v37, A_main_v14]

theorem newF_at (b : Fin 8) (u : Fin 16) (h : Fin 32) (p : Fin 64) (n : Fin 128) :
    A_main_v22 (F := Ideal) A0 A4 (ix5 u b h p n) = ∑ l : Fin 128,
      A0 (ix3 b (tok u l) ⟨64 * h.val + p.val, by omega⟩) * A_main_v12 (F := Ideal) A0 A4 (ix5 b u ⟨h.val / 8, by omega⟩ ⟨16 + h.val % 8, by omega⟩ l)
        * A0 (ix3 b (tok u l) ⟨2048 + 128 * (h.val / 8) + n.val, by omega⟩) := by
  pointwise [A_main_v22, A_main_v21, A_main_v20, A_main_v19, A_main_v18, A_main_v17, A_main_v15, A_main_v4, A_main_v3, A_main_v2, A_main_v1, A_main_v0]
  blk_point [tok]

theorem newB_at (b : Fin 8) (u : Fin 16) (h : Fin 32) (p : Fin 64) (n : Fin 128) :
    A_main_v28 (F := Ideal) A0 A4 (ix5 u b h p n) = ∑ l : Fin 128,
      A0 (ix3 b (tok u l) ⟨64 * h.val + p.val, by omega⟩) * A_main_v12 (F := Ideal) A0 A4 (ix5 b u ⟨h.val / 8, by omega⟩ ⟨24 + h.val % 8, by omega⟩ l)
        * A0 (ix3 b (tok u l) ⟨2048 + 128 * (h.val / 8) + n.val, by omega⟩) := by
  pointwise [A_main_v28, A_main_v27, A_main_v26, A_main_v25, A_main_v24, A_main_v23, A_main_v16, A_main_v4, A_main_v3, A_main_v2, A_main_v1, A_main_v0]
  blk_point [tok]

theorem addF_at (b : Fin 8) (u : Fin 16) (h : Fin 32) (p : Fin 64) (n : Fin 128) :
    A_main_v32 (F := Ideal) A0 A4 (ix6 u 0 b h p n) = A_main_v22 (F := Ideal) A0 A4 (ix5 u b h p n) := by
  pointwise [A_main_v32, A_main_v30]

theorem addB_at (b : Fin 8) (u : Fin 16) (h : Fin 32) (p : Fin 64) (n : Fin 128) :
    A_main_v32 (F := Ideal) A0 A4 (ix6 u 1 b h p n) = A_main_v28 (F := Ideal) A0 A4 (ix5 u.rev b h p n) := by
  pointwise [A_main_v32, A_main_v31, A_main_v29]
  rfl

/-! ## One trip -/

theorem word_int : ∀ j : Fin 16, (BitVec.ofNat 32 j.val).toInt = (j.val : Int) := by decide
theorem slices4 : ∀ j : Fin 16, S16x2x8x32.Slices ![j.val, 0, 0, 0] S1x2x8x32 := by decide
theorem slices6 : ∀ j : Fin 16, S16x2x8x32x64x128.Slices ![j.val, 0, 0, 0, 0, 0] S1x2x8x32x64x128 := by decide

theorem end_eq (j : Fin 16) (s : State Ideal) : b3 (F := Ideal) j.val s = extractStridedSlice S1x2x8x32 ![j.val, 0, 0, 0] s.main_v47_0 (slices4 j) := by
  unfold b3
  refine WordCmp.dynamicSlice_eq_extract _ _ _ _ _ _ fun a => ?_
  match a with
  | ⟨0, _⟩ => exact word_int j
  | ⟨1, _⟩ => rfl
  | ⟨2, _⟩ => rfl
  | ⟨3, _⟩ => rfl

theorem add_eq (j : Fin 16) (s : State Ideal) : b10 (F := Ideal) j.val s = extractStridedSlice S1x2x8x32x64x128 ![j.val, 0, 0, 0, 0, 0] s.main_v47_1 (slices6 j) := by
  unfold b10
  refine WordCmp.dynamicSlice_eq_extract _ _ _ _ _ _ fun a => ?_
  match a with
  | ⟨0, _⟩ => exact word_int j
  | ⟨1, _⟩ => rfl
  | ⟨2, _⟩ => rfl
  | ⟨3, _⟩ => rfl
  | ⟨4, _⟩ => rfl
  | ⟨5, _⟩ => rfl

theorem put_eq (j : Fin 16) (s : State Ideal) : b22 (F := Ideal) j.val s = updateSlice s.main_v47_4 (b16 (F := Ideal) j.val s) ![j.val, 0, 0, 0, 0, 0] (slices6 j) := by
  unfold b22
  refine WordCmp.dynamicUpdateSlice_eq_update _ _ _ _ _ _ fun a => ?_
  match a with
  | ⟨0, _⟩ => exact word_int j
  | ⟨1, _⟩ => rfl
  | ⟨2, _⟩ => rfl
  | ⟨3, _⟩ => rfl
  | ⟨4, _⟩ => rfl
  | ⟨5, _⟩ => rfl

theorem next_at (j : Fin 16) (s : State Ideal) (d : Fin 2) (b : Fin 8) (h : Fin 32) (p : Fin 64) (n : Fin 128) :
    b15 (F := Ideal) j.val s (ix5 d b h p n) = s.main_v47_3 (ix5 d b h p n) * s.main_v47_0 (ix4 j d b h) + s.main_v47_1 (ix6 j d b h p n) := by
  pointwise [b15, b14, b13, b12, b11, b4, end_eq, add_eq]

theorem put_at (j : Fin 16) (s : State Ideal) (u : Fin 16) (d : Fin 2) (b : Fin 8) (h : Fin 32) (p : Fin 64) (n : Fin 128) :
    b22 (F := Ideal) j.val s (ix6 u d b h p n) = if u = j then s.main_v47_3 (ix5 d b h p n) else s.main_v47_4 (ix6 u d b h p n) := by
  rw [put_eq]
  pointwise [b16]
  by_cases e : u = j
  · rw [dif_pos ⟨by rw [e], by rw [e]; exact Nat.lt_succ_self _⟩, if_pos e]
  · rw [dif_neg fun h => e (Fin.ext (by omega)), if_neg e]

/-! ## All trips -/

/-- The state before trip `n`. -/
def iter : ℕ → State Ideal
  | 0 => init A0 A4
  | n + 1 => step n (iter n)

theorem iter_end (n : ℕ) : (iter A0 A4 n).main_v47_0 = A_main_v44 (F := Ideal) A0 A4 := by
  induction n with
  | zero => rfl
  | succ n ih => exact ih

theorem iter_add (n : ℕ) : (iter A0 A4 n).main_v47_1 = A_main_v32 (F := Ideal) A0 A4 := by
  induction n with
  | zero => rfl
  | succ n ih => exact ih

section
variable (A1 : FVec Ideal S8x2048x2048 .bf16) (A2 : FVec Ideal S8x16x2x64x128 .f32) (A3 : FVec Ideal S8x4x2048x128 .f32)
  (A5 : FVec Ideal S32 .f32) (A6 : FVec Ideal S2048 .f32)

/-- The data of sequence `b` and of the group that head `h` belongs to. -/
abbrev dataAt (b : Fin 8) (h : Fin 32) : Data := data A0 A1 A2 A3 A4 A5 A6 b ⟨h.val / 8, by omega⟩

/-- Component `p` of head `h`, as a channel of its group. -/
def chan (h : Fin 32) (p : Fin 64) : Fin 512 := ⟨64 * (h.val % 8) + p.val, by omega⟩

theorem hd_chan (h : Fin 32) (p : Fin 64) : hd (chan h p) = ⟨h.val % 8, by omega⟩ :=
  Fin.ext (by show (64 * (h.val % 8) + p.val) / 64 = h.val % 8; omega)

theorem scan_endF (b : Fin 8) (u : Fin 16) (h : Fin 32) (p : Fin 64) :
    A_main_v44 (F := Ideal) A0 A4 (ix4 u 0 b h) = (dataAt A0 A4 A1 A2 A3 A5 A6 b h).eF u 127 (hd (chan h p)) := by
  rw [endF_at, fac_at, hd_chan]
  simp only [data]

theorem scan_endB (b : Fin 8) (u : Fin 16) (h : Fin 32) (p : Fin 64) :
    A_main_v44 (F := Ideal) A0 A4 (ix4 u 1 b h) = (dataAt A0 A4 A1 A2 A3 A5 A6 b h).eB u.rev 0 (hd (chan h p)) := by
  rw [endB_at, fac_at, hd_chan]
  simp only [data]
  blk_point

theorem scan_newF (b : Fin 8) (u : Fin 16) (h : Fin 32) (p : Fin 64) (n : Fin 128) :
    A_main_v22 (F := Ideal) A0 A4 (ix5 u b h p n) = ∑ l : Fin 128, (dataAt A0 A4 A1 A2 A3 A5 A6 b h).b u l n
      * ((dataAt A0 A4 A1 A2 A3 A5 A6 b h).x u l (chan h p) * (dataAt A0 A4 A1 A2 A3 A5 A6 b h).wF u l (hd (chan h p))) := by
  rw [newF_at, hd_chan]
  refine Finset.sum_congr rfl fun l _ => ?_
  rw [mul_comm, fac_at]
  simp only [data, chan]
  blk_point

theorem scan_newB (b : Fin 8) (u : Fin 16) (h : Fin 32) (p : Fin 64) (n : Fin 128) :
    A_main_v28 (F := Ideal) A0 A4 (ix5 u b h p n) = ∑ l : Fin 128, (dataAt A0 A4 A1 A2 A3 A5 A6 b h).b u l n
      * ((dataAt A0 A4 A1 A2 A3 A5 A6 b h).x u l (chan h p) * (dataAt A0 A4 A1 A2 A3 A5 A6 b h).wB u l (hd (chan h p))) := by
  rw [newB_at, hd_chan]
  refine Finset.sum_congr rfl fun l _ => ?_
  rw [mul_comm, fac_at]
  simp only [data, chan]
  blk_point

/-- The carried states before trip `n`. -/
theorem iter_at (n : ℕ) (hn : n ≤ 16) (b : Fin 8) (h : Fin 32) (p : Fin 64) (k : Fin 128) :
    (iter A0 A4 n).main_v47_3 (ix5 0 b h p k) = (dataAt A0 A4 A1 A2 A3 A5 A6 b h).stF n k (chan h p)
    ∧ (iter A0 A4 n).main_v47_3 (ix5 1 b h p k) = (dataAt A0 A4 A1 A2 A3 A5 A6 b h).stB n k (chan h p) := by
  induction n with
  | zero =>
    have h0 (d : Fin 2) : (iter A0 A4 0).main_v47_3 (ix5 d b h p k) = (0 : EReal) := by
      show K_main_v45 (F := Ideal) (ix5 d b h p k) = _
      pointwise [K_main_v45, K_main_cst]
    exact ⟨h0 0, h0 1⟩
  | succ n ih =>
    obtain ⟨i0, i1⟩ := ih (by omega)
    obtain ⟨j, rfl⟩ : ∃ j : Fin 16, j.val = n := ⟨⟨n, by omega⟩, rfl⟩
    refine ⟨(next_at j (iter A0 A4 j.val) 0 b h p k).trans ?_, (next_at j (iter A0 A4 j.val) 1 b h p k).trans ?_⟩
    · rw [i0, iter_end, iter_add, scan_endF A0 A4 A1 A2 A3 A5 A6 b j h p, addF_at, scan_newF A0 A4 A1 A2 A3 A5 A6, Data.stF_succ]
    · rw [i1, iter_end, iter_add, scan_endB A0 A4 A1 A2 A3 A5 A6 b j h p, addB_at, scan_newB A0 A4 A1 A2 A3 A5 A6, Data.stB_succ]

/-- The states handed out by the first `n` trips. -/
theorem kept_at (n : ℕ) (hn : n ≤ 16) (u : Fin 16) (hu : u.val < n) (d : Fin 2) (b : Fin 8) (h : Fin 32) (p : Fin 64) (k : Fin 128) :
    (iter A0 A4 n).main_v47_4 (ix6 u d b h p k) = (iter A0 A4 u.val).main_v47_3 (ix5 d b h p k) := by
  induction n with
  | zero => exact absurd hu (Nat.not_lt_zero _)
  | succ n ih =>
    obtain ⟨j, rfl⟩ : ∃ j : Fin 16, j.val = n := ⟨⟨n, by omega⟩, rfl⟩
    refine (put_at j (iter A0 A4 j.val) u d b h p k).trans ?_
    by_cases e : u = j
    · rw [if_pos e, e]
    · rw [if_neg e, ih (by omega) (by have : u.val ≠ j.val := fun h => e (Fin.ext h); omega)]

/-- The forward state that chunk `u` meets, -/
theorem statesF_at (u : Fin 16) (b : Fin 8) (h : Fin 32) (p : Fin 64) (k : Fin 128) :
    (iter A0 A4 16).main_v47_4 (ix6 u 0 b h p k) = (dataAt A0 A4 A1 A2 A3 A5 A6 b h).stF u.val k (chan h p) := by
  rw [kept_at A0 A4 16 le_rfl u u.isLt, (iter_at A0 A4 A1 A2 A3 A5 A6 u.val (by omega) b h p k).1]

/-- and the backward state of the last chunk but `u`. -/
theorem statesB_at (u : Fin 16) (b : Fin 8) (h : Fin 32) (p : Fin 64) (k : Fin 128) :
    (iter A0 A4 16).main_v47_4 (ix6 u 1 b h p k) = (dataAt A0 A4 A1 A2 A3 A5 A6 b h).stB u.val k (chan h p) := by
  rw [kept_at A0 A4 16 le_rfl u u.isLt, (iter_at A0 A4 A1 A2 A3 A5 A6 u.val (by omega) b h p k).2]

end

end Cert.SsdRefIdeal.Chunk
end
-- ==== Proof.SsdRefOut.lean ====
/-
  The reference's result: after its scan, entry by entry the result of the arguments.
-/
module

public import proofs.«01_k».proof.Proof.SsdRefScan

@[expose] public section

set_option maxRecDepth 16384

noncomputable section

namespace Cert.SsdRefIdeal.Chunk

open Cert.SsdRefIdeal Cert.SsdRefIdeal.Gen Idealize.ShloMosaic Idealize.ShloMosaic.TcCoe Cert.Ssm Cert.SsdRefIdeal.Step

variable (s : State Ideal) (A0 : FVec Ideal S8x2048x3072 .bf16) (A1 : FVec Ideal S8x2048x2048 .bf16) (A2 : FVec Ideal S8x16x2x64x128 .f32)
  (A3 : FVec Ideal S8x4x2048x128 .f32) (A4 : FVec Ideal S8x4x2048x128 .bf16) (A5 : FVec Ideal S32 .f32) (A6 : FVec Ideal S2048 .f32)

/-! ## The arrays the result is made of -/

/-- The inputs, by sequence, chunk, token, group, head and component. -/
def xs : FVec Ideal S8x16x128x4x8x64 .f32 :=
  shapeCast _ (extractStridedSlice S8x2048x2048 ![0, 0, 0] (extf .f32 A0 bitsLt_bf16_f32) slices_S8x2048x3072_S8x2048x2048_0_0_0) shapeCasts_S8x2048x2048_S8x16x128x4x8x64

/-- The output vectors. -/
def cs : FVec Ideal S8x16x128x4x128 .f32 :=
  shapeCast _ (extractStridedSlice S8x2048x512 ![0, 0, 2560] (extf .f32 A0 bitsLt_bf16_f32) slices_S8x2048x3072_S8x2048x512_0_0_2560) shapeCasts_S8x2048x512_S8x16x128x4x128

/-- The input vectors. -/
def bs : FVec Ideal S8x16x128x4x128 .f32 :=
  shapeCast _ (extractStridedSlice S8x2048x512 ![0, 0, 2048] (extf .f32 A0 bitsLt_bf16_f32) slices_S8x2048x3072_S8x2048x512_0_0_2048) shapeCasts_S8x2048x512_S8x16x128x4x128

/-- The products of output and input vectors within a chunk, for every head. -/
def scores : FVec Ideal S8x16x4x8x128x128 .f32 :=
  broadcastInDim S8x16x4x8x128x128 ![0, 1, 2, 3, 4, 5] bcast_S8x16x4x1x128x128_S8x16x4x8x128x128_0_1_2_3_4_5
    (broadcastInDim S8x16x4x1x128x128 ![0, 1, 2, 4, 5] bcast_S8x16x4x128x128_S8x16x4x1x128x128_0_1_2_4_5
      (Host.dotGeneral dot_S8x16x128x4x128_S8x16x128x4x128_S8x16x4x128x128_4_4_2_2_013_013 none (cs A0) (bs A0)))

/-- The cumulative decays, token last. -/
def decays : FVec Ideal S8x16x4x128x128 .f32 :=
  transpose S8x16x4x128x128 [0, 2, 1, 4, 3] (shapeCast _ A3 shapeCasts_S8x4x2048x128_S8x4x16x128x128) transposes_S8x4x16x128x128_S8x16x4x128x128_0_2_1_4_3

/-- The cumulative decays less the steps' logarithms, -/
def rowsOff : FVec Ideal S8x16x4x16x128 .f32 :=
  shapeCast _ (shapeCast _ (extractStridedSlice S8x16x1x64x128 ![0, 0, 0, 0, 0] A2 slices_S8x16x2x64x128_S8x16x1x64x128_0_0_0_0_0) shapeCasts_S8x16x1x64x128_S8x16x64x128) shapeCasts_S8x16x64x128_S8x16x4x16x128

/-- and the logarithms of the two directions' steps summed. -/
def rowsOn : FVec Ideal S8x16x4x16x128 .f32 :=
  shapeCast _ (shapeCast _ (extractStridedSlice S8x16x1x64x128 ![0, 0, 1, 0, 0] A2 slices_S8x16x2x64x128_S8x16x1x64x128_0_0_1_0_0) shapeCasts_S8x16x1x64x128_S8x16x64x128) shapeCasts_S8x16x64x128_S8x16x4x16x128

def zeros : FVec Ideal S8x16x4x8x128x128 .f32 :=
  broadcastInDim S8x16x4x8x128x128 ![] bcast_S_S8x16x4x8x128x128 (id (constant S_ .f32 0x00000000#32))

/-- A column of decays for every token of the chunk, -/
def spreadCol (v : FVec Ideal S8x16x4x8x128 .f32) : FVec Ideal S8x16x4x8x128x128 .f32 :=
  broadcastInDim S8x16x4x8x128x128 ![0, 1, 2, 3, 4, 5] bcast_S8x16x4x8x128x1_S8x16x4x8x128x128_0_1_2_3_4_5
    (broadcastInDim S8x16x4x8x128x1 ![0, 1, 2, 3, 4] bcast_S8x16x4x8x128_S8x16x4x8x128x1_0_1_2_3_4 v)

/-- and a row. -/
def spreadRow (v : FVec Ideal S8x16x4x8x128 .f32) : FVec Ideal S8x16x4x8x128x128 .f32 :=
  broadcastInDim S8x16x4x8x128x128 ![0, 1, 2, 3, 4, 5] bcast_S8x16x4x8x1x128_S8x16x4x8x128x128_0_1_2_3_4_5
    (broadcastInDim S8x16x4x8x1x128 ![0, 1, 2, 3, 5] bcast_S8x16x4x8x128_S8x16x4x8x1x128_0_1_2_3_5 v)

/-- The weights of earlier tokens, -/
def weightF : FVec Ideal S8x16x4x8x128x128 .f32 :=
  mulf (scores A0) (select (cmpi .slt (iotaInDim S8x16x4x8x128x128 32 5) (iotaInDim S8x16x4x8x128x128 32 4))
    (Host.exp (subf (spreadCol (extractStridedSlice S8x16x4x8x128 ![0, 0, 0, 0, 0] (decays A3) slices_S8x16x4x128x128_S8x16x4x8x128_0_0_0_0_0))
      (spreadRow (extractStridedSlice S8x16x4x8x128 ![0, 0, 0, 0, 0] (rowsOff A2) slices_S8x16x4x16x128_S8x16x4x8x128_0_0_0_0_0)))) zeros)

/-- of later tokens, -/
def weightB : FVec Ideal S8x16x4x8x128x128 .f32 :=
  mulf (scores A0) (select (cmpi .sgt (iotaInDim S8x16x4x8x128x128 32 5) (iotaInDim S8x16x4x8x128x128 32 4))
    (Host.exp (subf (spreadCol (extractStridedSlice S8x16x4x8x128 ![0, 0, 0, 8, 0] (decays A3) slices_S8x16x4x128x128_S8x16x4x8x128_0_0_0_8_0))
      (spreadRow (extractStridedSlice S8x16x4x8x128 ![0, 0, 0, 8, 0] (rowsOff A2) slices_S8x16x4x16x128_S8x16x4x8x128_0_0_0_8_0)))) zeros)

/-- and of the token itself. -/
def weightS : FVec Ideal S8x16x4x8x128x128 .f32 :=
  mulf (scores A0) (select (cmpi .eq (iotaInDim S8x16x4x8x128x128 32 5) (iotaInDim S8x16x4x8x128x128 32 4))
    (spreadRow (Host.exp (extractStridedSlice S8x16x4x8x128 ![0, 0, 0, 0, 0] (rowsOn A2) slices_S8x16x4x16x128_S8x16x4x8x128_0_0_0_0_0))) zeros)

/-- The inputs summed by weight within a chunk. -/
def weighed (w : FVec Ideal S8x16x4x8x128x128 .f32) : FVec Ideal S8x16x128x4x8x64 .f32 :=
  transpose S8x16x128x4x8x64 [0, 1, 5, 2, 3, 4]
    (Host.dotGeneral dot_S8x16x128x4x8x64_S8x16x4x8x128x128_S8x16x4x8x64x128_2_5_5_4_0134_0123 none (xs A0) w) transposes_S8x16x4x8x64x128_S8x16x128x4x8x64_0_1_5_2_3_4

/-- States met by the output vectors. -/
def met (t : FVec Ideal S16x8x4x8x64x128 .f32) : FVec Ideal S8x16x128x4x8x64 .f32 :=
  transpose S8x16x128x4x8x64 [0, 1, 5, 2, 3, 4]
    (Host.dotGeneral dot_S16x8x4x8x64x128_S8x16x128x4x128_S8x16x4x8x64x128_5_4_34_2_102_013 none t (cs A0)) transposes_S8x16x4x8x64x128_S8x16x128x4x8x64_0_1_5_2_3_4

/-- The forward states, -/
def statesF : FVec Ideal S16x8x4x8x64x128 .f32 :=
  shapeCast _ (shapeCast S16x8x32x64x128 (extractStridedSlice S16x1x8x32x64x128 ![0, 0, 0, 0, 0, 0] s.main_v47_4 slices_S16x2x8x32x64x128_S16x1x8x32x64x128_0_0_0_0_0_0) shapeCasts_S16x1x8x32x64x128_S16x8x32x64x128) shapeCasts_S16x8x32x64x128_S16x8x4x8x64x128

/-- and the backward states by chunk. -/
def statesB : FVec Ideal S16x8x4x8x64x128 .f32 :=
  shapeCast _ (Host.reverse [0] (shapeCast S16x8x32x64x128 (extractStridedSlice S16x1x8x32x64x128 ![0, 1, 0, 0, 0, 0] s.main_v47_4 slices_S16x2x8x32x64x128_S16x1x8x32x64x128_0_1_0_0_0_0) shapeCasts_S16x1x8x32x64x128_S16x8x32x64x128)) shapeCasts_S16x8x32x64x128_S16x8x4x8x64x128

/-- A head's decay for each of its components. -/
def spreadHead (v : FVec Ideal S8x16x4x8x128 .f32) : FVec Ideal S8x16x128x4x8x64 .f32 :=
  broadcastInDim S8x16x128x4x8x64 ![0, 1, 2, 3, 4, 5] bcast_S8x16x128x4x8x1_S8x16x128x4x8x64_0_1_2_3_4_5
    (broadcastInDim S8x16x128x4x8x1 ![0, 1, 2, 3, 4] bcast_S8x16x128x4x8_S8x16x128x4x8x1_0_1_2_3_4
      (transpose S8x16x128x4x8 [0, 1, 4, 2, 3] v transposes_S8x16x4x8x128_S8x16x128x4x8_0_1_4_2_3))

/-- The skips. -/
def skips : FVec Ideal S8x16x128x4x8x64 .f32 :=
  broadcastInDim S8x16x128x4x8x64 ![0, 1, 2, 3, 4, 5] bcast_S1x1x1x4x8x1_S8x16x128x4x8x64_0_1_2_3_4_5
    (broadcastInDim S1x1x1x4x8x1 ![3, 4, 5] bcast_S4x8x1_S1x1x1x4x8x1_3_4_5
      (broadcastInDim S4x8x1 ![0, 1] bcast_S4x8_S4x8x1_0_1 (shapeCast _ A5 shapeCasts_S32_S4x8)))

/-- The scan's output. -/
def scanned : FVec Ideal S8x16x128x4x8x64 .f32 :=
  addf (addf (addf (addf (addf (weighed A0 (weightF A0 A2 A3)) (weighed A0 (weightB A0 A2 A3))) (weighed A0 (weightS A0 A2)))
      (mulf (met A0 (statesF s)) (spreadHead (extractStridedSlice S8x16x4x8x128 ![0, 0, 0, 0, 0] (A_main_v12 (F := Ideal) A0 A4) slices_S8x16x4x32x128_S8x16x4x8x128_0_0_0_0_0))))
      (mulf (met A0 (statesB s)) (spreadHead (extractStridedSlice S8x16x4x8x128 ![0, 0, 0, 8, 0] (A_main_v12 (F := Ideal) A0 A4) slices_S8x16x4x32x128_S8x16x4x8x128_0_0_0_8_0))))
    (mulf (skips A5) (xs A0))

/-- The output gated. -/
def gated (y : FVec Ideal S8x16x128x4x8x64 .f32) : FVec Ideal S8x2048x4x512 .f32 :=
  mulf (shapeCast _ y shapeCasts_S8x16x128x4x8x64_S8x2048x4x512) (shapeCast _ (extf .f32 A1 bitsLt_bf16_f32) shapeCasts_S8x2048x2048_S8x2048x4x512)

/-- The reciprocal root of each group's mean square. -/
def scales (v : FVec Ideal S8x2048x4x512 .f32) : FVec Ideal S8x2048x4x1 .f32 :=
  Host.rsqrt (addf (Host.divf (broadcastInDim S8x2048x4x1 ![0, 1, 2] bcast_S8x2048x4_S8x2048x4x1_0_1_2
      (Host.reduceAdd (mulf v v) (constant S_ .f32 0x00000000#32) reducesTo_S8x2048x4x512_S8x2048x4_d3 h_S_))
    (broadcastInDim S8x2048x4x1 ![] bcast_S_S8x2048x4x1 (constant S_ .f32 0x44000000#32)))
    (broadcastInDim S8x2048x4x1 ![] bcast_S_S8x2048x4x1 (constant S_ .f32 0x3727C5AC#32)))

/-- The output normalised. -/
def finished (v : FVec Ideal S8x2048x4x512 .f32) : FVec Ideal S8x2048x2048 .bf16 :=
  truncf .bf16 (mulf (shapeCast _ (mulf v (broadcastInDim S8x2048x4x512 ![0, 1, 2, 3] bcast_S8x2048x4x1_S8x2048x4x512_0_1_2_3 (scales v))) shapeCasts_S8x2048x4x512_S8x2048x2048)
    (broadcastInDim S8x2048x2048 ![0, 1, 2] bcast_S1x1x2048_S8x2048x2048_0_1_2 (broadcastInDim S1x1x2048 ![2] bcast_S2048_S1x1x2048_2 A6))) bitsLt_bf16_f32

theorem R_eq : R_main_v161 (F := Ideal) s A0 A1 A2 A3 A4 A5 A6 = finished A6 (gated A1 (scanned s A0 A2 A3 A4 A5)) := by
  unfold R_main_v161
  rfl

/-! ## Their entries -/

theorem xs_at (b : Fin 8) (u : Fin 16) (l : Fin 128) (g : Fin 4) (h : Fin 8) (p : Fin 64) :
    xs A0 (ix6 b u l g h p) = A0 (ix3 b (tok u l) ⟨512 * g.val + (64 * h.val + p.val), by omega⟩) := by
  pointwise [xs]
  blk_point [tok]

theorem scores_at (b : Fin 8) (u : Fin 16) (g : Fin 4) (h : Fin 8) (l t : Fin 128) :
    scores A0 (ix6 b u g h l t) = ∑ n : Fin 128, A0 (ix3 b (tok u l) ⟨2560 + 128 * g.val + n.val, by omega⟩) * A0 (ix3 b (tok u t) ⟨2048 + 128 * g.val + n.val, by omega⟩) := by
  pointwise [scores, cs, bs]
  blk_point [tok]

theorem decays_at (b : Fin 8) (u : Fin 16) (g : Fin 4) (k l : Fin 128) : decays A3 (ix5 b u g k l) = A3 (ix4 b g (tok u l) k) := by
  pointwise [decays]
  blk_point [tok]

theorem rowsOff_at (b : Fin 8) (u : Fin 16) (g : Fin 4) (j : Fin 16) (t : Fin 128) :
    rowsOff A2 (ix5 b u g j t) = A2 (ix5 b u 0 ⟨16 * g.val + j.val, by omega⟩ t) := by
  pointwise [rowsOff]
  blk_point

theorem rowsOn_at (b : Fin 8) (u : Fin 16) (g : Fin 4) (j : Fin 16) (t : Fin 128) :
    rowsOn A2 (ix5 b u g j t) = A2 (ix5 b u 1 ⟨16 * g.val + j.val, by omega⟩ t) := by
  pointwise [rowsOn]
  blk_point

theorem zeros_at (b : Fin 8) (u : Fin 16) (g : Fin 4) (h : Fin 8) (l t : Fin 128) : zeros (ix6 b u g h l t) = (0 : EReal) := by
  pointwise [zeros]
  show constant (F := Ideal) S_ .f32 0x00000000#32 ix0 = _
  pointwise

theorem spreadCol_at (v : FVec Ideal S8x16x4x8x128 .f32) (b : Fin 8) (u : Fin 16) (g : Fin 4) (h : Fin 8) (l t : Fin 128) :
    spreadCol v (ix6 b u g h l t) = v (ix5 b u g h l) := by
  pointwise [spreadCol]

theorem spreadRow_at (v : FVec Ideal S8x16x4x8x128 .f32) (b : Fin 8) (u : Fin 16) (g : Fin 4) (h : Fin 8) (l t : Fin 128) :
    spreadRow v (ix6 b u g h l t) = v (ix5 b u g h t) := by
  pointwise [spreadRow]

theorem weighed_at (w : FVec Ideal S8x16x4x8x128x128 .f32) (b : Fin 8) (u : Fin 16) (l : Fin 128) (g : Fin 4) (h : Fin 8) (p : Fin 64) :
    weighed A0 w (ix6 b u l g h p) = ∑ t : Fin 128, xs A0 (ix6 b u t g h p) * w (ix6 b u g h l t) := by
  pointwise [weighed]

theorem met_at (t : FVec Ideal S16x8x4x8x64x128 .f32) (b : Fin 8) (u : Fin 16) (l : Fin 128) (g : Fin 4) (h : Fin 8) (p : Fin 64) :
    met A0 t (ix6 b u l g h p) = ∑ n : Fin 128, t (ix6 u b g h p n) * A0 (ix3 b (tok u l) ⟨2560 + 128 * g.val + n.val, by omega⟩) := by
  pointwise [met, cs]
  blk_point [tok]

theorem statesF_read (u : Fin 16) (b : Fin 8) (g : Fin 4) (h : Fin 8) (p : Fin 64) (n : Fin 128) :
    statesF s (ix6 u b g h p n) = s.main_v47_4 (ix6 u 0 b ⟨8 * g.val + h.val, by omega⟩ p n) := by
  pointwise [statesF]
  blk_point

theorem spreadHead_at (v : FVec Ideal S8x16x4x8x128 .f32) (b : Fin 8) (u : Fin 16) (l : Fin 128) (g : Fin 4) (h : Fin 8) (p : Fin 64) :
    spreadHead v (ix6 b u l g h p) = v (ix5 b u g h l) := by
  pointwise [spreadHead]

theorem skips_at (b : Fin 8) (u : Fin 16) (l : Fin 128) (g : Fin 4) (h : Fin 8) (p : Fin 64) :
    skips A5 (ix6 b u l g h p) = A5 (ix1 ⟨8 * g.val + h.val, by omega⟩) := by
  pointwise [skips]
  blk_point

theorem gated_at (y : FVec Ideal S8x16x128x4x8x64 .f32) (b : Fin 8) (i : Fin 2048) (g : Fin 4) (q : Fin 512) :
    gated A1 y (ix4 b i g q) = y (ix6 b ⟨i.val / 128, by omega⟩ ⟨i.val % 128, by omega⟩ g ⟨q.val / 64, by omega⟩ ⟨q.val % 64, by omega⟩)
      * A1 (ix3 b i ⟨512 * g.val + q.val, by omega⟩) := by
  pointwise [gated]
  blk_point

theorem finished_at (v : FVec Ideal S8x2048x4x512 .f32) (b : Fin 8) (i q : Fin 2048) :
    finished A6 v (ix3 b i q) = v (ix4 b i ⟨q.val / 512, by omega⟩ ⟨q.val % 512, by omega⟩)
      * Ideal.rsqrt (Ideal.div (∑ p : Fin 512, v (ix4 b i ⟨q.val / 512, by omega⟩ p) * v (ix4 b i ⟨q.val / 512, by omega⟩ p)) (Ideal.ofBits .f32 0x44000000#32)
        + Ideal.ofBits .f32 0x3727C5AC#32) * A6 (ix1 q) := by
  pointwise [finished, scales]

theorem statesB_read (u : Fin 16) (b : Fin 8) (g : Fin 4) (h : Fin 8) (p : Fin 64) (n : Fin 128) :
    statesB s (ix6 u b g h p n) = s.main_v47_4 (ix6 u.rev 1 b ⟨8 * g.val + h.val, by omega⟩ p n) := by
  pointwise [statesB]
  show s.main_v47_4 (ix6 u.rev 1 b ⟨g.val * 8 + h.val, _⟩ p n) = _
  blk_point

theorem decF_at (b : Fin 8) (u : Fin 16) (g : Fin 4) (h : Fin 8) (l : Fin 128) :
    extractStridedSlice S8x16x4x8x128 ![0, 0, 0, 0, 0] (decays A3) slices_S8x16x4x128x128_S8x16x4x8x128_0_0_0_0_0 (ix5 b u g h l)
      = A3 (ix4 b g (tok u l) ⟨h.val, by omega⟩) := by
  rw [← decays_at A3 b u g _ l]
  pointwise

theorem decB_at (b : Fin 8) (u : Fin 16) (g : Fin 4) (h : Fin 8) (l : Fin 128) :
    extractStridedSlice S8x16x4x8x128 ![0, 0, 0, 8, 0] (decays A3) slices_S8x16x4x128x128_S8x16x4x8x128_0_0_0_8_0 (ix5 b u g h l)
      = A3 (ix4 b g (tok u l) ⟨h.val + 8, by omega⟩) := by
  rw [← decays_at A3 b u g _ l]
  pointwise
  exact congrArg (fun k => decays A3 (ix5 b u g k l)) (Fin.ext (Nat.add_comm _ _))

theorem offF_at (b : Fin 8) (u : Fin 16) (g : Fin 4) (h : Fin 8) (t : Fin 128) :
    extractStridedSlice S8x16x4x8x128 ![0, 0, 0, 0, 0] (rowsOff A2) slices_S8x16x4x16x128_S8x16x4x8x128_0_0_0_0_0 (ix5 b u g h t)
      = A2 (ix5 b u 0 ⟨16 * g.val + h.val, by omega⟩ t) := by
  rw [← rowsOff_at A2 b u g ⟨h.val, by omega⟩ t]
  pointwise

theorem offB_at (b : Fin 8) (u : Fin 16) (g : Fin 4) (h : Fin 8) (t : Fin 128) :
    extractStridedSlice S8x16x4x8x128 ![0, 0, 0, 8, 0] (rowsOff A2) slices_S8x16x4x16x128_S8x16x4x8x128_0_0_0_8_0 (ix5 b u g h t)
      = A2 (ix5 b u 0 ⟨16 * g.val + (h.val + 8), by omega⟩ t) := by
  rw [← rowsOff_at A2 b u g ⟨h.val + 8, by omega⟩ t]
  pointwise
  exact congrArg (fun k => rowsOff A2 (ix5 b u g k t)) (Fin.ext (Nat.add_comm _ _))

theorem on_at (b : Fin 8) (u : Fin 16) (g : Fin 4) (h : Fin 8) (t : Fin 128) :
    extractStridedSlice S8x16x4x8x128 ![0, 0, 0, 0, 0] (rowsOn A2) slices_S8x16x4x16x128_S8x16x4x8x128_0_0_0_0_0 (ix5 b u g h t)
      = A2 (ix5 b u 1 ⟨16 * g.val + h.val, by omega⟩ t) := by
  rw [← rowsOn_at A2 b u g ⟨h.val, by omega⟩ t]
  pointwise

theorem eq_at : ∀ t l : Fin 128, IntOp.cmpi .eq (BitVec.ofNat 32 t.val) (BitVec.ofNat 32 l.val) = BitVec.ofBool (decide (t.val = l.val)) := by
  decide +kernel

theorem pickF (x y : FVec Ideal S8x16x4x8x128x128 .f32) (b : Fin 8) (u : Fin 16) (g : Fin 4) (h : Fin 8) (l t : Fin 128) :
    select (cmpi .slt (iotaInDim S8x16x4x8x128x128 32 5) (iotaInDim S8x16x4x8x128x128 32 4)) x y (ix6 b u g h l t)
      = if t.val < l.val then x (ix6 b u g h l t) else y (ix6 b u g h l t) := by
  pointwise
  rw [SsdIdeal.Chunk.slt_at, Scalar.select_decide]

theorem pickB (x y : FVec Ideal S8x16x4x8x128x128 .f32) (b : Fin 8) (u : Fin 16) (g : Fin 4) (h : Fin 8) (l t : Fin 128) :
    select (cmpi .sgt (iotaInDim S8x16x4x8x128x128 32 5) (iotaInDim S8x16x4x8x128x128 32 4)) x y (ix6 b u g h l t)
      = if l.val < t.val then x (ix6 b u g h l t) else y (ix6 b u g h l t) := by
  pointwise
  rw [SsdIdeal.Chunk.sgt_at, Scalar.select_decide]

theorem pickS (x y : FVec Ideal S8x16x4x8x128x128 .f32) (b : Fin 8) (u : Fin 16) (g : Fin 4) (h : Fin 8) (l t : Fin 128) :
    select (cmpi .eq (iotaInDim S8x16x4x8x128x128 32 5) (iotaInDim S8x16x4x8x128x128 32 4)) x y (ix6 b u g h l t)
      = if t.val = l.val then x (ix6 b u g h l t) else y (ix6 b u g h l t) := by
  pointwise
  rw [eq_at, Scalar.select_decide]

theorem weightF_at (b : Fin 8) (u : Fin 16) (g : Fin 4) (h : Fin 8) (l t : Fin 128) :
    weightF A0 A2 A3 (ix6 b u g h l t) = (data A0 A1 A2 A3 A4 A5 A6 b g).score u l t
      * (if t.val < l.val then Ideal.exp ((data A0 A1 A2 A3 A4 A5 A6 b g).a u l ⟨h.val, by omega⟩ - (data A0 A1 A2 A3 A4 A5 A6 b g).r u ⟨h.val, by omega⟩ t) else 0) := by
  unfold weightF
  rw [mulf_apply, pickF, scores_at, zeros_at, Host.exp_apply, subf_apply, spreadCol_at, spreadRow_at, decF_at, offF_at]
  rfl

theorem weightB_at (b : Fin 8) (u : Fin 16) (g : Fin 4) (h : Fin 8) (l t : Fin 128) :
    weightB A0 A2 A3 (ix6 b u g h l t) = (data A0 A1 A2 A3 A4 A5 A6 b g).score u l t
      * (if l.val < t.val then Ideal.exp ((data A0 A1 A2 A3 A4 A5 A6 b g).a u l ⟨h.val + 8, by omega⟩ - (data A0 A1 A2 A3 A4 A5 A6 b g).r u ⟨h.val + 8, by omega⟩ t) else 0) := by
  unfold weightB
  rw [mulf_apply, pickB, scores_at, zeros_at, Host.exp_apply, subf_apply, spreadCol_at, spreadRow_at, decB_at, offB_at]
  rfl

theorem weightS_at (b : Fin 8) (u : Fin 16) (g : Fin 4) (h : Fin 8) (l t : Fin 128) :
    weightS A0 A2 (ix6 b u g h l t) = (data A0 A1 A2 A3 A4 A5 A6 b g).score u l t
      * (if t.val = l.val then Ideal.exp ((data A0 A1 A2 A3 A4 A5 A6 b g).s u h t) else 0) := by
  unfold weightS
  rw [mulf_apply, pickS, scores_at, zeros_at, spreadRow_at, Host.exp_apply, on_at]
  rfl

/-! ## The result -/

/-- Component `p` of head `h` of a group, as a channel of the group. -/
def comp (h : Fin 8) (p : Fin 64) : Fin 512 := ⟨64 * h.val + p.val, by omega⟩

theorem hd_comp (h : Fin 8) (p : Fin 64) : hd (comp h p) = h := Fin.ext (by show (64 * h.val + p.val) / 64 = h.val; omega)

/-- One token's contribution: of the three weights one is the token's and the others are zero. -/
theorem one_weight (x s e e' e'' : EReal) (l t : Fin 128) :
    x * (s * if t.val < l.val then e else 0) + x * (s * if l.val < t.val then e' else 0) + x * (s * if t.val = l.val then e'' else 0)
      = s * (if t.val < l.val then e else if l.val < t.val then e' else e'') * x := by
  rcases Nat.lt_trichotomy t.val l.val with h | h | h
  · rw [if_pos h, if_neg (by omega), if_neg (by omega), if_pos h, mul_zero, mul_zero, add_zero, add_zero, mul_comm]
  · rw [if_neg (by omega), if_neg (by omega), if_pos h, if_neg (by omega), if_neg (by omega), mul_zero, mul_zero, zero_add, zero_add, mul_comm]
  · rw [if_neg (by omega), if_pos h, if_neg (by omega), if_neg (by omega), if_pos h, mul_zero, mul_zero, zero_add, add_zero, mul_comm]

section
variable (b : Fin 8) (u : Fin 16) (l : Fin 128) (g : Fin 4) (h : Fin 8) (p : Fin 64)

theorem inside_at : weighed A0 (weightF A0 A2 A3) (ix6 b u l g h p) + weighed A0 (weightB A0 A2 A3) (ix6 b u l g h p) + weighed A0 (weightS A0 A2) (ix6 b u l g h p)
    = (data A0 A1 A2 A3 A4 A5 A6 b g).inside u l (comp h p) := by
  rw [weighed_at, weighed_at, weighed_at, ← Finset.sum_add_distrib, ← Finset.sum_add_distrib]
  refine Finset.sum_congr rfl fun t _ => ?_
  rw [weightF_at A0 A1 A2 A3 A4 A5 A6, weightB_at A0 A1 A2 A3 A4 A5 A6, weightS_at A0 A1 A2 A3 A4 A5 A6, one_weight, xs_at, hd_comp]
  unfold Data.logw
  rw [apply_ite Ideal.exp, apply_ite Ideal.exp]
  rfl

/-- A state that holds the chunks' states of the arguments' data. -/
structure Holds : Prop where
  forward : ∀ (u : Fin 16) (b : Fin 8) (h : Fin 32) (p : Fin 64) (k : Fin 128),
    s.main_v47_4 (ix6 u 0 b h p k) = (dataAt A0 A4 A1 A2 A3 A5 A6 b h).stF u.val k (chan h p)
  backward : ∀ (u : Fin 16) (b : Fin 8) (h : Fin 32) (p : Fin 64) (k : Fin 128),
    s.main_v47_4 (ix6 u 1 b h p k) = (dataAt A0 A4 A1 A2 A3 A5 A6 b h).stB u.val k (chan h p)

variable {s A0 A1 A2 A3 A4 A5 A6} in
theorem stF_at (H : Holds s A0 A1 A2 A3 A4 A5 A6) (n : Fin 128) :
    statesF s (ix6 u b g h p n) = (data A0 A1 A2 A3 A4 A5 A6 b g).stF u.val n (comp h p) := by
  rw [statesF_read, H.forward]
  have eg : (⟨(8 * g.val + h.val) / 8, by omega⟩ : Fin 4) = g := Fin.ext (by show (8 * g.val + h.val) / 8 = g.val; omega)
  have eh : chan ⟨8 * g.val + h.val, by omega⟩ p = comp h p := Fin.ext (by show 64 * ((8 * g.val + h.val) % 8) + p.val = 64 * h.val + p.val; omega)
  unfold dataAt
  rw [eg, eh]

variable {s A0 A1 A2 A3 A4 A5 A6} in
theorem stB_at (H : Holds s A0 A1 A2 A3 A4 A5 A6) (n : Fin 128) :
    statesB s (ix6 u b g h p n) = (data A0 A1 A2 A3 A4 A5 A6 b g).stB u.rev.val n (comp h p) := by
  rw [statesB_read, H.backward]
  have eg : (⟨(8 * g.val + h.val) / 8, by omega⟩ : Fin 4) = g := Fin.ext (by show (8 * g.val + h.val) / 8 = g.val; omega)
  have eh : chan ⟨8 * g.val + h.val, by omega⟩ p = comp h p := Fin.ext (by show 64 * ((8 * g.val + h.val) % 8) + p.val = 64 * h.val + p.val; omega)
  unfold dataAt
  rw [eg, eh]

theorem facF_at : extractStridedSlice S8x16x4x8x128 ![0, 0, 0, 0, 0] (A_main_v12 (F := Ideal) A0 A4) slices_S8x16x4x32x128_S8x16x4x8x128_0_0_0_0_0 (ix5 b u g h l)
    = (data A0 A1 A2 A3 A4 A5 A6 b g).eF u l h := by
  show _ = A4 (ix4 b g (tok u l) ⟨h.val, by omega⟩) + A4 (ix4 b g (tok u l) ⟨32 + h.val, by omega⟩)
  rw [← fac_at A0 A4 b u g ⟨h.val, by omega⟩ l]
  pointwise

theorem facB_at : extractStridedSlice S8x16x4x8x128 ![0, 0, 0, 8, 0] (A_main_v12 (F := Ideal) A0 A4) slices_S8x16x4x32x128_S8x16x4x8x128_0_0_0_8_0 (ix5 b u g h l)
    = (data A0 A1 A2 A3 A4 A5 A6 b g).eB u l h := by
  refine Eq.trans ?_ ((fac_at A0 A4 b u g ⟨8 + h.val, by omega⟩ l).trans ?_)
  · pointwise
  · simp only [data]
    blk_point

variable {s A0 A1 A2 A3 A4 A5 A6} in
theorem scanned_at (H : Holds s A0 A1 A2 A3 A4 A5 A6) : scanned s A0 A2 A3 A4 A5 (ix6 b u l g h p) = (data A0 A1 A2 A3 A4 A5 A6 b g).y u l (comp h p) := by
  have hF : met A0 (statesF s) (ix6 b u l g h p)
      * spreadHead (extractStridedSlice S8x16x4x8x128 ![0, 0, 0, 0, 0] (A_main_v12 (F := Ideal) A0 A4) slices_S8x16x4x32x128_S8x16x4x8x128_0_0_0_0_0) (ix6 b u l g h p)
      = (data A0 A1 A2 A3 A4 A5 A6 b g).before u l (comp h p) := by
    rw [met_at, spreadHead_at, facF_at A0 A1 A2 A3 A4 A5 A6]
    unfold Data.before
    rw [hd_comp]
    refine congrArg (fun v => v * _) (Finset.sum_congr rfl fun n _ => ?_)
    rw [stF_at b u g h p H, mul_comm]
    rfl
  have hB : met A0 (statesB s) (ix6 b u l g h p)
      * spreadHead (extractStridedSlice S8x16x4x8x128 ![0, 0, 0, 8, 0] (A_main_v12 (F := Ideal) A0 A4) slices_S8x16x4x32x128_S8x16x4x8x128_0_0_0_8_0) (ix6 b u l g h p)
      = (data A0 A1 A2 A3 A4 A5 A6 b g).behind u l (comp h p) := by
    rw [met_at, spreadHead_at, facB_at A0 A1 A2 A3 A4 A5 A6]
    unfold Data.behind
    rw [hd_comp]
    refine congrArg (fun v => v * _) (Finset.sum_congr rfl fun n _ => ?_)
    rw [stB_at b u g h p H, mul_comm]
    rfl
  have hS : skips A5 (ix6 b u l g h p) * xs A0 (ix6 b u l g h p)
      = (data A0 A1 A2 A3 A4 A5 A6 b g).d (hd (comp h p)) * (data A0 A1 A2 A3 A4 A5 A6 b g).x u l (comp h p) := by
    rw [skips_at, xs_at, hd_comp]
    rfl
  have hI := inside_at A0 A1 A2 A3 A4 A5 A6 b u l g h p
  show weighed A0 (weightF A0 A2 A3) (ix6 b u l g h p) + weighed A0 (weightB A0 A2 A3) (ix6 b u l g h p) + weighed A0 (weightS A0 A2) (ix6 b u l g h p)
    + met A0 (statesF s) (ix6 b u l g h p) * spreadHead _ (ix6 b u l g h p)
    + met A0 (statesB s) (ix6 b u l g h p) * spreadHead _ (ix6 b u l g h p)
    + skips A5 (ix6 b u l g h p) * xs A0 (ix6 b u l g h p) = _
  rw [hI, hF, hB, hS]
  unfold Data.y
  rw [add_right_comm, add_right_comm (Data.inside _ _ _ _)]

end

section
variable {s A0 A1 A2 A3 A4 A5 A6} (H : Holds s A0 A1 A2 A3 A4 A5 A6)
include H

theorem gated_of (b : Fin 8) (i : Fin 2048) (g : Fin 4) (q : Fin 512) :
    gated A1 (scanned s A0 A2 A3 A4 A5) (ix4 b i g q)
      = (data A0 A1 A2 A3 A4 A5 A6 b g).v ⟨i.val / 128, by omega⟩ ⟨i.val % 128, by omega⟩ q := by
  rw [gated_at, scanned_at _ _ _ _ _ _ H]
  have eq : comp ⟨q.val / 64, by omega⟩ ⟨q.val % 64, by omega⟩ = q := Fin.ext (by show 64 * (q.val / 64) + q.val % 64 = q.val; omega)
  have ei : tok ⟨i.val / 128, by omega⟩ ⟨i.val % 128, by omega⟩ = i := Fin.ext (by show 128 * (i.val / 128) + i.val % 128 = i.val; omega)
  unfold Data.v
  rw [eq]
  simp only [data]
  rw [ei]

/-- The reference's result, entry by entry. -/
theorem R_at (b : Fin 8) (i q : Fin 2048) :
    R_main_v161 (F := Ideal) s A0 A1 A2 A3 A4 A5 A6 (ix3 b i q) = result A0 A1 A2 A3 A4 A5 A6 b i q := by
  rw [R_eq, finished_at, gated_of H]
  simp only [gated_of H]
  have e : A6 (ix1 q) = (data A0 A1 A2 A3 A4 A5 A6 b ⟨q.val / 512, by omega⟩).g ⟨q.val % 512, by omega⟩ :=
    congrArg (fun k => A6 (ix1 k)) (Fin.ext (by show q.val = 512 * (q.val / 512) + q.val % 512; omega))
  rw [e]
  rfl

end

theorem holds_iter : Holds (iter A0 A4 16) A0 A1 A2 A3 A4 A5 A6 :=
  ⟨statesF_at A0 A4 A1 A2 A3 A5 A6, statesB_at A0 A4 A1 A2 A3 A5 A6⟩

end Cert.SsdRefIdeal.Chunk
end
-- ==== Proof.SsdRefRun.lean ====
/-
  The reference's run: its 16 trips carry the states of `iter`, so its result is made from the last of them.
-/
module

public import proofs.«01_k».proof.Proof.Gen.SsdRefIdeal.Run
public import proofs.«01_k».proof.Proof.SsdRefScan

@[expose] public section

set_option maxRecDepth 16384

noncomputable section

namespace Cert.SsdRefIdeal.Chunk

open Cert.SsdRefIdeal Cert.SsdRefIdeal.Gen Cert.SsdRefIdeal.Value Idealize.ShloMosaic Idealize.ShloMosaic.TcCoe Idealize.SL.Sem Idealize.ShloMosaic.StableHlo
open Cert.SsdRefIdeal.Step (State step init)

/-- What the buffers hold before trip `j` when the loop's state is `s`. -/
def Carries (V : Valuation τ sig (Elt Ideal)) (j : ℕ) (s : State Ideal) : Prop :=
  V (Proc.devRef .tc main_v47_2) = constantI S_ 32 (BitVec.ofNat 32 j)
  ∧ s = ⟨V (Proc.devRef .tc main_v47_3), V (Proc.devRef .tc main_v47_4), V (Proc.devRef .tc main_v47_0), V (Proc.devRef .tc main_v47_1)⟩

theorem trip_states {V : Valuation τ sig (Elt Ideal)} {j : ℕ} {s : State Ideal} (h : Carries V j s) : step_main_v47_3 V = Step.b15 j s := by
  obtain ⟨hn, rfl⟩ := h
  unfold step_main_v47_3
  rw [hn]
  rfl

theorem trip_kept {V : Valuation τ sig (Elt Ideal)} {j : ℕ} {s : State Ideal} (h : Carries V j s) : step_main_v47_4 V = Step.b22 j s := by
  obtain ⟨hn, rfl⟩ := h
  unfold step_main_v47_4
  rw [hn]
  rfl

theorem trip_number {V : Valuation τ sig (Elt Ideal)} {j : ℕ} {s : State Ideal} (h : Carries V j s) :
    step_main_v47_2 V = constantI S_ 32 (BitVec.ofNat 32 (j + 1)) := by
  unfold step_main_v47_2
  rw [h.1, BitVec.ofNat_add]
  rfl

/-- One trip. -/
theorem trip {V : Valuation τ sig (Elt Ideal)} {j : ℕ} {s : State Ideal} (h : Carries V j s) : Carries (STEP V) (j + 1) (step j s) := by
  refine ⟨(STEP_main_v47_2 V).trans (trip_number h), ?_⟩
  rw [STEP_main_v47_3 V, STEP_main_v47_4 V, STEP_main_v47_0 V, STEP_main_v47_1 V, trip_states h, trip_kept h]
  obtain ⟨_, rfl⟩ := h
  rfl

section
variable (m : (ℓ : Loc nD τ sig) → Buf (Elt Ideal) ℓ) (c : Dev nD)

/-- The states carried, of the arguments in memory. -/
def carried (n : ℕ) : State Ideal := iter (m ((c.tc : Thread nD τ).loc main_arg0)) (m ((c.tc : Thread nD τ).loc main_arg4)) n

set_option maxRecDepth 65536 in
set_option maxHeartbeats 400000 in
theorem carries_entry : Carries (entryContents preI m c) 0 (carried m c 0) := by
  have h2 : entryContents preI m c (Proc.devRef .tc main_v47_2) = constantI S_ 32 (BitVec.ofNat 32 0) := by
    simp only [entryContents, afterL_cons, afterL_nil]; after_reads_simp <;> rfl
  have h3 : entryContents preI m c (Proc.devRef .tc main_v47_3) = (carried m c 0).main_v47_3 := by
    simp only [entryContents, afterL_cons, afterL_nil]; after_reads_simp <;> rfl
  have h4 : entryContents preI m c (Proc.devRef .tc main_v47_4) = (carried m c 0).main_v47_4 := by
    simp only [entryContents, afterL_cons, afterL_nil]; after_reads_simp <;> rfl
  have h0 : entryContents preI m c (Proc.devRef .tc main_v47_0) = (carried m c 0).main_v47_0 := by
    simp only [entryContents, afterL_cons, afterL_nil]; after_reads_simp <;> rfl
  have h1 : entryContents preI m c (Proc.devRef .tc main_v47_1) = (carried m c 0).main_v47_1 := by
    simp only [entryContents, afterL_cons, afterL_nil]; after_reads_simp <;> rfl
  refine ⟨h2, ?_⟩
  rw [h3, h4, h0, h1]

theorem carries (n : ℕ) : Carries (STEP^[n] (entryContents preI m c)) n (carried m c n) := by
  induction n with
  | zero => exact carries_entry m c
  | succ n ih =>
    rw [Function.iterate_succ_apply']
    exact trip ih

/-- The result is what the operations after the loop make of the last state. -/
theorem out_carried : out_main_v161 (STEP^[16] (entryContents preI m c))
    = Step.R_main_v161 (carried m c 16) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  have h4 : STEP^[16] (entryContents preI m c) (Proc.devRef .tc main_v47_4) = (carried m c 16).main_v47_4 := by rw [(carries m c 16).2]
  unfold out_main_v161 Step.R_main_v161
  rw [h4, iter_main_arg0 m c 16, iter_main_arg1 m c 16, iter_main_arg2 m c 16, iter_main_arg3 m c 16, iter_main_arg4 m c 16, iter_main_arg5 m c 16, iter_main_arg6 m c 16]
  rfl

end

end Cert.SsdRefIdeal.Chunk
end
-- ==== Proof.SsdValue.lean ====
/-
  The scan kernel and its reference compute the same result.
-/
module

public import proofs.«01_k».proof.Defs
public import proofs.«01_k».proof.Proof.SsdFinal
public import proofs.«01_k».proof.Proof.SsdRefOut
public import proofs.«01_k».proof.Proof.Gen.SsdIdeal.Value
public import proofs.«01_k».proof.Proof.SsdRefRun

@[expose] public section

set_option maxRecDepth 16384

noncomputable section

namespace Cert.SsdIdeal.Chunk

open Cert.SsdIdeal Idealize.ShloMosaic Idealize.ShloMosaic.TcCoe Idealize.SL.Sem Cert.Ssm

/-- The reference's result from arguments, given the state its scan ends in. -/
theorem ref_eq {A0 : FVec Ideal S8x2048x3072 .bf16} {A1 : FVec Ideal S8x2048x2048 .bf16} {A2 : FVec Ideal S8x16x2x64x128 .f32}
    {A3 : FVec Ideal S8x4x2048x128 .f32} {A4 : FVec Ideal S8x4x2048x128 .bf16} {A5 : FVec Ideal S32 .f32} {A6 : FVec Ideal S2048 .f32}
    {s : SsdRefIdeal.Step.State Ideal} (H : SsdRefIdeal.Chunk.Holds s A0 A1 A2 A3 A4 A5 A6) :
    SsdRefIdeal.Step.R_main_v161 (F := Ideal) s A0 A1 A2 A3 A4 A5 A6 = fun i => result A0 A1 A2 A3 A4 A5 A6 (i 0) (i 1) (i 2) := by
  funext i
  exact (congrArg _ (eq_ix3 i)).trans (SsdRefIdeal.Chunk.R_at H (i 0) (i 1) (i 2))

theorem algebraic [Cert.SsdIdeal.Facts] [Cert.SsdRefIdeal.Facts] : Cert.algebraic_SsdIdeal_SsdRefIdeal := by
  intro m ρ m' ρ' _ hag
  refine ⟨fun c => final m c, (θ_run _ _ _).mono (fun r h c => ?_) (SsdIdeal.Value.run_blocks m ρ),
    (θ_run _ _ _).mono (fun r h c => ?_) (SsdRefIdeal.Value.run m' ρ')⟩
  · exact ⟨(h c).1.trans (arr_eq m c), (h c).2⟩
  · refine ⟨(h c).1.trans ((SsdRefIdeal.Chunk.out_carried m' c).trans ((ref_eq (SsdRefIdeal.Chunk.holds_iter _ _ _ _ _ _ _)).trans ?_)), (h c).2⟩
    obtain ⟨e0, e1, e2, e3, e4, e5, e6⟩ := hag c
    rw [e0, e1, e2, e3, e4, e5, e6]
    rfl

/-- The reference's frame: it declares no semaphore. -/
theorem frame_ref [Cert.SsdRefIdeal.Facts] : Cert.quiescent_SsdRefIdeal := fun m ρ _ =>
  (θ_run SsdRefIdeal.defs _ _).mono (fun r h => ⟨fun c => (h c).2, sem_eq_zero_of_no_sems (by decide) r.2⟩) (SsdRefIdeal.Value.run m ρ)

end Cert.SsdIdeal.Chunk
end
-- ==== Proof.GatesValue.lean ====
/-
  The gate projection: one sigmoid of a matrix product, stored as eight row blocks per grid point.
-/
module

public import proofs.«01_k».proof.Defs
public import proofs.«01_k».proof.Proof.Gen.GatesIdeal.Value
public import proofs.«01_k».proof.Proof.Gen.GatesRefIdeal.Run
public import Idealize.ShloMosaic.Lib.Pipeline.ValueKit

@[expose] public section

set_option maxRecDepth 16384

noncomputable section

namespace Cert.GatesIdeal.Claims

open Cert.GatesIdeal Cert.GatesIdeal.Gen Idealize.ShloMosaic Idealize.ShloMosaic.TcCoe Idealize.SL.Sem
open Idealize.ShloMosaic.Pipeline (Dat)

variable (m : (ℓ : Loc nD τ sig) → Buf (Elt Ideal) ℓ)

/-- What a point leaves in its block: the sigmoid of a row of the tokens times a row of the transposed weights. -/
def blockOut (X : FVec Ideal S1x2048x1024 .bf16) (W : FVec Ideal S1x1024x1024 .f32) (r : Fin 2048) (n : Fin 1024) : EReal :=
  Ideal.div 1 (1 + Ideal.exp (0 - ∑ k : Fin 1024, X (ix3 0 r k) * W (ix3 0 n k)))

theorem out_at (X : FVec Ideal S1x2048x1024 .bf16) (W : FVec Ideal S1x1024x1024 .f32) (y : S1x2048x1024.Idx) :
    out0_2 (F := Ideal) X W y = blockOut X W (y 1) (y 2) := by
  canon_tiles x h
  all_goals (open_payloads; pointwise [blockOut]; blk_point [])

/-- The result from the layer's arrays. -/
def result (X : FVec Ideal S8x2048x1024 .f32) (W : FVec Ideal S4x1024x8256 .f32) : FVec Ideal S8x2048x2048 .bf16 := fun i =>
  Ideal.div 1 (1 + Ideal.exp (0 - ∑ k : Fin 1024, X (ix3 (i 0) (i 1) k) * W (ix3 0 k ⟨6208 + (i 2 : ℕ), by have : ((i 2 : Fin 2048) : ℕ) < 2048 := (i 2).isLt; omega⟩)))

theorem idx : ∀ t : Fin cfg0.N, win0_0.index t = ![t.val / 2, 0, 0] ∧ win0_1.index t = ![0, t.val % 2, 0] ∧ win0_2.index t = ![t.val / 2, 0, t.val % 2] :=
  (by decide +kernel : ∀ t : Fin grid0.N, _)

theorem point (c : Dev nD) (t : Fin cfg0.N) (y : S1x2048x1024.Idx) :
    out0_2 (F := Ideal) (iblk m c 0 t) (iblk m c 1 t) y
      = result (m ((c : Thread nD τ).loc main_arg0)) (m ((c : Thread nD τ).loc main_arg1)) (((cfg0.win 2).blk t).view.emb y) := by
  rw [out_at]
  unfold blockOut result
  blk_point [iblk, V, idx t]

theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]
  exact point m c t y

theorem algebraic [Cert.GatesIdeal.Facts] [Cert.GatesRefIdeal.Facts] : Cert.algebraic_GatesIdeal_GatesRefIdeal := by
  intro m ρ m' ρ' _ hag
  refine ⟨fun c => result (m ((c : Thread nD τ).loc main_arg0)) (m ((c : Thread nD τ).loc main_arg1)),
    (θ_run _ _ _).mono (fun r h c => ?_) (GatesIdeal.Value.run_blocks m ρ),
    (θ_run _ _ _).mono (fun r h c => ?_) (GatesRefIdeal.Value.run m' ρ')⟩
  · exact ⟨(h c).1.trans (final m c), (h c).2⟩
  · refine ⟨(h c).1.trans ?_, (h c).2⟩
    obtain ⟨e0, e1⟩ := hag c
    rw [e0, e1]
    funext i
    pointwise [result]
    blk_point []
    exact congrArg _ (zero_sub _).symm

/-- The reference's frame: it declares no semaphore. -/
theorem frame_ref [Cert.GatesRefIdeal.Facts] : Cert.quiescent_GatesRefIdeal := fun m ρ _ =>
  (θ_run GatesRefIdeal.defs _ _).mono (fun r h => ⟨fun c => (h c).2, sem_eq_zero_of_no_sems (by decide) r.2⟩) (GatesRefIdeal.Value.run m ρ)

end Cert.GatesIdeal.Claims

end
-- ==== Proof.ZValue.lean ====
/-
  The z projection: a product with its own sigmoid, stored as eight row blocks per grid point.
-/
module

public import proofs.«01_k».proof.Defs
public import proofs.«01_k».proof.Proof.Gen.ZIdeal.Value
public import proofs.«01_k».proof.Proof.Gen.ZRefIdeal.Run
public import Idealize.ShloMosaic.Lib.Pipeline.ValueKit

@[expose] public section

set_option maxRecDepth 16384

noncomputable section

namespace Cert.ZIdeal.Claims

open Cert.ZIdeal Cert.ZIdeal.Gen Idealize.ShloMosaic Idealize.ShloMosaic.TcCoe Idealize.SL.Sem
open Idealize.ShloMosaic.Pipeline (Dat)

variable (m : (ℓ : Loc nD τ sig) → Buf (Elt Ideal) ℓ)

/-- What a point leaves in its block: with its sigmoid, the product of a row of the tokens and a row of the transposed weights. -/
def blockOut (X : FVec Ideal S1x2048x1024 .bf16) (W : FVec Ideal S1x1024x1024 .f32) (r : Fin 2048) (n : Fin 1024) : EReal :=
  Ideal.div 1 (1 + Ideal.exp (0 - ∑ k : Fin 1024, X (ix3 0 r k) * W (ix3 0 n k))) * ∑ k : Fin 1024, X (ix3 0 r k) * W (ix3 0 n k)

theorem out_at (c : Dev nD) (t : Fin cfg0.N) (y : S1x2048x1024.Idx) :
    outsAt0 m c t y = blockOut (iblk m c 0 t) (X0_1 m c t) (y 1) (y 2) := by
  unfold outsAt0
  frame_out
  canon_tiles x h
  all_goals (open_payloads; pointwise [blockOut]; blk_point [])

theorem idx : ∀ t : Fin cfg0.N, win0_0.index t = ![t.val / 2, 0, 0] ∧ win0_1.index t = ![0, 1 + t.val % 2, 0] ∧ win0_2.index t = ![t.val / 2, 0, t.val % 2] :=
  (by decide +kernel : ∀ t : Fin grid0.N, _)

/-- No fetch of the weights' window is cut: its buffer holds its block of the weights, transposed. -/
theorem weights_at (c : Dev nD) (t : Fin cfg0.N) (n : Fin 1024) (k : Fin 1024) :
    X0_1 m c t (ix3 0 n k : S1x1024x1024.Idx) = (m ((c : Thread nD τ).loc main_arg1) : FVec Ideal S4x1024x8256 .f32)
      (ix3 0 k ⟨1024 + (t.val % 2 * 1024 + n), by omega⟩) := by
  unfold X0_1 Pipeline.Window.fill
  rw [dif_pos (moved0_1 t _)]
  blk_point [iblk, V, idx t]

/-- The result from the layer's arrays. -/
def result (X : FVec Ideal S8x2048x1024 .f32) (W : FVec Ideal S4x1024x8256 .f32) : FVec Ideal S8x2048x2048 .bf16 := fun i =>
  let h : EReal := ∑ k : Fin 1024, X (ix3 (i 0) (i 1) k) * W (ix3 0 k ⟨1024 + (i 2 : ℕ), by have : ((i 2 : Fin 2048) : ℕ) < 2048 := (i 2).isLt; omega⟩)
  Ideal.div 1 (1 + Ideal.exp (0 - h)) * h

theorem point (c : Dev nD) (t : Fin cfg0.N) (y : S1x2048x1024.Idx) :
    outsAt0 m c t y
      = result (m ((c : Thread nD τ).loc main_arg0)) (m ((c : Thread nD τ).loc main_arg1)) (((cfg0.win 2).blk t).view.emb y) := by
  rw [out_at]
  unfold blockOut result
  dsimp only
  blk_point [iblk, V, idx t]
  exact weights_at m c t (y 2) _

theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]
  exact point m c t y

theorem algebraic [Cert.ZIdeal.Facts] [Cert.ZRefIdeal.Facts] : Cert.algebraic_ZIdeal_ZRefIdeal := by
  intro m ρ m' ρ' _ hag
  refine ⟨fun c => result (m ((c : Thread nD τ).loc main_arg0)) (m ((c : Thread nD τ).loc main_arg1)),
    (θ_run _ _ _).mono (fun r h c => ?_) (ZIdeal.Value.run_blocks m ρ),
    (θ_run _ _ _).mono (fun r h c => ?_) (ZRefIdeal.Value.run m' ρ')⟩
  · exact ⟨(h c).1.trans (final m c), (h c).2⟩
  · refine ⟨(h c).1.trans ?_, (h c).2⟩
    obtain ⟨e0, e1⟩ := hag c
    rw [e0, e1]
    funext i
    pointwise [result]
    blk_point []
    exact congrArg _ (zero_sub _).symm

/-- The reference's frame: it declares no semaphore. -/
theorem frame_ref [Cert.ZRefIdeal.Facts] : Cert.quiescent_ZRefIdeal := fun m ρ _ =>
  (θ_run ZRefIdeal.defs _ _).mono (fun r h => ⟨fun c => (h c).2, sem_eq_zero_of_no_sems (by decide) r.2⟩) (ZRefIdeal.Value.run m ρ)

end Cert.ZIdeal.Claims

end
-- ==== Proof.LayerNorm.lean ====
/-
  The layer norm of one row, as both the kernels and the references compute it.
-/
module

public import Idealize.ShloMosaic.PureOps.Ideal

@[expose] public section

noncomputable section

namespace Cert.LayerNorm

open Idealize.ShloMosaic

/-- The row's length 1024, as the programs spell it. -/
abbrev len : EReal := Ideal.ofBits .f32 0x44800000#32
/-- What is added to the variance, the float nearest 1e-5. -/
abbrev eps : EReal := Ideal.ofBits .f32 0x3727C5AC#32

/-- Entry `j` of the row `r`, less its mean, over the root of its variance, with gain `g` and offset `b`. -/
def lnorm (r g b : Fin 1024 → EReal) (j : Fin 1024) : EReal :=
  (r j - Ideal.div (∑ k, r k) len)
      * Ideal.rsqrt (Ideal.div (∑ k, (r k - Ideal.div (∑ l, r l) len) * (r k - Ideal.div (∑ l, r l) len)) len + eps)
    * g j + b j

/-- Equal rows, gains and offsets give equal norms. -/
theorem lnorm_congr {r r' g g' b b' : Fin 1024 → EReal} {j j' : Fin 1024} (hr : ∀ k, r k = r' k) (hg : ∀ k, g k = g' k)
    (hb : ∀ k, b k = b' k) (hj : j = j') : lnorm r g b j = lnorm r' g' b' j' := by
  rw [funext hr, funext hg, funext hb, hj]

end Cert.LayerNorm

end
-- ==== Proof.FfnDownOuts.lean ====
/-
  The feed-forward's second product, the scaled residual and the layer norm, with the weights rounded once into scratch.
-/
module

public import proofs.«01_k».proof.Defs
public import proofs.«01_k».proof.Proof.LayerNorm
public import proofs.«01_k».proof.Proof.Gen.FfnDownIdeal.Value
public import Idealize.ShloMosaic.Lib.Pipeline.ValueKit
public import Idealize.ShloMosaic.Lib.Pipeline.ReadBack

@[expose] public section

set_option maxRecDepth 16384

noncomputable section

namespace Cert.FfnDownIdeal.Claims

open Cert.FfnDownIdeal Cert.FfnDownIdeal.Gen Idealize.ShloMosaic Idealize.ShloMosaic.TcCoe Idealize.SL.Sem
open Idealize.ShloMosaic.Pipeline (Dat)
open Cert.LayerNorm

variable (m : (ℓ : Loc nD τ sig) → Buf (Elt Ideal) ℓ)

/-- The residual's factor, named in the kernel. -/
theorem alpha_eq : Named.named (F := Ideal) κ "alpha" (φ := .f32) 0x3FD744FD#32 = ((Real.sqrt (Real.sqrt 8) : ℝ) : EReal) :=
  IdealRules.named_const.ideal_named_scalar _ _ _ _ rfl

theorem preserves : Cert.preserves_FfnDown_FfnDownIdeal :=
  IdealRules.named_const.statement Cert.FfnDownIdeal.κ "alpha" .f32 0x3FD744FD#32 ((Real.sqrt (Real.sqrt 8) : ℝ) : EReal) rfl

theorem idx : ∀ t : Fin cfg0.N, win0_0.index t = ![t.val, 0] ∧ win0_1.index t = ![t.val, 0] ∧ win0_2.index t = ![3, 0, 0]
    ∧ win0_3.index t = ![0, 0] ∧ win0_4.index t = ![0, 0] ∧ win0_5.index t = ![t.val, 0] ∧ win0_6.index t = ![t.val, 0] :=
  (by decide +kernel : ∀ t : Fin grid0.N, _)

/-- The last layer's weights, as every point finds them in the scratch. -/
def weights (c : Dev nD) : FVec Ideal S2816x1024 .bf16 := fun i =>
  (m ((c : Thread nD τ).loc main_arg2) : FVec Ideal S4x2816x1024 .f32) (ix3 3 (i 0) (i 1))

theorem scratch_A (c : Dev nD) (t : Fin cfg0.N) (h : t.val % 16 = 0) :
    (outsAt0 m c t.val t.isLt).2.2 = weights m c := by
  funext y
  rw [outsAt0_A m c t h]; frame_out
  pointwise [weights]
  blk_point [iblk, V, idx t]

theorem scratch_B (c : Dev nD) (t : Fin cfg0.N) (h : ¬ t.val % 16 = 0) :
    (outsAt0 m c t.val t.isLt).2.2 = (outsAt0 m c (t.val - 1) (Nat.lt_of_le_of_lt (Nat.sub_le _ _) t.isLt)).2.2 := by
  rw [outsAt0_B m c t h]; unfold sout0_B_0; rfl

theorem scratch (c : Dev nD) : ∀ (n : ℕ) (h : n < cfg0.N), (outsAt0 m c n h).2.2 = weights m c
  | 0, h => scratch_A m c ⟨0, h⟩ rfl
  | n + 1, h => by
    by_cases e : (n + 1) % 16 = 0
    · exact scratch_A m c ⟨n + 1, h⟩ e
    · exact (scratch_B m c ⟨n + 1, h⟩ e).trans (scratch c n (Nat.lt_of_succ_lt h))

/-- A row before the norm: the residual scaled, and a row of the activation times the weights. -/
def row (A : FVec Ideal S1024x2816 .bf16) (X : FVec Ideal S1024x1024 .f32) (W : FVec Ideal S2816x1024 .bf16) (r j : Fin 1024) : EReal :=
  ((Real.sqrt (Real.sqrt 8) : ℝ) : EReal) * X (ix2 r j) + ∑ k : Fin 2816, A (ix2 r k) * W (ix2 k j)

/-- What a point leaves in a block, from its input blocks and the weights. -/
def blockOut (A : FVec Ideal S1024x2816 .bf16) (X : FVec Ideal S1024x1024 .f32) (W : FVec Ideal S2816x1024 .bf16)
    (g b : FVec Ideal S1x1024 .f32) (y : S1024x1024.Idx) : EReal :=
  lnorm (row A X W (y 0)) (fun j => g (ix2 0 j)) (fun j => b (ix2 0 j)) (y 1)

/-- A point past the first finds the weights in the scratch. -/
theorem outs_B (c : Dev nD) (t : Fin cfg0.N) (h : ¬ t.val % 16 = 0) (y : S1024x1024.Idx) :
    (outsAt0 m c t.val t.isLt).1 y = blockOut (iblk m c 0 t) (iblk m c 1 t) (weights m c) (iblk m c 3 t) (iblk m c 4 t) y
    ∧ (outsAt0 m c t.val t.isLt).2.1 y = blockOut (iblk m c 0 t) (iblk m c 1 t) (weights m c) (iblk m c 3 t) (iblk m c 4 t) y := by
  rw [outsAt0_B m c t h, scratch]; frame_out
  generalize weights m c = W
  constructor <;>
    (canon_tiles x h
     all_goals (open_payloads; simp only [read_unread_whole]; pointwise [blockOut, lnorm, row, alpha_eq]; blk_point []))

/-- The first point rounds the weights into the scratch and reads them back. -/
theorem outs_A (c : Dev nD) (t : Fin cfg0.N) (h : t.val % 16 = 0) (y : S1024x1024.Idx) :
    (outsAt0 m c t.val t.isLt).1 y = blockOut (iblk m c 0 t) (iblk m c 1 t) (weights m c) (iblk m c 3 t) (iblk m c 4 t) y
    ∧ (outsAt0 m c t.val t.isLt).2.1 y = blockOut (iblk m c 0 t) (iblk m c 1 t) (weights m c) (iblk m c 3 t) (iblk m c 4 t) y := by
  rw [outsAt0_A m c t h]; frame_out
  constructor <;>
    (canon_tiles x h
     all_goals (open_payloads; pointwise [blockOut, lnorm, row, alpha_eq, weights]; blk_point [iblk, V, idx t]))

theorem outs (c : Dev nD) (t : Fin cfg0.N) (y : S1024x1024.Idx) :
    (outsAt0 m c t.val t.isLt).1 y = blockOut (iblk m c 0 t) (iblk m c 1 t) (weights m c) (iblk m c 3 t) (iblk m c 4 t) y
    ∧ (outsAt0 m c t.val t.isLt).2.1 y = blockOut (iblk m c 0 t) (iblk m c 1 t) (weights m c) (iblk m c 3 t) (iblk m c 4 t) y := by
  by_cases h : t.val % 16 = 0
  · exact outs_A m c t h y
  · exact outs_B m c t h y

end Cert.FfnDownIdeal.Claims

end
-- ==== Proof.Constants.lean ====
/-
  The constants the references compute on the host.
-/
module

public import Idealize.ShloMosaic.PureOps.Ideal

@[expose] public section

noncomputable section

namespace Cert.Constants

open Idealize.ShloMosaic

theorem bits_8 : Ideal.ofBits .f32 0x41000000#32 = ((8 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

/-- The residual's factor, the fourth root of 8. -/
theorem sqrt_sqrt : Ideal.sqrt (Ideal.sqrt (Ideal.ofBits .f32 0x41000000#32)) = ((Real.sqrt (Real.sqrt 8) : ℝ) : EReal) := by
  rw [bits_8, Ideal.sqrt_coe, if_neg (by norm_num), Ideal.sqrt_coe, if_neg (not_lt.mpr (Real.sqrt_nonneg 8))]

end Cert.Constants

end
-- ==== Proof.FfnDownValue.lean ====
/-
  The feed-forward's last step: the kernel's arrays are the layer norm of the scaled residual and the product, as in the reference.
-/
module

public import proofs.«01_k».proof.Proof.FfnDownOuts
public import proofs.«01_k».proof.Proof.Constants
public import proofs.«01_k».proof.Proof.Gen.FfnDownRefIdeal.Run

@[expose] public section

set_option maxRecDepth 16384

noncomputable section

namespace Cert.FfnDownIdeal.Claims

open Cert.FfnDownIdeal Cert.FfnDownIdeal.Gen Idealize.ShloMosaic Idealize.ShloMosaic.TcCoe Idealize.SL.Sem
open Idealize.ShloMosaic.Pipeline (Dat)
open Cert.LayerNorm

variable (m : (ℓ : Loc nD τ sig) → Buf (Elt Ideal) ℓ)

/-- Both results, at the array. -/
def result (A : FVec Ideal S16384x2816 .bf16) (X : FVec Ideal S16384x1024 .f32) (W : FVec Ideal S4x2816x1024 .f32)
    (g b : FVec Ideal S4x1024 .f32) : S16384x1024.Idx → EReal := fun i =>
  lnorm (fun j => ((Real.sqrt (Real.sqrt 8) : ℝ) : EReal) * X (ix2 (i 0) j) + ∑ k : Fin 2816, A (ix2 (i 0) k) * W (ix3 3 k j))
    (fun j => g (ix2 3 j)) (fun j => b (ix2 3 j)) (i 1)

/-- The results of the arguments in memory. -/
abbrev value (c : Dev nD) : S16384x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- A block's formula is the array's, at the block's rows. -/
theorem block_eq (c : Dev nD) (t : Fin cfg0.N) (y : S1024x1024.Idx) :
    blockOut (iblk m c 0 t) (iblk m c 1 t) (weights m c) (iblk m c 3 t) (iblk m c 4 t) y = value m c (((cfg0.win 5).blk t).view.emb y) := by
  unfold blockOut value result row weights
  refine lnorm_congr (fun j => ?_) (fun j => ?_) (fun j => ?_) ?_
  · blk_point [iblk, V, idx t]
  · blk_point [iblk, V, idx t]
  · blk_point [iblk, V, idx t]
  · apply Fin.ext
    blk_simp [idx t]

theorem final5 (c : Dev nD) : (dats m 0 c).arrAt 5 cfg0.N = (value m c : FVec Ideal S16384x1024 .f32) := by
  refine (dats m 0 c).arrAt_eq_of_covers 5 _ (by decide +kernel) fun t _ y => ?_
  blk_simp
  rw [after0_5]
  exact (outs m c t y).1.trans (block_eq m c t y)

theorem final6 (c : Dev nD) : (dats m 0 c).arrAt 6 cfg0.N = (value m c : FVec Ideal S16384x1024 .bf16) := by
  refine (dats m 0 c).arrAt_eq_of_covers 6 _ (by decide +kernel) fun t _ y => ?_
  blk_simp
  rw [after0_6]
  exact (outs m c t y).2.trans (block_eq m c t y)

theorem algebraic [Cert.FfnDownIdeal.Facts] [Cert.FfnDownRefIdeal.Facts] : Cert.algebraic_FfnDownIdeal_FfnDownRefIdeal := by
  intro m ρ m' ρ' _ hag
  refine ⟨fun c => value m c, fun c => value m c,
    (θ_run _ _ _).mono (fun r h c => ?_) (FfnDownIdeal.Value.run_blocks m ρ),
    (θ_run _ _ _).mono (fun r h c => ?_) (FfnDownRefIdeal.Value.run m' ρ')⟩
  · exact ⟨(h c).1.trans (final5 m c), (h c).2.1.trans (final6 m c), (h c).2.2⟩
  · obtain ⟨e0, e1, e2, e3, e4⟩ := hag c
    have e : FfnDownRefIdeal.Value.res_out0 (F := Ideal) m' c = value m c := by
      unfold FfnDownRefIdeal.Value.res_out0 FfnDownRefIdeal.Value.res_main_v36
      rw [e0, e1, e2, e3, e4]
      funext i
      pointwise [value, result, lnorm, Constants.sqrt_sqrt]
    refine ⟨(h c).1.trans e, (h c).2.1.trans ?_, (h c).2.2⟩
    exact e

/-- The reference's frame: it declares no semaphore. -/
theorem frame_ref [Cert.FfnDownRefIdeal.Facts] : Cert.quiescent_FfnDownRefIdeal := fun m ρ _ =>
  (θ_run FfnDownRefIdeal.defs _ _).mono (fun r h => ⟨fun c => (h c).2.2, sem_eq_zero_of_no_sems (by decide) r.2⟩) (FfnDownRefIdeal.Value.run m ρ)

end Cert.FfnDownIdeal.Claims

end
-- ==== Proof.MergeOuts.lean ====
/-
  The merge of the two branches, the output product, the scaled residual and the layer norm, with both weights rounded once into scratch.
-/
module

public import proofs.«01_k».proof.Defs
public import proofs.«01_k».proof.Proof.LayerNorm
public import proofs.«01_k».proof.Proof.Gen.MergeIdeal.Value
public import Idealize.ShloMosaic.Lib.Pipeline.ValueKit
public import Idealize.ShloMosaic.Lib.Pipeline.ReadBack

@[expose] public section

set_option maxRecDepth 16384

noncomputable section

namespace Cert.MergeIdeal.Claims

open Cert.MergeIdeal Cert.MergeIdeal.Gen Idealize.ShloMosaic Idealize.ShloMosaic.TcCoe Idealize.SL.Sem
open Idealize.ShloMosaic.Pipeline (Dat)
open Cert.LayerNorm

variable (m : (ℓ : Loc nD τ sig) → Buf (Elt Ideal) ℓ)

/-- The residual's factor, named in the kernel. -/
theorem alpha_eq : Named.named (F := Ideal) κ "alpha" (φ := .f32) 0x3FD744FD#32 = ((Real.sqrt (Real.sqrt 8) : ℝ) : EReal) :=
  IdealRules.named_const.ideal_named_scalar _ _ _ _ rfl

theorem preserves : Cert.preserves_Merge_MergeIdeal :=
  IdealRules.named_const.statement Cert.MergeIdeal.κ "alpha" .f32 0x3FD744FD#32 ((Real.sqrt (Real.sqrt 8) : ℝ) : EReal) rfl

theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![0, 0, 0] ∧ win0_6.index t = ![0, 0, 0]
    ∧ win0_7.index t = ![0, 0] ∧ win0_8.index t = ![0, 0] ∧ win0_9.index t = ![t.val, 0] ∧ win0_10.index t = ![t.val, 0] :=
  (by decide +kernel : ∀ t : Fin grid0.N, _)

/-- The projection's weights, as every point finds them in the first scratch. -/
def weightsP (c : Dev nD) : FVec Ideal S2048x1024 .bf16 := fun i =>
  (m ((c : Thread nD τ).loc main_arg4) : FVec Ideal S4x2048x1024 .f32) (ix3 0 (i 0) (i 1))

/-- The output's weights, as every point finds them in the second scratch. -/
def weightsO (c : Dev nD) : FVec Ideal S1024x1024 .bf16 := fun i =>
  (m ((c : Thread nD τ).loc main_arg5) : FVec Ideal S4x1024x1024 .f32) (ix3 0 (i 0) (i 1))

theorem scratch_A (c : Dev nD) (t : Fin cfg0.N) (h : t.val % 32 = 0) :
    (outsAt0 m c t.val t.isLt).2.2.1 = weightsP m c ∧ (outsAt0 m c t.val t.isLt).2.2.2 = weightsO m c := by
  rw [outsAt0_A m c t h]; frame_out
  constructor <;> (funext y; pointwise [weightsP, weightsO]; blk_point [iblk, V, idx t])

theorem scratch_B (c : Dev nD) (t : Fin cfg0.N) (h : ¬ t.val % 32 = 0) :
    (outsAt0 m c t.val t.isLt).2.2 = (outsAt0 m c (t.val - 1) (Nat.lt_of_le_of_lt (Nat.sub_le _ _) t.isLt)).2.2 := by
  rw [outsAt0_B m c t h]; unfold sout0_B_0 sout0_B_1; rfl

theorem scratch (c : Dev nD) : ∀ (n : ℕ) (h : n < cfg0.N), (outsAt0 m c n h).2.2.1 = weightsP m c ∧ (outsAt0 m c n h).2.2.2 = weightsO m c
  | 0, h => scratch_A m c ⟨0, h⟩ rfl
  | n + 1, h => by
    by_cases e : (n + 1) % 32 = 0
    · exact scratch_A m c ⟨n + 1, h⟩ e
    · rw [scratch_B m c ⟨n + 1, h⟩ e]
      exact scratch c n (Nat.lt_of_succ_lt h)

/-- The merged branches of a row, at one column. -/
def merged (Y : FVec Ideal S512x2048 .bf16) (P G H : FVec Ideal S512x1024 .bf16) (U : FVec Ideal S2048x1024 .bf16) (r : Fin 512) (k : Fin 1024) : EReal :=
  G (ix2 r k) * P (ix2 r k) + H (ix2 r k) * ∑ l : Fin 2048, Y (ix2 r l) * U (ix2 l k)

/-- A row before the norm: the residual scaled, and the merged branches times the weights. -/
def row (Y : FVec Ideal S512x2048 .bf16) (P G H : FVec Ideal S512x1024 .bf16) (X : FVec Ideal S512x1024 .f32)
    (U : FVec Ideal S2048x1024 .bf16) (W : FVec Ideal S1024x1024 .bf16) (r : Fin 512) (j : Fin 1024) : EReal :=
  ((Real.sqrt (Real.sqrt 8) : ℝ) : EReal) * X (ix2 r j) + ∑ k : Fin 1024, merged Y P G H U r k * W (ix2 k j)

/-- What a point leaves in a block, from its input blocks and the weights. -/
def blockOut (Y : FVec Ideal S512x2048 .bf16) (P G H : FVec Ideal S512x1024 .bf16) (X : FVec Ideal S512x1024 .f32)
    (U : FVec Ideal S2048x1024 .bf16) (W : FVec Ideal S1024x1024 .bf16) (g b : FVec Ideal S1x1024 .f32) (y : S512x1024.Idx) : EReal :=
  lnorm (row Y P G H X U W (y 0)) (fun j => g (ix2 0 j)) (fun j => b (ix2 0 j)) (y 1)

/-- Both outputs of a point hold the block's formula. -/
abbrev Outs (c : Dev nD) (t : Fin cfg0.N) (y : S512x1024.Idx) : Prop :=
  (outsAt0 m c t.val t.isLt).1 y = blockOut (iblk m c 0 t) (iblk m c 1 t) (iblk m c 2 t) (iblk m c 3 t) (iblk m c 4 t) (weightsP m c) (weightsO m c) (iblk m c 7 t) (iblk m c 8 t) y
  ∧ (outsAt0 m c t.val t.isLt).2.1 y = blockOut (iblk m c 0 t) (iblk m c 1 t) (iblk m c 2 t) (iblk m c 3 t) (iblk m c 4 t) (weightsP m c) (weightsO m c) (iblk m c 7 t) (iblk m c 8 t) y

/-- A point past the first finds the weights in the scratch. -/
theorem outs_B (c : Dev nD) (t : Fin cfg0.N) (h : ¬ t.val % 32 = 0) (y : S512x1024.Idx) : Outs m c t y := by
  unfold Outs
  rw [outsAt0_B m c t h, (scratch m c _ _).1, (scratch m c _ _).2]; frame_out
  generalize weightsP m c = U
  generalize weightsO m c = W
  constructor <;>
    (canon_tiles x h
     all_goals (open_payloads; simp only [read_unread_whole]; pointwise [blockOut, lnorm, row, merged, alpha_eq]; blk_point []))

/-- The first point rounds the weights into the scratch and reads them back. -/
theorem outs_A (c : Dev nD) (t : Fin cfg0.N) (h : t.val % 32 = 0) (y : S512x1024.Idx) : Outs m c t y := by
  unfold Outs
  rw [outsAt0_A m c t h]; frame_out
  constructor <;>
    (canon_tiles x h
     all_goals (open_payloads; pointwise [blockOut, lnorm, row, merged, alpha_eq, weightsP, weightsO]; blk_point [iblk, V, idx t]))

theorem outs (c : Dev nD) (t : Fin cfg0.N) (y : S512x1024.Idx) : Outs m c t y := by
  by_cases h : t.val % 32 = 0
  · exact outs_A m c t h y
  · exact outs_B m c t h y

end Cert.MergeIdeal.Claims

end
-- ==== Proof.MergeValue.lean ====
/-
  The first half's last step: the kernel's arrays are the layer norm of the scaled residual and the merged branches' product, as in the reference.
-/
module

public import proofs.«01_k».proof.Proof.MergeOuts
public import proofs.«01_k».proof.Proof.Constants
public import proofs.«01_k».proof.Proof.Gen.MergeRefIdeal.Run

@[expose] public section

set_option maxRecDepth 16384

noncomputable section

namespace Cert.MergeIdeal.Claims

open Cert.MergeIdeal Cert.MergeIdeal.Gen Idealize.ShloMosaic Idealize.ShloMosaic.TcCoe Idealize.SL.Sem
open Idealize.ShloMosaic.Pipeline (Dat)
open Cert.LayerNorm

variable (m : (ℓ : Loc nD τ sig) → Buf (Elt Ideal) ℓ)

/-- The merged branches at a row and a column: the two gates are the two halves of the gates' columns. -/
def mergedAt (Y : FVec Ideal S16384x2048 .bf16) (P : FVec Ideal S16384x1024 .bf16) (G : FVec Ideal S16384x2048 .bf16) (U : FVec Ideal S4x2048x1024 .f32)
    (r : Fin 16384) (k : Fin 1024) : EReal :=
  G (ix2 r ⟨k.val, by omega⟩) * P (ix2 r k) + G (ix2 r ⟨1024 + k.val, by omega⟩) * ∑ l : Fin 2048, Y (ix2 r l) * U (ix3 0 l k)

/-- A row before the norm. -/
def rowAt (Y : FVec Ideal S16384x2048 .bf16) (P : FVec Ideal S16384x1024 .bf16) (G : FVec Ideal S16384x2048 .bf16) (X : FVec Ideal S16384x1024 .f32)
    (U : FVec Ideal S4x2048x1024 .f32) (W : FVec Ideal S4x1024x1024 .f32) (r : Fin 16384) (j : Fin 1024) : EReal :=
  ((Real.sqrt (Real.sqrt 8) : ℝ) : EReal) * X (ix2 r j) + ∑ k : Fin 1024, mergedAt Y P G U r k * W (ix3 0 k j)

/-- Both results, at the array. -/
def result (Y : FVec Ideal S16384x2048 .bf16) (P : FVec Ideal S16384x1024 .bf16) (G : FVec Ideal S16384x2048 .bf16) (X : FVec Ideal S16384x1024 .f32)
    (U : FVec Ideal S4x2048x1024 .f32) (W : FVec Ideal S4x1024x1024 .f32) (g b : FVec Ideal S4x1024 .f32) : S16384x1024.Idx → EReal := fun i =>
  lnorm (rowAt Y P G X U W (i 0)) (fun j => g (ix2 0 j)) (fun j => b (ix2 0 j)) (i 1)

/-- The results of the arguments in memory. -/
abbrev value (c : Dev nD) : S16384x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- A block's formula is the array's, at the block's rows. -/
theorem block_eq (c : Dev nD) (t : Fin cfg0.N) (y : S512x1024.Idx) :
    blockOut (iblk m c 0 t) (iblk m c 1 t) (iblk m c 2 t) (iblk m c 3 t) (iblk m c 4 t) (weightsP m c) (weightsO m c) (iblk m c 7 t) (iblk m c 8 t) y = value m c (((cfg0.win 9).blk t).view.emb y) := by
  unfold blockOut value result row rowAt merged mergedAt weightsP weightsO
  refine lnorm_congr (fun j => ?_) (fun j => ?_) (fun j => ?_) ?_
  · blk_point [iblk, V, idx t]
  · blk_point [iblk, V, idx t]
  · blk_point [iblk, V, idx t]
  · apply Fin.ext
    blk_simp [idx t]

theorem final9 (c : Dev nD) : (dats m 0 c).arrAt 9 cfg0.N = (value m c : FVec Ideal S16384x1024 .f32) := by
  refine (dats m 0 c).arrAt_eq_of_covers 9 _ (by decide +kernel) fun t _ y => ?_
  blk_simp
  rw [after0_9]
  exact (outs m c t y).1.trans (block_eq m c t y)

theorem final10 (c : Dev nD) : (dats m 0 c).arrAt 10 cfg0.N = (value m c : FVec Ideal S16384x1024 .bf16) := by
  refine (dats m 0 c).arrAt_eq_of_covers 10 _ (by decide +kernel) fun t _ y => ?_
  blk_simp
  rw [after0_10]
  exact (outs m c t y).2.trans (block_eq m c t y)

set_option maxHeartbeats 2000000 in
theorem algebraic [Cert.MergeIdeal.Facts] [Cert.MergeRefIdeal.Facts] : Cert.algebraic_MergeIdeal_MergeRefIdeal := by
  intro m ρ m' ρ' _ hag
  refine ⟨fun c => value m c, fun c => value m c,
    (θ_run _ _ _).mono (fun r h c => ?_) (MergeIdeal.Value.run_blocks m ρ),
    (θ_run _ _ _).mono (fun r h c => ?_) (MergeRefIdeal.Value.run m' ρ')⟩
  · exact ⟨(h c).1.trans (final9 m c), (h c).2.1.trans (final10 m c), (h c).2.2⟩
  · obtain ⟨e0, e1, e2, e3, e4, e5, e6, e7⟩ := hag c
    have e : MergeRefIdeal.Value.res_out0 (F := Ideal) m' c = value m c := by
      unfold MergeRefIdeal.Value.res_out0 MergeRefIdeal.Value.res_main_v49
      rw [e0, e1, e2, e3, e4, e5, e6, e7]
      funext i
      pointwise [value, result, rowAt, mergedAt, lnorm, Constants.sqrt_sqrt]
    refine ⟨(h c).1.trans e, (h c).2.1.trans ?_, (h c).2.2⟩
    exact e

/-- The reference's frame: it declares no semaphore. -/
theorem frame_ref [Cert.MergeRefIdeal.Facts] : Cert.quiescent_MergeRefIdeal := fun m ρ _ =>
  (θ_run MergeRefIdeal.defs _ _).mono (fun r h => ⟨fun c => (h c).2.2, sem_eq_zero_of_no_sems (by decide) r.2⟩) (MergeRefIdeal.Value.run m ρ)

end Cert.MergeIdeal.Claims

end
-- ==== Proof.FfnUpRun.lean ====
/-
  The body of the feed-forward activation's call, read as lists of stores. Two padded copies of the products (gate and value) are
  filled by the same stores; then for each block of 256 rows and each half of the columns four phases (rows 0, 1, 2, 3 modulo 4) are
  computed from rows of the padded copies four apart, stored four apart, and the block is read back into the output.
-/
module

public import proofs.«01_k».proof.Proof.Gen.FfnUpIdeal.Value
public import Idealize.ShloMosaic.Lib.Pipeline.ValueKit

@[expose] public section

set_option maxRecDepth 16384

noncomputable section

namespace Cert.FfnUpIdeal.Claims

open Cert.FfnUpIdeal Cert.FfnUpIdeal.Gen Idealize.ShloMosaic Idealize.ShloMosaic.TcCoe

variable {F : FTy → Type} [FloatOps F] [Named F]

/-- The buffers of a grid point: seven inputs, the output, the two padded copies, the activation's scratch. -/
structure Refs where
  arg2 : Memref sig .tc .vmem S1x2048x1024 .bf16
  harg2 : arg2.IsWhole
  arg3 : Memref sig .tc .vmem S1x1024x256 .f32
  harg3 : arg3.IsWhole
  arg4 : Memref sig .tc .vmem S1x1024x256 .f32
  harg4 : arg4.IsWhole
  arg5 : Memref sig .tc .vmem S3x256 .f32
  harg5 : arg5.IsWhole
  arg6 : Memref sig .tc .vmem S3x256 .f32
  harg6 : arg6.IsWhole
  arg7 : Memref sig .tc .vmem S1x256 .f32
  harg7 : arg7.IsWhole
  arg8 : Memref sig .tc .vmem S1x256 .f32
  harg8 : arg8.IsWhole
  arg9 : Memref sig .tc .vmem S1x2048x256 .bf16
  harg9 : arg9.IsWhole
  arg10 : Memref sig .tc .vmem S2x2064x128 .f32
  harg10 : arg10.IsWhole
  arg11 : Memref sig .tc .vmem S2x2064x128 .f32
  harg11 : arg11.IsWhole
  arg12 : Memref sig .tc .vmem S2x2048x128 .f32
  harg12 : arg12.IsWhole

/-- The input blocks of a grid point. -/
structure Blocks (F : FTy → Type) where
  x : Vec F S1x2048x1024 .bf16
  wg : Vec F S1x1024x256 .f32
  wv : Vec F S1x1024x256 .f32
  cg : Vec F S3x256 .f32
  cv : Vec F S3x256 .f32
  bg : Vec F S1x256 .f32
  bv : Vec F S1x256 .f32

variable (c : Dev nD) (i : grid0.Coords) (R : Refs) (X : Blocks F)

/-! ## The padded copies -/

theorem inb_fill (n : ℕ) : ∀ a, (![n % 2, 8 + 512 * (n / 2 % 4), 0] : Fin 3 → ℕ) a + S1x512x128.size a ≤ S2x2064x128.size a := by
  intro a
  match a with
  | ⟨0, _⟩ => show n % 2 + 1 ≤ 2; omega
  | ⟨1, _⟩ => show 8 + 512 * (n / 2 % 4) + 512 ≤ 2064; omega
  | ⟨2, _⟩ => show 0 + 128 ≤ 128; omega

theorem inb_x (n : ℕ) : ∀ a, (![0, 512 * (n / 2 % 4), 0] : Fin 3 → ℕ) a + S1x512x1024.size a ≤ S1x2048x1024.size a := by
  intro a
  match a with
  | ⟨0, _⟩ => show 0 + 1 ≤ 1; omega
  | ⟨1, _⟩ => show 512 * (n / 2 % 4) + 512 ≤ 2048; omega
  | ⟨2, _⟩ => show 0 + 1024 ≤ 1024; omega

theorem slices_half (n : ℕ) : S512x256.Slices ![0, 128 * (n % 2)] S512x128 := by
  refine ⟨rfl, fun a => ?_⟩
  match a with
  | ⟨0, _⟩ => show 0 + 512 ≤ 512; omega
  | ⟨1, _⟩ => show 128 * (n % 2) + 128 ≤ 256; omega

/-- 512 rows of x times one half of the weight's columns. -/
def product (n : ℕ) (w : FVec F S1024x256 .bf16) (v : Vec F S1x512x1024 .bf16) : FVec F S1x512x128 .f32 :=
  shapeCast S1x512x128 (extractStridedSlice S512x128 ![0, 128 * (n % 2)]
    (matmul dot_S512x1024_S1024x256_S512x256_1_0_0_1_n_n none (shapeCast S512x1024 v shapeCasts_S1x512x1024_S512x1024) w
      (constant S512x256 .f32 0x00000000#32)) (slices_half n)) shapeCasts_S512x128_S1x512x128

/-- The store of product `n`: half `n % 2`, rows `512 (n / 2)` on, eight rows further down. -/
def fillPiece (w : FVec F S1024x256 .bf16) (n : ℕ) : View.Piece (Elt F) S2x2064x128 .f32 :=
  ⟨Rect.unit (s := S2x2064x128) ![n % 2, 8 + 512 * (n / 2 % 4), 0] S1x512x128.size (inb_fill n),
    product n w (View.readAt (Elt F) R.arg2.view (Rect.unit (s := S1x2048x1024) ![0, 512 * (n / 2 % 4), 0] S1x512x1024.size (inb_x n)).toLoadRect
      (R.harg2.unread X.x))⟩

/-- The four stores of zeros around the products, last first. -/
def zeroPieces : List (View.Piece (Elt F) S2x2064x128 .f32) :=
  [⟨Rect.unit (s := S2x2064x128) ![1, 2056, 0] S1x8x128.size inb_S2x2064x128_S1x8x128_1_2056_0, k0_pay4⟩,
   ⟨Rect.unit (s := S2x2064x128) ![1, 0, 0] S1x8x128.size inb_S2x2064x128_S1x8x128_1_0_0, k0_pay4⟩,
   ⟨Rect.unit (s := S2x2064x128) ![0, 2056, 0] S1x8x128.size inb_S2x2064x128_S1x8x128_0_2056_0, k0_pay4⟩,
   ⟨Rect.unit (s := S2x2064x128) ![0, 0, 0] S1x8x128.size inb_S2x2064x128_S1x8x128_0_0_0, k0_pay4⟩]

/-- The stores of the zeros and the first `n` products, last first. -/
def fillPieces (w : FVec F S1024x256 .bf16) : ℕ → List (View.Piece (Elt F) S2x2064x128 .f32)
  | 0 => zeroPieces
  | n + 1 => fillPiece R X w n :: fillPieces w n

/-- The rounded weight of the gate half, -/
def weightG : FVec F S1024x256 .bf16 := k0_pay2 (View.readAt (Elt F) R.arg3.view
  (Rect.unit (s := S1x1024x256) ![0, 0, 0] S1x1024x256.size inb_S1x1024x256_S1x1024x256_0_0_0).toLoadRect (R.harg3.unread X.wg))

/-- and of the value half. -/
def weightV : FVec F S1024x256 .bf16 := k0_pay2 (View.readAt (Elt F) R.arg4.view
  (Rect.unit (s := S1x1024x256) ![0, 0, 0] S1x1024x256.size inb_S1x1024x256_S1x1024x256_0_0_0).toLoadRect (R.harg4.unread X.wv))

theorem gate_fill : kernelRun0_A.sl.HS0_12 c R.arg2 R.harg2 R.arg3 R.harg3 X.x X.wg = fillPieces R X (weightG R X) 8 := rfl

theorem value_fill : kernelRun0_A.sl.HS1_12 c R.arg2 R.harg2 R.arg4 R.harg4 X.x X.wv = fillPieces R X (weightV R X) 8 := rfl

/-! ## The phases -/

/-- Three taps: the bias, and three rows of coefficients times three arrays. -/
def taps (b c0 c1 c2 : FVec F S1x128 .f32) (h0 h1 h2 : FVec F S64x128 .f32) : FVec F S64x128 .f32 :=
  addf (addf (addf (broadcastTo S64x128 b broadcasts_S1x128_S64x128) (mulf (broadcastTo S64x128 c0 broadcasts_S1x128_S64x128) h0))
    (mulf (broadcastTo S64x128 c1 broadcasts_S1x128_S64x128) h1)) (mulf (broadcastTo S64x128 c2 broadcasts_S1x128_S64x128) h2)

/-- The activation of a gate and half a value. -/
def phase (g v : FVec F S64x128 .f32) : FVec F S1x64x128 .f32 :=
  shapeCast S1x64x128 (mulf (mulf g (addf (broadcast S64x128 (Scalar.ofBits .f32 0x3F800000#32))
    (erf (mulf g (broadcast S64x128 (Named.named κ "inv_sqrt_2" 0x3F3504F3#32)))))) v) shapeCasts_S64x128_S1x64x128

theorem inb_rows (q : ℕ) (k : Fin 3) : ∀ a, S1x64x128.size a = 0 ∨ (![q / 4 % 2, 256 * (q / 8 % 8) + q % 4 + (7 + k.val), 0] : Fin 3 → ℕ) a
    + (![1, 4, 1] : Fin 3 → ℕ) a * (S1x64x128.size a - 1) < S2x2064x128.size a := by
  intro a
  have := k.isLt
  match a with
  | ⟨0, _⟩ => exact Or.inr (show q / 4 % 2 + 1 * 0 < 2 by omega)
  | ⟨1, _⟩ => exact Or.inr (show 256 * (q / 8 % 8) + q % 4 + (7 + k.val) + 4 * 63 < 2064 by omega)
  | ⟨2, _⟩ => exact Or.inr (show 0 + 1 * 127 < 128 by omega)

theorem inb_phase (q : ℕ) : ∀ a, S1x64x128.size a = 0 ∨ (![q / 4 % 2, 256 * (q / 8 % 8) + q % 4, 0] : Fin 3 → ℕ) a
    + (![1, 4, 1] : Fin 3 → ℕ) a * (S1x64x128.size a - 1) < S2x2048x128.size a := by
  intro a
  match a with
  | ⟨0, _⟩ => exact Or.inr (show q / 4 % 2 + 1 * 0 < 2 by omega)
  | ⟨1, _⟩ => exact Or.inr (show 256 * (q / 8 % 8) + q % 4 + 4 * 63 < 2048 by omega)
  | ⟨2, _⟩ => exact Or.inr (show 0 + 1 * 127 < 128 by omega)

theorem inb_coef (q : ℕ) (k : Fin 3) : ∀ a, (![k.val, 128 * (q / 4 % 2)] : Fin 2 → ℕ) a + S1x128.size a ≤ S3x256.size a := by
  intro a
  have := k.isLt
  match a with
  | ⟨0, _⟩ => show k.val + 1 ≤ 3; omega
  | ⟨1, _⟩ => show 128 * (q / 4 % 2) + 128 ≤ 256; omega

theorem inb_bias (q : ℕ) : ∀ a, (![0, 128 * (q / 4 % 2)] : Fin 2 → ℕ) a + S1x128.size a ≤ S1x256.size a := by
  intro a
  match a with
  | ⟨0, _⟩ => show 0 + 1 ≤ 1; omega
  | ⟨1, _⟩ => show 128 * (q / 4 % 2) + 128 ≤ 256; omega

theorem slices_coef (q : ℕ) (k : Fin 3) : S3x256.Slices ![k.val, 128 * (q / 4 % 2)] S1x128 := ⟨rfl, inb_coef q k⟩

theorem slices_bias (q : ℕ) : S1x256.Slices ![0, 128 * (q / 4 % 2)] S1x128 := ⟨rfl, inb_bias q⟩

/-- Rows four apart of a padded copy: what phase `q` multiplies by tap `k`. -/
def rows (v : View sig .tc .vmem S2x2064x128 .f32) (L : List (View.Piece (Elt F) S2x2064x128 .f32)) (q : ℕ) (k : Fin 3) : FVec F S64x128 .f32 :=
  shapeCast S64x128 (v.readCov L (⟨![q / 4 % 2, 256 * (q / 8 % 8) + q % 4 + (7 + k.val), 0], S1x64x128.size, ![1, 4, 1], inb_rows q k⟩ : LoadRect S2x2064x128))
    shapeCasts_S1x64x128_S64x128

/-- A row of the gate's coefficients, -/
def coefG (q : ℕ) (k : Fin 3) : FVec F S1x128 .f32 :=
  shapeCast S1x128 (View.readAt (Elt F) R.arg5.view (Rect.unit (s := S3x256) ![k.val, 128 * (q / 4 % 2)] S1x128.size (inb_coef q k)).toLoadRect (R.harg5.unread X.cg))
    shapeCasts_S1x128_S1x128

/-- its bias, -/
def biasG (q : ℕ) : FVec F S1x128 .f32 :=
  shapeCast S1x128 (View.readAt (Elt F) R.arg7.view (Rect.unit (s := S1x256) ![0, 128 * (q / 4 % 2)] S1x128.size (inb_bias q)).toLoadRect (R.harg7.unread X.bg))
    shapeCasts_S1x128_S1x128

/-- half a row of the value's coefficients, -/
def coefV (q : ℕ) (k : Fin 3) : FVec F S1x128 .f32 :=
  extractStridedSlice S1x128 ![k.val, 128 * (q / 4 % 2)] (k0_pay40 (View.readAt (Elt F) R.arg6.view
    (Rect.unit (s := S3x256) ![0, 0] S3x256.size inb_S3x256_S3x256_0_0).toLoadRect (R.harg6.unread X.cv))) (slices_coef q k)

/-- and half its bias. -/
def biasV (q : ℕ) : FVec F S1x128 .f32 :=
  extractStridedSlice S1x128 ![0, 128 * (q / 4 % 2)] (k0_pay41 (View.readAt (Elt F) R.arg8.view
    (Rect.unit (s := S1x256) ![0, 0] S1x256.size inb_S1x256_S1x256_0_0).toLoadRect (R.harg8.unread X.bv))) (slices_bias q)

/-- The gate of phase `q`, -/
def gate (q : ℕ) : FVec F S64x128 .f32 :=
  taps (biasG R X q) (coefG R X q 0) (coefG R X q 1) (coefG R X q 2) (rows R.arg10.view (fillPieces R X (weightG R X) 8) q 0)
    (rows R.arg10.view (fillPieces R X (weightG R X) 8) q 1) (rows R.arg10.view (fillPieces R X (weightG R X) 8) q 2)

/-- and half its value. -/
def value (q : ℕ) : FVec F S64x128 .f32 :=
  taps (biasV R X q) (coefV R X q 0) (coefV R X q 1) (coefV R X q 2) (rows R.arg11.view (fillPieces R X (weightV R X) 8) q 0)
    (rows R.arg11.view (fillPieces R X (weightV R X) 8) q 1) (rows R.arg11.view (fillPieces R X (weightV R X) 8) q 2)

/-- The store of phase `q`: rows `q % 4` modulo 4 of block `q / 8` of rows, half `q / 4 % 2` of the columns. -/
def phasePiece (q : ℕ) : View.Piece (Elt F) S2x2048x128 .f32 :=
  ⟨⟨⟨![q / 4 % 2, 256 * (q / 8 % 8) + q % 4, 0], S1x64x128.size, ![1, 4, 1], inb_phase q⟩, spos_1_4_1⟩, phase (gate R X q) (value R X q)⟩

/-- The stores of the first `n` phases, last first. -/
def phasePieces : ℕ → List (View.Piece (Elt F) S2x2048x128 .f32)
  | 0 => []
  | n + 1 => phasePiece R X n :: phasePieces n

/-- The stores of all phases, as the generated run names them. -/
theorem phases : kernelRun0_A.sl.HS2_64 c R.arg2 R.harg2 R.arg3 R.harg3 R.arg4 R.harg4 R.arg5 R.harg5 R.arg6 R.harg6 R.arg7 R.harg7 R.arg8 R.harg8 R.arg10 R.arg11
    X.x X.wg X.wv X.cg X.cv X.bg X.bv = phasePieces R X 64 := rfl

/-! ## The output -/

theorem inb_block (n : ℕ) : ∀ a, (![n % 2, 256 * (n / 2 % 8), 0] : Fin 3 → ℕ) a + S1x256x128.size a ≤ S2x2048x128.size a := by
  intro a
  match a with
  | ⟨0, _⟩ => show n % 2 + 1 ≤ 2; omega
  | ⟨1, _⟩ => show 256 * (n / 2 % 8) + 256 ≤ 2048; omega
  | ⟨2, _⟩ => show 0 + 128 ≤ 128; omega

theorem inb_out (n : ℕ) : ∀ a, (![0, 256 * (n / 2 % 8), 128 * (n % 2)] : Fin 3 → ℕ) a + S1x256x128.size a ≤ S1x2048x256.size a := by
  intro a
  match a with
  | ⟨0, _⟩ => show 0 + 1 ≤ 1; omega
  | ⟨1, _⟩ => show 256 * (n / 2 % 8) + 256 ≤ 2048; omega
  | ⟨2, _⟩ => show 128 * (n % 2) + 128 ≤ 256; omega

/-- The store of block `n` of the output: what the scratch holds after the block's four phases. -/
def outPiece (n : ℕ) : View.Piece (Elt F) S1x2048x256 .bf16 :=
  ⟨Rect.unit (s := S1x2048x256) ![0, 256 * (n / 2 % 8), 128 * (n % 2)] S1x256x128.size (inb_out n),
    k0_pay71 (R.arg12.view.readCov (phasePieces R X (4 * (n + 1)))
      (Rect.unit (s := S2x2048x128) ![n % 2, 256 * (n / 2 % 8), 0] S1x256x128.size (inb_block n)).toLoadRect)⟩

/-- The stores of the first `n` blocks, last first. -/
def outPieces : ℕ → List (View.Piece (Elt F) S1x2048x256 .bf16)
  | 0 => []
  | n + 1 => outPiece R X n :: outPieces n

/-- The stores of the whole body into the output block. -/
theorem run_pieces :
    (kernelRun0_A c i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12
      X.x X.wg X.wv X.cg X.cv X.bg X.bv).1 = outPieces R X 16 := rfl

end Cert.FfnUpIdeal.Claims

end
-- ==== Proof.FfnUpOuts.lean ====
/-
  What a grid point of the feed-forward activation's call leaves in its output block, from its input blocks.
-/
module

public import proofs.«01_k».proof.Defs
public import proofs.«01_k».proof.Proof.FfnUpRun
public import Idealize.ShloMosaic.Lib.Pipeline.ValueKit
public import Idealize.ShloMosaic.Lib.Pipeline.ReadBack

@[expose] public section

set_option maxRecDepth 16384

noncomputable section

namespace Cert.FfnUpIdeal.Claims

open Cert.FfnUpIdeal Cert.FfnUpIdeal.Gen Idealize.ShloMosaic Idealize.ShloMosaic.TcCoe Idealize.SL.Sem

variable (R : Refs) (X : Blocks Ideal)

theorem product_apply (n : ℕ) (w : FVec Ideal S1024x256 .bf16) (v : Vec Ideal S1x512x1024 .bf16) (y : S1x512x128.Idx) :
    product n w v y = ∑ k : Fin 1024, v (ix3 0 (y 1) k) * w (ix2 k ⟨128 * (n % 2) + (y 2).val, by have : (y 2).val < 128 := (y 2).isLt; omega⟩) := by
  pointwise [product]

theorem weightG_apply (y : S1024x256.Idx) : weightG R X y = X.wg (ix3 0 (y 0) (y 1)) := by
  unfold weightG
  simp only [View.readAt_eq_ld, R.harg3.read_unread]
  pointwise [k0_pay2]

theorem weightV_apply (y : S1024x256.Idx) : weightV R X y = X.wv (ix3 0 (y 0) (y 1)) := by
  unfold weightV
  simp only [View.readAt_eq_ld, R.harg4.read_unread]
  pointwise [k0_pay2]

theorem zero_apply (y : S1x8x128.Idx) : k0_pay4 (F := Ideal) y = 0 := by
  pointwise [k0_pay4, k0_pay3]

theorem coefG_apply (q : ℕ) (k : Fin 3) (y : S1x128.Idx) :
    coefG R X q k y = X.cg (ix2 k ⟨128 * (q / 4 % 2) + (y 1).val, by have : (y 1).val < 128 := (y 1).isLt; omega⟩) := by
  unfold coefG
  simp only [View.readAt_eq_ld, R.harg5.read_unread]
  pointwise []

theorem coefV_apply (q : ℕ) (k : Fin 3) (y : S1x128.Idx) :
    coefV R X q k y = Ideal.ofBits .f32 0x3F000000#32 * X.cv (ix2 k ⟨128 * (q / 4 % 2) + (y 1).val, by have : (y 1).val < 128 := (y 1).isLt; omega⟩) := by
  unfold coefV
  simp only [View.readAt_eq_ld, R.harg6.read_unread]
  pointwise [k0_pay40]

theorem biasG_apply (q : ℕ) (y : S1x128.Idx) :
    biasG R X q y = X.bg (ix2 0 ⟨128 * (q / 4 % 2) + (y 1).val, by have : (y 1).val < 128 := (y 1).isLt; omega⟩) := by
  unfold biasG
  simp only [View.readAt_eq_ld, R.harg7.read_unread]
  pointwise []

theorem biasV_apply (q : ℕ) (y : S1x128.Idx) :
    biasV R X q y = Ideal.ofBits .f32 0x3F000000#32 * X.bv (ix2 0 ⟨128 * (q / 4 % 2) + (y 1).val, by have : (y 1).val < 128 := (y 1).isLt; omega⟩) := by
  unfold biasV
  simp only [View.readAt_eq_ld, R.harg8.read_unread]
  pointwise [k0_pay41]

theorem ix3_congr {a b c : ℕ} {i i' : Fin a} {j j' : Fin b} {k k' : Fin c} (h : i = i') (h' : j = j') (h'' : k = k') : ix3 i j k = ix3 i' j' k' := by
  rw [h, h', h'']

theorem taps_apply (b c0 c1 c2 : FVec Ideal S1x128 .f32) (h0 h1 h2 : FVec Ideal S64x128 .f32) (y : S64x128.Idx) :
    taps b c0 c1 c2 h0 h1 h2 y = b (ix2 0 (y 1)) + c0 (ix2 0 (y 1)) * h0 y + c1 (ix2 0 (y 1)) * h1 y + c2 (ix2 0 (y 1)) * h2 y := by
  pointwise [taps]

theorem inv_sqrt_2_eq : Named.named (F := Ideal) κ "inv_sqrt_2" (φ := .f32) 0x3F3504F3#32 = (((Real.sqrt 2)⁻¹ : ℝ) : EReal) :=
  IdealRules.named_const.ideal_named_scalar _ _ _ _ rfl

theorem phase_apply (g v : FVec Ideal S64x128 .f32) (y : S1x64x128.Idx) :
    phase g v y = g (ix2 (y 1) (y 2)) * (1 + Ideal.erf (g (ix2 (y 1) (y 2)) * (((Real.sqrt 2)⁻¹ : ℝ) : EReal))) * v (ix2 (y 1) (y 2)) := by
  pointwise [phase, inv_sqrt_2_eq]
  rfl

/-- Dropping the leading unit axis. -/
theorem drop_unit (f : FVec Ideal S1x64x128 .f32) (y : S64x128.Idx) :
    shapeCast S64x128 f shapeCasts_S1x64x128_S64x128 y = f (ix3 0 (y 0) (y 1)) := by
  pointwise []

theorem rows_apply (v : View sig .tc .vmem S2x2064x128 .f32) (L : List (View.Piece (Elt Ideal) S2x2064x128 .f32)) (q : ℕ) (k : Fin 3) (y : S64x128.Idx) :
    rows v L q k y = View.canon L (ix3 ⟨q / 4 % 2, by omega⟩ ⟨256 * (q / 8 % 8) + q % 4 + (7 + k.val) + 4 * (y 0).val, by
      have : (y 0).val < 64 := (y 0).isLt
      have := k.isLt
      omega⟩ (y 1)) := by
  unfold rows
  rw [View.readCov_eq_canon', drop_unit]
  refine congrArg (View.canon L) (funext fun a => Fin.ext ?_)
  match a with
  | ⟨0, _⟩ => rfl
  | ⟨1, _⟩ => rfl
  | ⟨2, _⟩ => exact (Nat.zero_add _).trans (Nat.one_mul _)

/-! ## The padded copies -/

/-- A product of x and a weight's block of columns with eight rows of zeros before and after, its two halves of columns apart. -/
def padded (x : FVec Ideal S1x2048x1024 .bf16) (w : FVec Ideal S1x1024x256 .f32) (y : S2x2064x128.Idx) : EReal :=
  if h : 8 ≤ (y 1).val ∧ (y 1).val < 2056 then
    ∑ k : Fin 1024, x (ix3 0 ⟨(y 1).val - 8, by omega⟩ k) * w (ix3 0 k ⟨128 * (y 0).val + (y 2).val, by
      have : (y 0).val < 2 := (y 0).isLt
      have : (y 2).val < 128 := (y 2).isLt
      omega⟩)
  else 0

theorem fillPiece_apply (w16 : FVec Ideal S1024x256 .bf16) (w : FVec Ideal S1x1024x256 .f32) (hw : ∀ y, w16 y = w (ix3 0 (y 0) (y 1))) (n : ℕ)
    (y : (fillPiece R X w16 n).1.shape.Idx) : (fillPiece R X w16 n).2 y = padded X.x w ((fillPiece R X w16 n).1.emb y) := by
  have h0 : (y 0).val < 1 := (y 0).isLt
  have h1 : (y 1).val < 512 := (y 1).isLt
  have h2 : (y 2).val < 128 := (y 2).isLt
  have e0 : ((fillPiece R X w16 n).1.emb y 0).val = n % 2 + 1 * (y 0).val := rfl
  have e1 : ((fillPiece R X w16 n).1.emb y 1).val = 8 + 512 * (n / 2 % 4) + 1 * (y 1).val := rfl
  have e2 : ((fillPiece R X w16 n).1.emb y 2).val = 0 + 1 * (y 2).val := rfl
  unfold padded
  rw [dif_pos (by omega)]
  refine (product_apply n w16 _ y).trans (Finset.sum_congr rfl fun k _ => ?_)
  rw [View.readAt_eq_ld, R.harg2.read_unread, hw]
  refine congrArg₂ (· * ·) (congrArg X.x (funext fun a => Fin.ext ?_)) (congrArg w (funext fun a => Fin.ext ?_))
  · match a with
    | ⟨0, _⟩ => rfl
    | ⟨1, _⟩ => show 512 * (n / 2 % 4) + 1 * (y 1).val = ((fillPiece R X w16 n).1.emb y 1).val - 8; omega
    | ⟨2, _⟩ => exact (Nat.zero_add _).trans (Nat.one_mul _)
  · match a with
    | ⟨0, _⟩ => rfl
    | ⟨1, _⟩ => rfl
    | ⟨2, _⟩ => show 128 * (n % 2) + (y 2).val = 128 * ((fillPiece R X w16 n).1.emb y 0).val + ((fillPiece R X w16 n).1.emb y 2).val; omega

/-- A store of eight rows of zeros, before or after the products. -/
theorem zero_piece (x : FVec Ideal S1x2048x1024 .bf16) (w : FVec Ideal S1x1024x256 .f32) (s r : ℕ) (hr : r = 0 ∨ r = 2056)
    (inb : ∀ a, (![s, r, 0] : Fin 3 → ℕ) a + S1x8x128.size a ≤ S2x2064x128.size a) (y : S1x8x128.Idx) :
    k0_pay4 (F := Ideal) y = padded x w ((Rect.unit (s := S2x2064x128) ![s, r, 0] S1x8x128.size inb).emb y) := by
  have h1 : (y 1).val < 8 := (y 1).isLt
  have e1 : (((Rect.unit (s := S2x2064x128) ![s, r, 0] S1x8x128.size inb).emb y) 1).val = r + 1 * (y 1).val := rfl
  unfold padded
  rw [zero_apply, dif_neg (by omega)]

theorem fillPieces_apply (w16 : FVec Ideal S1024x256 .bf16) (w : FVec Ideal S1x1024x256 .f32) (hw : ∀ y, w16 y = w (ix3 0 (y 0) (y 1))) (n : ℕ) :
    ∀ p ∈ fillPieces R X w16 n, ∀ y : p.1.shape.Idx, p.2 y = padded X.x w (p.1.emb y) := by
  induction n with
  | zero =>
    intro p hp
    simp only [fillPieces, zeroPieces, List.mem_cons, List.not_mem_nil, or_false] at hp
    rcases hp with rfl | rfl | rfl | rfl
    · exact zero_piece _ _ 1 2056 (Or.inr rfl) inb_S2x2064x128_S1x8x128_1_2056_0
    · exact zero_piece _ _ 1 0 (Or.inl rfl) inb_S2x2064x128_S1x8x128_1_0_0
    · exact zero_piece _ _ 0 2056 (Or.inr rfl) inb_S2x2064x128_S1x8x128_0_2056_0
    · exact zero_piece _ _ 0 0 (Or.inl rfl) inb_S2x2064x128_S1x8x128_0_0_0
  | succ n ih =>
    intro p hp
    rcases List.mem_cons.mp hp with rfl | hp
    · exact fillPiece_apply R X w16 w hw n
    · exact ih p hp

theorem zero_mem (w16 : FVec Ideal S1024x256 .bf16) (n : ℕ) : ∀ p ∈ zeroPieces (F := Ideal), p ∈ fillPieces R X w16 n := by
  intro p hp
  induction n with
  | zero => exact hp
  | succ n ih => exact List.mem_cons_of_mem _ ih

theorem fill_mem (w16 : FVec Ideal S1024x256 .bf16) {m n : ℕ} (h : m < n) : fillPiece R X w16 m ∈ fillPieces R X w16 n := by
  induction n with
  | zero => omega
  | succ n ih =>
    rcases Nat.lt_or_eq_of_le (Nat.lt_succ_iff.mp h) with h | rfl
    · exact List.mem_cons_of_mem _ (ih h)
    · exact List.mem_cons_self

/-- The stores cover the padded copy. -/
theorem fill_covers (w16 : FVec Ideal S1024x256 .bf16) (y : S2x2064x128.Idx) : ∃ p ∈ fillPieces R X w16 8, y ∈ p.1.set := by
  have h0 : (y 0).val < 2 := (y 0).isLt
  have h1 : (y 1).val < 2064 := (y 1).isLt
  have h2 : (y 2).val < 128 := (y 2).isLt
  by_cases hm : 8 ≤ (y 1).val ∧ (y 1).val < 2056
  · refine ⟨_, fill_mem R X w16 (m := 2 * (((y 1).val - 8) / 512) + (y 0).val) (by omega), (Rect.mem_set_unit (inb := inb_fill _)).mpr fun a => ?_⟩
    match a with
    | ⟨0, _⟩ => show (2 * (((y 1).val - 8) / 512) + (y 0).val) % 2 ≤ (y 0).val ∧ (y 0).val < (2 * (((y 1).val - 8) / 512) + (y 0).val) % 2 + 1; omega
    | ⟨1, _⟩ => show 8 + 512 * ((2 * (((y 1).val - 8) / 512) + (y 0).val) / 2 % 4) ≤ (y 1).val ∧ (y 1).val < 8 + 512 * ((2 * (((y 1).val - 8) / 512) + (y 0).val) / 2 % 4) + 512; omega
    | ⟨2, _⟩ => show 0 ≤ (y 2).val ∧ (y 2).val < 0 + 128; omega
  · suffices ∃ s r : ℕ, ∃ inb, (⟨Rect.unit (s := S2x2064x128) ![s, r, 0] S1x8x128.size inb, k0_pay4 (F := Ideal)⟩ : View.Piece (Elt Ideal) S2x2064x128 .f32) ∈ zeroPieces (F := Ideal)
        ∧ s = (y 0).val ∧ r ≤ (y 1).val ∧ (y 1).val < r + 8 by
      obtain ⟨s, r, inb, hp, hs, hr, hr'⟩ := this
      refine ⟨_, zero_mem R X w16 8 _ hp, (Rect.mem_set_unit (inb := inb)).mpr fun a => ?_⟩
      match a with
      | ⟨0, _⟩ => show s ≤ (y 0).val ∧ (y 0).val < s + 1; omega
      | ⟨1, _⟩ => show r ≤ (y 1).val ∧ (y 1).val < r + 8; omega
      | ⟨2, _⟩ => show 0 ≤ (y 2).val ∧ (y 2).val < 0 + 128; omega
    rcases (by omega : (y 0).val = 0 ∨ (y 0).val = 1) with hs | hs <;> rcases (by omega : (y 1).val < 8 ∨ 2056 ≤ (y 1).val) with hr | hr
    · exact ⟨0, 0, inb_S2x2064x128_S1x8x128_0_0_0, by simp [zeroPieces], by omega⟩
    · exact ⟨0, 2056, inb_S2x2064x128_S1x8x128_0_2056_0, by simp [zeroPieces], by omega⟩
    · exact ⟨1, 0, inb_S2x2064x128_S1x8x128_1_0_0, by simp [zeroPieces], by omega⟩
    · exact ⟨1, 2056, inb_S2x2064x128_S1x8x128_1_2056_0, by simp [zeroPieces], by omega⟩

/-- What the stores leave in a padded copy. -/
theorem fill (w16 : FVec Ideal S1024x256 .bf16) (w : FVec Ideal S1x1024x256 .f32) (hw : ∀ y, w16 y = w (ix3 0 (y 0) (y 1))) :
    View.canon (fillPieces R X w16 8) = padded X.x w :=
  funext fun y => View.canon_apply_of_pieces (padded X.x w) _ (fillPieces_apply R X w16 w hw 8) y (fill_covers R X w16 y)

/-! ## The phases -/

/-- The convolution of three taps along the rows of a padded copy at row `p` (its rows `p + 7`, `p + 8`, `p + 9`), column `l` of half `s`. -/
def conv (b : FVec Ideal S1x256 .f32) (w : FVec Ideal S3x256 .f32) (h : S2x2064x128.Idx → EReal) (s : Fin 2) (p : Fin 2048) (l : Fin 128) : EReal :=
  let j : Fin 256 := ⟨128 * s.val + l.val, by omega⟩
  b (ix2 0 j) + w (ix2 0 j) * h (ix3 s ⟨p.val + 7, by omega⟩ l) + w (ix2 1 j) * h (ix3 s ⟨p.val + 8, by omega⟩ l)
    + w (ix2 2 j) * h (ix3 s ⟨p.val + 9, by omega⟩ l)

/-- The activation of a gate and half a value. -/
def act (g v : EReal) : EReal := g * (1 + Ideal.erf (g * (((Real.sqrt 2)⁻¹ : ℝ) : EReal))) * v

/-- Half of a number. -/
def half (a : EReal) : EReal := Ideal.ofBits .f32 0x3F000000#32 * a

/-- What the phases leave in the activation's scratch. -/
def acts (X : Blocks Ideal) (y : S2x2048x128.Idx) : EReal :=
  act (conv X.bg X.cg (padded X.x X.wg) (y 0) (y 1) (y 2))
    (conv (fun i => half (X.bv i)) (fun i => half (X.cv i)) (padded X.x X.wv) (y 0) (y 1) (y 2))

/-- Row `r` of phase `q` in the scratch. -/
def rowOf (q : ℕ) (r : Fin 64) : Fin 2048 := ⟨256 * (q / 8 % 8) + q % 4 + 4 * r.val, by omega⟩
/-- Its half of the columns. -/
def halfOf (q : ℕ) : Fin 2 := ⟨q / 4 % 2, by omega⟩

theorem gate_apply (q : ℕ) (y : S64x128.Idx) : gate R X q y = conv X.bg X.cg (padded X.x X.wg) (halfOf q) (rowOf q (y 0)) (y 1) := by
  unfold gate conv
  rw [taps_apply, rows_apply, rows_apply, rows_apply, fill R X _ X.wg (weightG_apply R X), coefG_apply, coefG_apply, coefG_apply, biasG_apply]
  refine congrArg₂ (· + ·) (congrArg₂ (· + ·) (congrArg₂ (· + ·) rfl (congrArg₂ (· * ·) rfl (congrArg _ (ix3_congr rfl ?_ rfl))))
    (congrArg₂ (· * ·) rfl (congrArg _ (ix3_congr rfl ?_ rfl)))) (congrArg₂ (· * ·) rfl (congrArg _ (ix3_congr rfl ?_ rfl)))
  all_goals (apply Fin.ext; simp only [rowOf]; omega)

theorem value_apply (q : ℕ) (y : S64x128.Idx) : value R X q y
    = conv (fun i => half (X.bv i)) (fun i => half (X.cv i)) (padded X.x X.wv) (halfOf q) (rowOf q (y 0)) (y 1) := by
  unfold value conv
  rw [taps_apply, rows_apply, rows_apply, rows_apply, fill R X _ X.wv (weightV_apply R X), coefV_apply, coefV_apply, coefV_apply, biasV_apply]
  refine congrArg₂ (· + ·) (congrArg₂ (· + ·) (congrArg₂ (· + ·) rfl (congrArg₂ (· * ·) rfl (congrArg _ (ix3_congr rfl ?_ rfl))))
    (congrArg₂ (· * ·) rfl (congrArg _ (ix3_congr rfl ?_ rfl)))) (congrArg₂ (· * ·) rfl (congrArg _ (ix3_congr rfl ?_ rfl)))
  all_goals (apply Fin.ext; simp only [rowOf]; omega)

theorem phasePiece_apply (q : ℕ) (y : (phasePiece R X q).1.shape.Idx) : (phasePiece R X q).2 y = acts X ((phasePiece R X q).1.emb y) := by
  have h0 : (y 0).val < 1 := (y 0).isLt
  refine (phase_apply (gate R X q) (value R X q) y).trans ?_
  rw [gate_apply, value_apply]
  have e0 : (phasePiece R X q).1.emb y 0 = halfOf q := Fin.ext (by show q / 4 % 2 + 1 * (y 0).val = q / 4 % 2; omega)
  have e1 : (phasePiece R X q).1.emb y 1 = rowOf q (y 1) := Fin.ext rfl
  have e2 : (phasePiece R X q).1.emb y 2 = y 2 := Fin.ext ((Nat.zero_add _).trans (Nat.one_mul _))
  unfold acts
  rw [e0, e1, e2]
  rfl

theorem phasePieces_apply (n : ℕ) : ∀ p ∈ phasePieces R X n, ∀ y : p.1.shape.Idx, p.2 y = acts X (p.1.emb y) := by
  induction n with
  | zero => intro p hp; exact absurd hp List.not_mem_nil
  | succ n ih =>
    intro p hp
    rcases List.mem_cons.mp hp with rfl | hp
    · exact phasePiece_apply R X n
    · exact ih p hp

theorem phase_mem {m n : ℕ} (h : m < n) : phasePiece R X m ∈ phasePieces R X n := by
  induction n with
  | zero => omega
  | succ n ih =>
    rcases Nat.lt_or_eq_of_le (Nat.lt_succ_iff.mp h) with h | rfl
    · exact List.mem_cons_of_mem _ (ih h)
    · exact List.mem_cons_self

/-- A block of the scratch read back after its four phases. -/
theorem block_apply (n : ℕ) (hn : n < 16) (y : S1x256x128.Idx) :
    R.arg12.view.readCov (phasePieces R X (4 * (n + 1)))
      (Rect.unit (s := S2x2048x128) ![n % 2, 256 * (n / 2 % 8), 0] S1x256x128.size (inb_block n)).toLoadRect y
    = acts X ((Rect.unit (s := S2x2048x128) ![n % 2, 256 * (n / 2 % 8), 0] S1x256x128.size (inb_block n)).emb y) := by
  have h0 : (y 0).val < 1 := (y 0).isLt
  have h1 : (y 1).val < 256 := (y 1).isLt
  have h2 : (y 2).val < 128 := (y 2).isLt
  rw [View.readCov_eq_canon']
  refine View.canon_apply_of_pieces (acts X) _ (phasePieces_apply R X _) _ ⟨_, phase_mem R X (m := 4 * n + (y 1).val % 4) (n := 4 * (n + 1)) (by omega), ?_⟩
  refine (LoadRect.mem_set _).mpr fun a => ?_
  match a with
  | ⟨0, _⟩ => exact ⟨0, Nat.one_pos, show n % 2 + 1 * (y 0).val = (4 * n + (y 1).val % 4) / 4 % 2 + 1 * 0 by omega⟩
  | ⟨1, _⟩ => exact ⟨(y 1).val / 4, show (y 1).val / 4 < 64 by omega,
      show 256 * (n / 2 % 8) + 1 * (y 1).val = 256 * ((4 * n + (y 1).val % 4) / 8 % 8) + (4 * n + (y 1).val % 4) % 4 + 4 * ((y 1).val / 4) by omega⟩
  | ⟨2, _⟩ => exact ⟨(y 2).val, h2, show 0 + 1 * (y 2).val = 0 + 1 * (y 2).val from rfl⟩

/-! ## The output -/

/-- What a point leaves in its output block. -/
def blockOut (X : Blocks Ideal) (y : S1x2048x256.Idx) : EReal :=
  acts X (ix3 ⟨(y 2).val / 128, by have : (y 2).val < 256 := (y 2).isLt; omega⟩ (y 1) ⟨(y 2).val % 128, Nat.mod_lt _ (by decide)⟩)

theorem round_apply (v : Vec Ideal S1x256x128 .f32) (y : S1x256x128.Idx) : k0_pay71 (F := Ideal) v y = v y := by
  pointwise [k0_pay71]

theorem outPiece_apply (n : ℕ) (hn : n < 16) (y : (outPiece R X n).1.shape.Idx) : (outPiece R X n).2 y = blockOut X ((outPiece R X n).1.emb y) := by
  have h0 : (y 0).val < 1 := (y 0).isLt
  have h1 : (y 1).val < 256 := (y 1).isLt
  have h2 : (y 2).val < 128 := (y 2).isLt
  have e2 : ((outPiece R X n).1.emb y 2).val = 128 * (n % 2) + 1 * (y 2).val := rfl
  unfold blockOut
  refine (round_apply (R.arg12.view.readCov (phasePieces R X (4 * (n + 1)))
      (Rect.unit (s := S2x2048x128) ![n % 2, 256 * (n / 2 % 8), 0] S1x256x128.size (inb_block n)).toLoadRect) y).trans ?_
  refine (block_apply R X n hn y).trans ?_
  refine congrArg (acts X) (funext fun a => Fin.ext ?_)
  match a with
  | ⟨0, _⟩ => show n % 2 + 1 * (y 0).val = ((outPiece R X n).1.emb y 2).val / 128; omega
  | ⟨1, _⟩ => rfl
  | ⟨2, _⟩ => show 0 + 1 * (y 2).val = ((outPiece R X n).1.emb y 2).val % 128; omega

theorem outPieces_apply (n : ℕ) (hn : n ≤ 16) : ∀ p ∈ outPieces R X n, ∀ y : p.1.shape.Idx, p.2 y = blockOut X (p.1.emb y) := by
  induction n with
  | zero => intro p hp; exact absurd hp List.not_mem_nil
  | succ n ih =>
    intro p hp
    rcases List.mem_cons.mp hp with rfl | hp
    · exact outPiece_apply R X n hn
    · exact ih (by omega) p hp

theorem out_mem {m n : ℕ} (h : m < n) : outPiece R X m ∈ outPieces R X n := by
  induction n with
  | zero => omega
  | succ n ih =>
    rcases Nat.lt_or_eq_of_le (Nat.lt_succ_iff.mp h) with h | rfl
    · exact List.mem_cons_of_mem _ (ih h)
    · exact List.mem_cons_self

theorem out_covers (y : S1x2048x256.Idx) : ∃ p ∈ outPieces R X 16, y ∈ p.1.set := by
  have h0 : (y 0).val < 1 := (y 0).isLt
  have h1 : (y 1).val < 2048 := (y 1).isLt
  have h2 : (y 2).val < 256 := (y 2).isLt
  refine ⟨_, out_mem R X (m := 2 * ((y 1).val / 256) + (y 2).val / 128) (by omega), (Rect.mem_set_unit (inb := inb_out _)).mpr fun a => ?_⟩
  match a with
  | ⟨0, _⟩ => show 0 ≤ (y 0).val ∧ (y 0).val < 0 + 1; omega
  | ⟨1, _⟩ => show 256 * ((2 * ((y 1).val / 256) + (y 2).val / 128) / 2 % 8) ≤ (y 1).val ∧ (y 1).val < 256 * ((2 * ((y 1).val / 256) + (y 2).val / 128) / 2 % 8) + 256; omega
  | ⟨2, _⟩ => show 128 * ((2 * ((y 1).val / 256) + (y 2).val / 128) % 2) ≤ (y 2).val ∧ (y 2).val < 128 * ((2 * ((y 1).val / 256) + (y 2).val / 128) % 2) + 128; omega

variable (m : (ℓ : Loc nD τ sig) → Buf (Elt Ideal) ℓ)

/-- The input blocks of point `t`. -/
def blocks (c : Dev nD) (t : Fin cfg0.N) : Blocks Ideal :=
  ⟨iblk m c 0 t, iblk m c 1 t, iblk m c 2 t, iblk m c 3 t, iblk m c 4 t, iblk m c 5 t, iblk m c 6 t⟩

/-- The buffers of point `t`. -/
def refs (t : Fin cfg0.N) : Refs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    scM0_0, Memref.isWhole_whole _, scM0_1, Memref.isWhole_whole _, scM0_2, Memref.isWhole_whole _⟩

theorem outs (c : Dev nD) (t : Fin cfg0.N) (y : S1x2048x256.Idx) : outsAt0 m c t y = blockOut (blocks m c t) y := by
  have h : outsAt0 m c t = VO0_7.read (Elt Ideal) (VO0_7.writes (Elt Ideal) VO0_7.junk (outPieces (refs t) (blocks m c t) 16)) := by
    rw [← run_pieces c (grid0.coords t) (refs t) (blocks m c t)]
    rfl
  rw [h]
  exact View.read_writes_apply_of_pieces _ _ (blockOut (blocks m c t)) _ (outPieces_apply _ _ 16 le_rfl) y (out_covers _ _ y)

end Cert.FfnUpIdeal.Claims

end
-- ==== Proof.FfnUpRefValue.lean ====
/-
  The feed-forward's activation at the array, and the reference's result.
-/
module

public import proofs.«01_k».proof.Proof.FfnUpOuts
public import proofs.«01_k».proof.Proof.Constants
public import proofs.«01_k».proof.Proof.Gen.FfnUpRefIdeal.Run

@[expose] public section

set_option maxRecDepth 16384

noncomputable section

namespace Cert.FfnUpIdeal.Claims

open Cert.FfnUpIdeal Cert.FfnUpIdeal.Gen Idealize.ShloMosaic Idealize.ShloMosaic.TcCoe Idealize.SL.Sem

/-- The product of x and the first layer's weights at row `p - 1` of the sequence, and zero outside it. -/
def productAt (A : FVec Ideal S8x2048x1024 .bf16) (W : FVec Ideal S4x1024x5632 .f32) (b : Fin 8) (p : ℕ) (j : Fin 5632) : EReal :=
  if h : 1 ≤ p ∧ p < 2049 then ∑ k : Fin 1024, A (ix3 b ⟨p - 1, by omega⟩ k) * W (ix3 0 k j) else 0

/-- The convolution at row `p`. -/
def convAt (A : FVec Ideal S8x2048x1024 .bf16) (W : FVec Ideal S4x1024x5632 .f32) (C : FVec Ideal S4x3x5632 .f32) (B : FVec Ideal S4x5632 .f32)
    (b : Fin 8) (p : ℕ) (j : Fin 5632) : EReal :=
  B (ix2 0 j) + C (ix3 0 0 j) * productAt A W b p j + C (ix3 0 1 j) * productAt A W b (p + 1) j + C (ix3 0 2 j) * productAt A W b (p + 2) j

/-- The result, at the array: the columns' halves are the gates and the values. -/
def result (A : FVec Ideal S8x2048x1024 .bf16) (W : FVec Ideal S4x1024x5632 .f32) (C : FVec Ideal S4x3x5632 .f32) (B : FVec Ideal S4x5632 .f32) :
    S8x2048x2816.Idx → EReal := fun i =>
  act (convAt A W C B (i 0) (i 1 : Fin 2048).val ⟨(i 2 : Fin 2816).val, by have : (i 2 : Fin 2816).val < 2816 := (i 2 : Fin 2816).isLt; omega⟩)
    (half (convAt A W C B (i 0) (i 1 : Fin 2048).val ⟨2816 + (i 2 : Fin 2816).val, by have : (i 2 : Fin 2816).val < 2816 := (i 2 : Fin 2816).isLt; omega⟩))

/-- Half of a sum is the sum of the halves. -/
theorem half_add (a b : EReal) : half (a + b) = half a + half b := by
  unfold half
  rw [Constants.bits_half]
  exact EReal.left_distrib_of_nonneg_of_ne_top (by exact_mod_cast (by norm_num : (0 : ℝ) ≤ 1 / 2)) (EReal.coe_ne_top _) _ _

theorem half_mul (a b : EReal) : half (a * b) = half a * b := (mul_assoc _ _ _).symm

end Cert.FfnUpIdeal.Claims

namespace Cert.FfnUpRefIdeal.Claims

open Cert.FfnUpRefIdeal Cert.FfnUpRefIdeal.Gen Idealize.ShloMosaic Idealize.ShloMosaic.TcCoe Idealize.SL.Sem
open Cert.FfnUpIdeal.Claims (productAt convAt result act half half_add half_mul)

variable [Cert.FfnUpRefIdeal.Facts]
variable (A : FVec Ideal S8x2048x1024 .bf16) (W : FVec Ideal S4x1024x5632 .f32) (C : FVec Ideal S4x3x5632 .f32) (B : FVec Ideal S4x5632 .f32)

/-- The padded product, as the reference spells it. -/
def padRef : FVec Ideal S8x2050x5632 .f32 :=
  pad S8x2050x5632 ![0, 1, 0] ![0, 1, 0] ![0, 0, 0] (Host.dotGeneral dot_S8x2048x1024_S1024x5632_S8x2048x5632_2_0_01_1_n_n none (extf .f32 A bitsLt_bf16_f32) (shapeCast _ (extractStridedSlice S1x1024x5632 ![0, 0, 0] W slices_S4x1024x5632_S1x1024x5632_0_0_0) shapeCasts_S1x1024x5632_S1024x5632)) (sitofp .f32 (constantI S_ 32 0#32)) pads_S8x2048x5632_S8x2050x5632_000_110_000 h_S_

theorem padRef_apply (i : S8x2050x5632.Idx) : padRef A W i = productAt A W (i 0) (i 1 : Fin 2050).val (i 2) := by
  pointwise [padRef]
  unfold productAt
  refine dite_congr (propext ?_) (fun _ => rfl) fun _ => ?_
  · omega
  · show (((0#32 : BitVec 32).toInt : ℝ) : EReal) = 0
    simp

theorem taps_comm (b c0 c1 c2 h0 h1 h2 : EReal) : h0 * c0 + h1 * c1 + h2 * c2 + b = b + c0 * h0 + c1 * h1 + c2 * h2 := by
  ac_rfl

/-- The reference halves the gate and divides by the root of 2. -/
theorem act_eq (g v : EReal) :
    half g * (1 + Ideal.erf (Ideal.div g (Ideal.sqrt (Ideal.ofBits .f32 0x40000000#32)))) * v = act g (half v) := by
  have h2 : Ideal.div g (Ideal.sqrt (Ideal.ofBits .f32 0x40000000#32)) = g * (((Real.sqrt 2)⁻¹ : ℝ) : EReal) := by
    rw [Constants.bits_2, Ideal.sqrt_coe, if_neg (by norm_num)]
    rw [Ideal.div_coe (Real.sqrt_ne_zero'.mpr (by norm_num)), one_div]
  unfold act half
  rw [h2]
  ac_rfl

/-- The convolution, as the reference spells it. -/
def convRef : FVec Ideal S8x2048x5632 .f32 :=
  addf (addf (addf (addf (broadcastInDim S8x2048x5632 ![] bcast_S_S8x2048x5632 (constant S_ .f32 0x00000000#32)) (mulf (extractStridedSlice S8x2048x5632 ![0, 0, 0] (padRef A W) slices_S8x2050x5632_S8x2048x5632_0_0_0) (broadcastInDim S8x2048x5632 ![0, 1, 2] bcast_S1x1x5632_S8x2048x5632_0_1_2 (broadcastInDim S1x1x5632 ![2] bcast_S5632_S1x1x5632_2 (shapeCast _ (extractStridedSlice S1x1x5632 ![0, 0, 0] C slices_S4x3x5632_S1x1x5632_0_0_0) shapeCasts_S1x1x5632_S5632))))) (mulf (extractStridedSlice S8x2048x5632 ![0, 1, 0] (padRef A W) slices_S8x2050x5632_S8x2048x5632_0_1_0) (broadcastInDim S8x2048x5632 ![0, 1, 2] bcast_S1x1x5632_S8x2048x5632_0_1_2 (broadcastInDim S1x1x5632 ![2] bcast_S5632_S1x1x5632_2 (shapeCast _ (extractStridedSlice S1x1x5632 ![0, 1, 0] C slices_S4x3x5632_S1x1x5632_0_1_0) shapeCasts_S1x1x5632_S5632))))) (mulf (extractStridedSlice S8x2048x5632 ![0, 2, 0] (padRef A W) slices_S8x2050x5632_S8x2048x5632_0_2_0) (broadcastInDim S8x2048x5632 ![0, 1, 2] bcast_S1x1x5632_S8x2048x5632_0_1_2 (broadcastInDim S1x1x5632 ![2] bcast_S5632_S1x1x5632_2 (shapeCast _ (extractStridedSlice S1x1x5632 ![0, 2, 0] C slices_S4x3x5632_S1x1x5632_0_2_0) shapeCasts_S1x1x5632_S5632))))) (broadcastInDim S8x2048x5632 ![0, 1, 2] bcast_S1x1x5632_S8x2048x5632_0_1_2 (broadcastInDim S1x1x5632 ![2] bcast_S5632_S1x1x5632_2 (shapeCast _ (extractStridedSlice S1x5632 ![0, 0] B slices_S4x5632_S1x5632_0_0) shapeCasts_S1x5632_S5632)))

theorem convRef_apply (i : S8x2048x5632.Idx) : convRef A W C B i = convAt A W C B (i 0) (i 1 : Fin 2048).val (i 2) := by
  pointwise [convRef]
  simp only [padRef_apply]
  refine Eq.trans ?_ (taps_comm _ _ _ _ (productAt A W (i 0) (i 1 : Fin 2048).val (i 2)) (productAt A W (i 0) ((i 1 : Fin 2048).val + 1) (i 2))
    (productAt A W (i 0) ((i 1 : Fin 2048).val + 2) (i 2)))
  rw [add_comm (i 1 : Fin 2048).val 1, add_comm (i 1 : Fin 2048).val 2]
  rfl

/-- The result, as the reference spells it. -/
theorem ref_result : (truncf .bf16 (mulf (mulf (mulf (broadcastInDim S8x2048x2816 ![] bcast_S_S8x2048x2816 (constant S_ .f32 0x3F000000#32)) (extractStridedSlice S8x2048x2816 ![0, 0, 0] (convRef A W C B) slices_S8x2048x5632_S8x2048x2816_0_0_0)) (addf (broadcastInDim S8x2048x2816 ![] bcast_S_S8x2048x2816 (constant S_ .f32 0x3F800000#32)) (Host.erf (Host.divf (extractStridedSlice S8x2048x2816 ![0, 0, 0] (convRef A W C B) slices_S8x2048x5632_S8x2048x2816_0_0_0) (broadcastInDim S8x2048x2816 ![] bcast_S_S8x2048x2816 (Host.sqrt (constant S_ .f32 0x40000000#32))))))) (extractStridedSlice S8x2048x2816 ![0, 0, 2816] (convRef A W C B) slices_S8x2048x5632_S8x2048x2816_0_0_2816)) bitsLt_bf16_f32 : FVec Ideal S8x2048x2816 .bf16) = result A W C B := by
  funext i
  pointwise []
  simp only [convRef_apply]
  exact act_eq _ _

end Cert.FfnUpRefIdeal.Claims

end
-- ==== Proof.FfnUpValue.lean ====
/-
  The first half of the feed-forward: the kernel's array is the gated activation of the three-tap convolution, as in the reference.
-/
module

public import proofs.«01_k».proof.Proof.FfnUpRefValue
public import proofs.«01_k».proof.Proof.Gen.FfnUpRefIdeal.Run

@[expose] public section

set_option maxRecDepth 16384

noncomputable section

namespace Cert.FfnUpIdeal.Claims

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

theorem preserves : Cert.preserves_FfnUp_FfnUpIdeal :=
  IdealRules.named_const.statement Cert.FfnUpIdeal.κ "inv_sqrt_2" .f32 0x3F3504F3#32 (((Real.sqrt 2)⁻¹ : ℝ) : EReal) rfl

theorem idx : ∀ t : Fin cfg0.N, win0_0.index t = ![t.val / 11, 0, 0] ∧ win0_1.index t = ![0, 0, t.val % 11] ∧ win0_2.index t = ![0, 0, 11 + t.val % 11]
    ∧ win0_3.index t = ![0, t.val % 11] ∧ win0_4.index t = ![0, 11 + t.val % 11] ∧ win0_5.index t = ![0, t.val % 11]
    ∧ win0_6.index t = ![0, 11 + t.val % 11] ∧ win0_7.index t = ![t.val / 11, 0, t.val % 11] :=
  (by decide +kernel : ∀ t : Fin grid0.N, _)

/-- The result of the arguments in memory. -/
abbrev valueAt (c : Dev nD) : S8x2048x2816.Idx → EReal :=
  result (m ((c : Thread nD τ).loc main_arg0)) (m ((c : Thread nD τ).loc main_arg1)) (m ((c : Thread nD τ).loc main_arg2)) (m ((c : Thread nD τ).loc main_arg3))

/-- A block's convolution is the array's. -/
theorem conv_eq (A : FVec Ideal S8x2048x1024 .bf16) (W : FVec Ideal S4x1024x5632 .f32) (C : FVec Ideal S4x3x5632 .f32) (B : FVec Ideal S4x5632 .f32)
    (x : FVec Ideal S1x2048x1024 .bf16) (w : FVec Ideal S1x1024x256 .f32) (cw : FVec Ideal S3x256 .f32) (cb : FVec Ideal S1x256 .f32)
    (b : Fin 8) (o : ℕ) (ho : o + 256 ≤ 5632)
    (hx : ∀ p k, x (ix3 0 p k) = A (ix3 b p k)) (hw : ∀ (k) (j : Fin 256), w (ix3 0 k j) = W (ix3 0 k ⟨o + j.val, by omega⟩))
    (hc : ∀ (k) (j : Fin 256), cw (ix2 k j) = C (ix3 0 k ⟨o + j.val, by omega⟩)) (hb : ∀ j : Fin 256, cb (ix2 0 j) = B (ix2 0 ⟨o + j.val, by omega⟩))
    (s : Fin 2) (p : Fin 2048) (l : Fin 128) (b' : Fin 8) (p' : Fin 2048) (j : Fin 5632) (hb' : b' = b) (hp' : p' = p) (hj : j.val = o + (128 * s.val + l.val)) :
    conv cb cw (padded x w) s p l = convAt A W C B b' p'.val j := by
  subst hb' hp'
  have hlt : o + (128 * s.val + l.val) < 5632 := by omega
  have hj' : (⟨o + (128 * s.val + l.val), hlt⟩ : Fin 5632) = j := Fin.ext hj.symm
  subst hj'
  have h (d : ℕ) (hd : d < 3) : padded x w (ix3 s ⟨p'.val + (7 + d), by omega⟩ l) = productAt A W b' (p'.val + d) ⟨o + (128 * s.val + l.val), by omega⟩ := by
    unfold padded productAt
    refine dite_congr (propext ?_) (fun h' => Finset.sum_congr rfl fun k _ => ?_) fun _ => rfl
    · show 8 ≤ p'.val + (7 + d) ∧ p'.val + (7 + d) < 2056 ↔ 1 ≤ p'.val + d ∧ p'.val + d < 2049
      omega
    · rw [hx, hw]
      refine congrArg₂ (· * ·) (congrArg A (ix3_congr rfl (Fin.ext ?_) rfl)) rfl
      show p'.val + (7 + d) - 8 = p'.val + d - 1
      omega
  unfold conv convAt
  simp only [hc, hb]
  exact congrArg₂ (· + ·) (congrArg₂ (· + ·) (congrArg₂ (· + ·) rfl (congrArg₂ (· * ·) rfl (h 0 (by omega)))) (congrArg₂ (· * ·) rfl (h 1 (by omega))))
    (congrArg₂ (· * ·) rfl (h 2 (by omega)))

/-- Halving the coefficients and the bias halves the convolution. -/
theorem conv_half (b : FVec Ideal S1x256 .f32) (w : FVec Ideal S3x256 .f32) (h : S2x2064x128.Idx → EReal) (s : Fin 2) (p : Fin 2048) (l : Fin 128) :
    conv (fun i => half (b i)) (fun i => half (w i)) h s p l = half (conv b w h s p l) := by
  unfold conv
  simp only [half_add, half_mul]

/-- The batch and the columns' block of a point. -/
def batchOf (t : Fin cfg0.N) : Fin 8 := ⟨t.val / 11, by have : t.val < 88 := t.isLt; omega⟩

theorem x_at (c : Dev nD) (t : Fin cfg0.N) (p : Fin 2048) (k : Fin 1024) : (iblk m c 0 t : FVec Ideal S1x2048x1024 .bf16) (ix3 0 p k)
    = (m ((c : Thread nD τ).loc main_arg0) : FVec Ideal S8x2048x1024 .bf16) (ix3 (batchOf t) p k) := by
  blk_point [iblk, V, idx t, batchOf]

theorem wg_at (c : Dev nD) (t : Fin cfg0.N) (k : Fin 1024) (j : Fin 256) : (iblk m c 1 t : FVec Ideal S1x1024x256 .f32) (ix3 0 k j)
    = (m ((c : Thread nD τ).loc main_arg1) : FVec Ideal S4x1024x5632 .f32) (ix3 0 k ⟨256 * (t.val % 11) + j.val, by omega⟩) := by
  blk_point [iblk, V, idx t]

theorem wv_at (c : Dev nD) (t : Fin cfg0.N) (k : Fin 1024) (j : Fin 256) : (iblk m c 2 t : FVec Ideal S1x1024x256 .f32) (ix3 0 k j)
    = (m ((c : Thread nD τ).loc main_arg1) : FVec Ideal S4x1024x5632 .f32) (ix3 0 k ⟨2816 + 256 * (t.val % 11) + j.val, by omega⟩) := by
  blk_point [iblk, V, idx t]

theorem cg_at (c : Dev nD) (t : Fin cfg0.N) (k : Fin 3) (j : Fin 256) : (iblk m c 3 t : FVec Ideal S3x256 .f32) (ix2 k j)
    = (m ((c : Thread nD τ).loc main_arg2) : FVec Ideal S4x3x5632 .f32) (ix3 0 k ⟨256 * (t.val % 11) + j.val, by omega⟩) := by
  blk_point [iblk, V, idx t]

theorem cv_at (c : Dev nD) (t : Fin cfg0.N) (k : Fin 3) (j : Fin 256) : (iblk m c 4 t : FVec Ideal S3x256 .f32) (ix2 k j)
    = (m ((c : Thread nD τ).loc main_arg2) : FVec Ideal S4x3x5632 .f32) (ix3 0 k ⟨2816 + 256 * (t.val % 11) + j.val, by omega⟩) := by
  blk_point [iblk, V, idx t]

theorem bg_at (c : Dev nD) (t : Fin cfg0.N) (j : Fin 256) : (iblk m c 5 t : FVec Ideal S1x256 .f32) (ix2 0 j)
    = (m ((c : Thread nD τ).loc main_arg3) : FVec Ideal S4x5632 .f32) (ix2 0 ⟨256 * (t.val % 11) + j.val, by omega⟩) := by
  blk_point [iblk, V, idx t]

theorem bv_at (c : Dev nD) (t : Fin cfg0.N) (j : Fin 256) : (iblk m c 6 t : FVec Ideal S1x256 .f32) (ix2 0 j)
    = (m ((c : Thread nD τ).loc main_arg3) : FVec Ideal S4x5632 .f32) (ix2 0 ⟨2816 + 256 * (t.val % 11) + j.val, by omega⟩) := by
  blk_point [iblk, V, idx t]

/-- A block's formula is the array's, at the block's columns. -/
theorem block_eq (c : Dev nD) (t : Fin cfg0.N) (y : S1x2048x256.Idx) : blockOut (blocks m c t) y = valueAt m c (((cfg0.win 7).blk t).view.emb y) := by
  have h0 : (y 0).val < 1 := (y 0).isLt
  have h2 : (y 2).val < 256 := (y 2).isLt
  have e0 : (((cfg0.win 7).blk t).view.emb y 0 : Fin 8) = batchOf t := by
    apply Fin.ext
    blk_simp [idx t, batchOf]
  have e1 : (((cfg0.win 7).blk t).view.emb y 1 : Fin 2048) = y 1 := by
    apply Fin.ext
    blk_simp [idx t]
  have e2 : (((cfg0.win 7).blk t).view.emb y 2 : Fin 2816).val = 256 * (t.val % 11) + (y 2).val := by
    blk_simp [idx t]
    omega
  unfold blockOut acts valueAt result blocks
  refine congrArg₂ act ?_ ((conv_half _ _ _ _ _ _).trans (congrArg half ?_))
  · exact conv_eq _ _ _ _ _ _ _ _ (batchOf t) (256 * (t.val % 11)) (by omega) (x_at m c t) (wg_at m c t) (cg_at m c t) (bg_at m c t) _ _ _ _ _ _ e0 e1
      (by show (((cfg0.win 7).blk t).view.emb y 2 : Fin 2816).val = 256 * (t.val % 11) + (128 * ((y 2).val / 128) + (y 2).val % 128); rw [e2]; omega)
  · exact conv_eq _ _ _ _ _ _ _ _ (batchOf t) (2816 + 256 * (t.val % 11)) (by omega) (x_at m c t) (wv_at m c t) (cv_at m c t) (bv_at m c t) _ _ _ _ _ _ e0 e1
      (by show 2816 + (((cfg0.win 7).blk t).view.emb y 2 : Fin 2816).val = 2816 + 256 * (t.val % 11) + (128 * ((y 2).val / 128) + (y 2).val % 128); rw [e2]; omega)

theorem final7 (c : Dev nD) : (dats m 0 c).arrAt 7 cfg0.N = (valueAt m c : FVec Ideal S8x2048x2816 .bf16) := by
  refine (dats m 0 c).arrAt_eq_of_covers 7 _ (by decide +kernel) fun t _ y => ?_
  blk_simp
  rw [after0_7]
  exact (outs m c t y).trans (block_eq m c t y)

/-! ## The reference -/

theorem algebraic [Cert.FfnUpIdeal.Facts] [Cert.FfnUpRefIdeal.Facts] : Cert.algebraic_FfnUpIdeal_FfnUpRefIdeal := by
  intro m ρ m' ρ' _ hag
  refine ⟨fun c => valueAt m c,
    (θ_run _ _ _).mono (fun r h c => ?_) (FfnUpIdeal.Value.run_blocks m ρ),
    (θ_run _ _ _).mono (fun r h c => ?_) (FfnUpRefIdeal.Value.run m' ρ')⟩
  · exact ⟨(h c).1.trans (final7 m c), (h c).2⟩
  · obtain ⟨e0, e1, e2, e3⟩ := hag c
    have e : FfnUpRefIdeal.Value.res_out0 (F := Ideal) m' c = valueAt m c := by
      unfold FfnUpRefIdeal.Value.res_out0 FfnUpRefIdeal.Value.res_main_v44
      rw [e0, e1, e2, e3]
      exact FfnUpRefIdeal.Claims.ref_result _ _ _ _
    exact ⟨(h c).1.trans e, (h c).2⟩

/-- The reference's frame: it declares no semaphore. -/
theorem frame_ref [Cert.FfnUpRefIdeal.Facts] : Cert.quiescent_FfnUpRefIdeal := fun m ρ _ =>
  (θ_run FfnUpRefIdeal.defs _ _).mono (fun r h => ⟨fun c => (h c).2, sem_eq_zero_of_no_sems (by decide) r.2⟩) (FfnUpRefIdeal.Value.run m ρ)

end Cert.FfnUpIdeal.Claims

end
-- ==== Proof.PoolValue.lean ====
/-
  The multi-scale pooling: the kernel sums a band of rows around each block of 256, the reference the whole sequence.
-/
module

public import proofs.«01_k».proof.Defs
public import proofs.«01_k».proof.Proof.Gen.PoolIdeal.Value
public import proofs.«01_k».proof.Proof.Gen.PoolRefIdeal.Run
public import Idealize.ShloMosaic.Lib.Pipeline.ValueKit
public import Idealize.ShloMosaic.Lib.Tactic.WordOmega

@[expose] public section

set_option maxRecDepth 16384

noncomputable section

namespace Cert.PoolIdeal.Claims

open Cert.PoolIdeal Cert.PoolIdeal.Gen Idealize.ShloMosaic Idealize.ShloMosaic.TcCoe Idealize.SL.Sem
open Idealize.ShloMosaic.Pipeline (Dat)

variable (m : (ℓ : Loc nD τ sig) → Buf (Elt Ideal) ℓ)

/-! ## The window of a token and its size -/

/-- Whether row `j` lies in the window of row `t` in group `g`. -/
def mask (g t j : ℕ) : EReal := if t ≤ j + 2 ^ g ∧ j < t + 2 ^ g then 1 else 0

/-- The number of rows in the window of row `t`, as both programs compute it in words. -/
def countWord (h t : BitVec 32) : BitVec 32 :=
  IntOp.addi (IntOp.subi (IntOp.minsi (IntOp.subi (IntOp.addi t h) 1#32) 2047#32) (IntOp.maxsi (IntOp.subi t h) 0#32)) 1#32

def count (g t : ℕ) : EReal := (((countWord (BitVec.ofNat 32 (2 ^ g)) (BitVec.ofNat 32 t)).toInt : ℝ) : EReal)

theorem pow_le (g : ℕ) (hg : g < 4) : 1 ≤ 2 ^ g ∧ 2 ^ g ≤ 8 :=
  ⟨Nat.one_le_two_pow, Nat.pow_le_pow_right (n := 2) (by norm_num) (by omega : g ≤ 3)⟩

theorem shift_scalar : ∀ g < 4, Scalar.shli 1#32 (BitVec.ofNat 32 g) = BitVec.ofNat 32 (2 ^ g) := by decide

theorem shift_host : ∀ g < 4, IntOp.shli .host 1#32 (BitVec.ofNat 32 g) = BitVec.ofNat 32 (2 ^ g) := by decide

theorem addi_ofNat (a b : ℕ) : IntOp.addi (BitVec.ofNat 32 a) (BitVec.ofNat 32 b) = BitVec.ofNat 32 (a + b) := (BitVec.ofNat_add _ _).symm

theorem toInt_small (a : ℕ) (h : a < 4096) : (BitVec.ofNat 32 a).toInt = a := by
  rw [BitVec.toInt_eq_toNat_bmod, BitVec.toNat_ofNat, Int.bmod_def]
  split <;> omega

theorem toInt_sub_small (a b : ℕ) (ha : a < 4096) (hb : b < 4096) : (IntOp.subi (BitVec.ofNat 32 a) (BitVec.ofNat 32 b)).toInt = (a : ℤ) - b := by
  unfold IntOp.subi
  rw [BitVec.toInt_sub, toInt_small a ha, toInt_small b hb, Int.bmod_def]
  split <;> omega

theorem and_decide (p q : Prop) [Decidable p] [Decidable q] :
    IntOp.andi (BitVec.ofBool (decide p)) (BitVec.ofBool (decide q)) = if p ∧ q then 1#1 else 0#1 := by
  by_cases hp : p <;> by_cases hq : q <;> simp [hp, hq, IntOp.andi]

/-- The kernel's bit of a row in a window, by naturals. -/
theorem bit_kernel (t j h : ℕ) (ht : t < 2048) (hj : j < 2048) (h1 : 1 ≤ h) (h8 : h ≤ 8) :
    IntOp.andi (IntOp.cmpi .sge (BitVec.ofNat 32 j) (IntOp.subi (BitVec.ofNat 32 t) (BitVec.ofNat 32 h)))
      (IntOp.cmpi .sle (BitVec.ofNat 32 j) (IntOp.subi (BitVec.ofNat 32 (t + h)) 1#32))
    = if t ≤ j + h ∧ j < t + h then 1#1 else 0#1 := by
  rw [WordCmp.cmpi_sge_eq, WordCmp.cmpi_sle_eq, and_decide, toInt_sub_small t h (by omega) (by omega), toInt_sub_small (t + h) 1 (by omega) (by omega),
    toInt_small j (by omega)]
  exact if_congr (by omega) rfl rfl

/-- The reference's. -/
theorem bit_ref (t j h : ℕ) (ht : t < 2048) (hj : j < 2048) (h1 : 1 ≤ h) (h8 : h ≤ 8) :
    IntOp.andi (IntOp.cmpi .sge (BitVec.ofNat 32 j) (IntOp.subi (BitVec.ofNat 32 t) (BitVec.ofNat 32 h)))
      (IntOp.cmpi .slt (BitVec.ofNat 32 j) (BitVec.ofNat 32 (t + h)))
    = if t ≤ j + h ∧ j < t + h then 1#1 else 0#1 := by
  rw [WordCmp.cmpi_sge_eq, WordCmp.cmpi_slt_eq, and_decide, toInt_sub_small t h (by omega) (by omega), toInt_small (t + h) (by omega),
    toInt_small j (by omega)]
  exact if_congr (by omega) rfl rfl

/-- A window's sum over a band of 288 rows that holds the window is its sum over the sequence. -/
theorem band_sum (u : Fin 2048 → EReal) (g t s : ℕ) (hs : s + 288 ≤ 2048) (h : ∀ j < 2048, t ≤ j + 2 ^ g ∧ j < t + 2 ^ g → s ≤ j ∧ j < s + 288) :
    ∑ k : Fin 288, mask g t (s + k.val) * u ⟨s + k.val, by omega⟩ = ∑ j : Fin 2048, mask g t j.val * u j := by
  refine Finset.sum_of_injOn (fun k : Fin 288 => (⟨s + k.val, by omega⟩ : Fin 2048)) ?_ (fun _ _ => Finset.mem_coe.mpr (Finset.mem_univ _)) ?_ fun _ _ => rfl
  · intro a _ b _ e
    have := congrArg Fin.val e
    exact Fin.ext (by simpa using this)
  · intro j _ hj
    have h0 : mask g t j.val = 0 := if_neg fun hm => hj (by
      obtain ⟨l, r⟩ := h j.val j.isLt hm
      exact ⟨⟨j.val - s, by omega⟩, Finset.mem_coe.mpr (Finset.mem_univ _), Fin.ext (by show s + (j.val - s) = j.val; omega)⟩)
    rw [h0, zero_mul]

/-- A block's rows, as the kernel computes them, from the products `u` of the sequence. -/
theorem piece (u : Fin 2048 → Fin 256 → EReal) (g r s p : ℕ) (hg : g < 4) (hp : p < 256) (hr : r + 256 ≤ 2048) (hs : s + 288 ≤ 2048)
    (hl : s = 0 ∨ s + 8 ≤ r) (hu : r + 264 ≤ s + 288 ∨ s + 288 = 2048) (P : Fin 2048) (hP : P.val = r + p) (U : Fin 288 → Fin 256 → EReal)
    (V M : Fin 256 → EReal) (z : EReal) (hU : ∀ k c, U k c = u ⟨s + k.val, by omega⟩ c) (hV : ∀ c, V c = u ⟨r + p, by omega⟩ c) :
    (∑ c : Fin 256, (Ideal.div (∑ k : Fin 288, (FloatOps.sitofp (F := Ideal) .f32 (BitVec.setWidth 32 (IntOp.andi
        (IntOp.cmpi .sge (IntOp.addi (BitVec.ofNat 32 s) (BitVec.ofNat 32 k.val))
          (IntOp.subi (IntOp.addi (BitVec.ofNat 32 r) (BitVec.ofNat 32 p)) (Scalar.shli 1#32 (BitVec.ofNat 32 g))))
        (IntOp.cmpi .sle (IntOp.addi (BitVec.ofNat 32 s) (BitVec.ofNat 32 k.val))
          (IntOp.subi (IntOp.addi (IntOp.addi (BitVec.ofNat 32 r) (BitVec.ofNat 32 p)) (Scalar.shli 1#32 (BitVec.ofNat 32 g))) 1#32)))) : EReal) * U k c)
        (FloatOps.sitofp (F := Ideal) .f32 (IntOp.addi (IntOp.subi (IntOp.minsi (IntOp.subi (IntOp.addi (IntOp.addi (BitVec.ofNat 32 r) (BitVec.ofNat 32 p))
          (Scalar.shli 1#32 (BitVec.ofNat 32 g))) 1#32) 2047#32) (IntOp.maxsi (IntOp.subi (IntOp.addi (BitVec.ofNat 32 r) (BitVec.ofNat 32 p))
          (Scalar.shli 1#32 (BitVec.ofNat 32 g))) 0#32)) 1#32)) - V c) * M c) * z
    = (∑ c : Fin 256, (Ideal.div (∑ j : Fin 2048, mask g P.val j.val * u j c) (count g P.val) - u P c) * M c) * z := by
  have hlt : r + p < 2048 := by omega
  obtain rfl : P = ⟨r + p, hlt⟩ := Fin.ext hP
  obtain ⟨h1, h8⟩ := pow_le g hg
  simp only [shift_scalar g hg, addi_ofNat, hV, hU]
  refine congrArg (· * z) (Finset.sum_congr rfl fun c _ => congrArg (· * M c) (congrArg (· - _) (congrArg₂ Ideal.div ?_ ?_)))
  · rw [← band_sum (fun j => u j c) g (r + p) s hs (fun j _ h => by omega)]
    refine Finset.sum_congr rfl fun k _ => congrArg (· * _) ?_
    have hk := k.isLt
    have := bit_kernel (r + p) (s + k.val) (2 ^ g) (by omega) (by omega) h1 h8
    rw [this]
    unfold mask
    split
    · show (((BitVec.setWidth 32 1#1).toInt : ℝ) : EReal) = 1
      simp
    · show (((BitVec.setWidth 32 0#1).toInt : ℝ) : EReal) = 0
      simp
  · rw [← addi_ofNat (r + p)]
    rfl

/-! ## A point's block -/

/-- A row of the tokens times a row of the transposed weights. -/
def product (X : FVec Ideal S1x2048x1024 .bf16) (W : FVec Ideal S1x256x1024 .f32) (p : Fin 2048) (c : Fin 256) : EReal :=
  ∑ k : Fin 1024, X (ix3 0 p k) * W (ix3 0 c k)

/-- What a point leaves in its block. -/
def blockOut (g : ℕ) (X : FVec Ideal S1x2048x1024 .bf16) (W : FVec Ideal S1x256x1024 .f32) (M : FVec Ideal S1x1x256x256 .f32)
    (z : FVec Ideal S1x256 .f32) (p : Fin 2048) (d : Fin 256) : EReal :=
  (∑ c : Fin 256, (Ideal.div (∑ j : Fin 2048, mask g p.val j.val * product X W j c) (count g p.val) - product X W p c) * M (ix4 0 0 c d)) * z (ix2 0 d)

/-- Rows read back from a scratch buffer that one store filled. -/
theorem rows_read {e : EltTy} (v : View sig .tc .vmem S2048x256 e) (w : Vec Ideal S2048x256 e) (o n : ℕ)
    (inb : ∀ a, (![0, 0] : Fin 2 → ℕ) a + (![2048, 256] : Fin 2 → ℕ) a ≤ S2048x256.size a)
    (inb' : ∀ a, (![o, 0] : Fin 2 → ℕ) a + (![n, 256] : Fin 2 → ℕ) a ≤ S2048x256.size a) (k : Fin n) (c : Fin 256) (h : o + n ≤ 2048) :
    v.readCov [⟨Rect.unit ![0, 0] ![2048, 256] inb, w⟩] (Rect.unit (s := S2048x256) ![o, 0] ![n, 256] inb').toLoadRect (ix2 k c)
      = w (ix2 ⟨o + k.val, by omega⟩ c) := by
  rw [View.readCov_eq_canon']
  refine (congrFun (View.canon_cons_unit_lit (S := S2048x256) inb w [] (by decide)) _).trans (congrArg w (funext fun a => Fin.ext ?_))
  match a with
  | ⟨0, _⟩ => exact congrArg (o + ·) (Nat.one_mul _)
  | ⟨1, _⟩ => exact (Nat.zero_add _).trans (Nat.one_mul _)

/-- The product that fills the scratch buffers, at an entry. -/
theorem product_apply (X : FVec Ideal S1x2048x1024 .bf16) (W : FVec Ideal S1x256x1024 .f32) (p : Fin 2048) (c : Fin 256) :
    k0_pay2 (F := Ideal) X W (ix2 p c) = product X W p c := by
  open_payloads
  pointwise [product]

theorem out_at (c : Dev nD) (t : Fin cfg0.N) (y : S1x2048x256.Idx) :
    outsAt0 m c t y = blockOut (grid0.coords t 1).val (iblk m c 0 t) (X0_1 m c t) (iblk m c 2 t) (iblk m c 3 t) (y 1) (y 2) := by
  have hg : (grid0.coords t 1).val < 4 := (grid0.coords t 1).isLt
  unfold outsAt0
  frame_out
  canon_tiles x h
  all_goals
    open_payloads
    pointwise []
    rw [show (y 2 : Fin 256) = x 2 from Fin.ext h2]
    refine piece (product (iblk m c 0 t) (X0_1 m c t)) (grid0.coords t 1).val _ _ (x 1).val hg x1_lt ?_ ?_ ?_ ?_ (y 1) ?_ _ _ _ _ (fun k c' => ?_) fun c' => ?_
  any_goals exact (rows_read _ _ _ _ _ _ _ _ (by omega)).trans (product_apply _ (X0_1 m c t) _ _)
  all_goals omega

/-! ## The arrays -/

/-- A row of the tokens times a column of a group's columns of the first layer's weights. -/
def productAt (X : FVec Ideal S8x2048x1024 .f32) (W : FVec Ideal S4x1024x8256 .f32) (b : Fin 8) (g : Fin 4) (p : Fin 2048) (c : Fin 256) : EReal :=
  ∑ k : Fin 1024, X (ix3 b p k) * W (ix3 0 k ⟨g.val * 256 + c.val, by omega⟩)

/-- An entry of group `g`. -/
def entry (X : FVec Ideal S8x2048x1024 .f32) (W : FVec Ideal S4x1024x8256 .f32) (M : FVec Ideal S4x4x256x256 .f32) (z : FVec Ideal S4x1024 .f32)
    (b : Fin 8) (p : Fin 2048) (g : Fin 4) (d : Fin 256) : EReal :=
  (∑ c : Fin 256, (Ideal.div (∑ j : Fin 2048, mask g.val p.val j.val * productAt X W b g j c) (count g.val p.val) - productAt X W b g p c)
    * M (ix4 0 g c d)) * z (ix2 0 ⟨g.val * 256 + d.val, by omega⟩)

/-- The group and the column in it of a column of the result. -/
def groupOf (n : Fin 1024) : Fin 4 := ⟨n.val / 256, by omega⟩
def columnOf (n : Fin 1024) : Fin 256 := ⟨n.val % 256, by omega⟩

/-- The result from the layer's arrays. -/
def result (X : FVec Ideal S8x2048x1024 .f32) (W : FVec Ideal S4x1024x8256 .f32) (M : FVec Ideal S4x4x256x256 .f32) (z : FVec Ideal S4x1024 .f32) :
    FVec Ideal S8x2048x1024 .bf16 := fun i => entry X W M z (i 0) (i 1) (groupOf (i 2)) (columnOf (i 2))

theorem idx : ∀ t : Fin cfg0.N, win0_0.index t = ![t.val / 4, 0, 0] ∧ win0_1.index t = ![0, t.val % 4, 0] ∧ win0_2.index t = ![0, t.val % 4, 0, 0]
    ∧ win0_3.index t = ![0, t.val % 4] ∧ win0_4.index t = ![t.val / 4, 0, t.val % 4] ∧ (grid0.coords t 1).val = t.val % 4 :=
  (by decide +kernel : ∀ t : Fin grid0.N, _)

/-- The batch and the group of a point. -/
def batchAt (t : Fin cfg0.N) : Fin 8 := ⟨t.val / 4, by have : t.val < 32 := t.isLt; omega⟩
def groupAt (t : Fin cfg0.N) : Fin 4 := ⟨t.val % 4, by omega⟩

theorem x_at (c : Dev nD) (t : Fin cfg0.N) (p : Fin 2048) (k : Fin 1024) : (iblk m c 0 t : FVec Ideal S1x2048x1024 .bf16) (ix3 0 p k)
    = (m ((c : Thread nD τ).loc main_arg0) : FVec Ideal S8x2048x1024 .f32) (ix3 (batchAt t) p k) := by
  blk_point [iblk, V, idx t, batchAt]

/-- No fetch of the weights' window is cut: its buffer holds its block of the weights, transposed. -/
theorem w_at (c : Dev nD) (t : Fin cfg0.N) (n : Fin 256) (k : Fin 1024) : X0_1 m c t (ix3 0 n k : S1x256x1024.Idx)
    = (m ((c : Thread nD τ).loc main_arg1) : FVec Ideal S4x1024x8256 .f32) (ix3 0 k ⟨(groupAt t).val * 256 + n.val, by omega⟩) := by
  unfold X0_1 Pipeline.Window.fill
  rw [dif_pos (moved0_1 t _)]
  blk_point [iblk, V, idx t, groupAt]

theorem map_at (c : Dev nD) (t : Fin cfg0.N) (k d : Fin 256) : (iblk m c 2 t : FVec Ideal S1x1x256x256 .f32) (ix4 0 0 k d)
    = (m ((c : Thread nD τ).loc main_arg2) : FVec Ideal S4x4x256x256 .f32) (ix4 0 (groupAt t) k d) := by
  blk_point [iblk, V, idx t, groupAt]

theorem scale_at (c : Dev nD) (t : Fin cfg0.N) (d : Fin 256) : (iblk m c 3 t : FVec Ideal S1x256 .f32) (ix2 0 d)
    = (m ((c : Thread nD τ).loc main_arg3) : FVec Ideal S4x1024 .f32) (ix2 0 ⟨(groupAt t).val * 256 + d.val, by omega⟩) := by
  blk_point [iblk, V, idx t, groupAt]

/-- The result of the arguments in memory. -/
abbrev valueAt (c : Dev nD) : FVec Ideal S8x2048x1024 .bf16 :=
  result (m ((c : Thread nD τ).loc main_arg0)) (m ((c : Thread nD τ).loc main_arg1)) (m ((c : Thread nD τ).loc main_arg2)) (m ((c : Thread nD τ).loc main_arg3))

/-- A block's formula is the array's, at the block's group. -/
theorem block_entry (A : FVec Ideal S8x2048x1024 .f32) (B : FVec Ideal S4x1024x8256 .f32) (C : FVec Ideal S4x4x256x256 .f32) (D : FVec Ideal S4x1024 .f32)
    (X : FVec Ideal S1x2048x1024 .bf16) (W : FVec Ideal S1x256x1024 .f32) (M : FVec Ideal S1x1x256x256 .f32) (z : FVec Ideal S1x256 .f32)
    (b : Fin 8) (g : Fin 4) (hX : ∀ p k, X (ix3 0 p k) = A (ix3 b p k)) (hW : ∀ (n : Fin 256) k, W (ix3 0 n k) = B (ix3 0 k ⟨g.val * 256 + n.val, by omega⟩))
    (hM : ∀ k d, M (ix4 0 0 k d) = C (ix4 0 g k d)) (hz : ∀ d : Fin 256, z (ix2 0 d) = D (ix2 0 ⟨g.val * 256 + d.val, by omega⟩)) (p : Fin 2048) (d : Fin 256) :
    blockOut g.val X W M z p d = entry A B C D b p g d := by
  unfold blockOut entry product productAt
  simp only [hX, hW, hM, hz]

theorem point (c : Dev nD) (t : Fin cfg0.N) (y : S1x2048x256.Idx) : outsAt0 m c t y = valueAt m c (((cfg0.win 4).blk t).view.emb y) := by
  have h0 : (y 0).val < 1 := (y 0).isLt
  have h2 : (y 2).val < 256 := (y 2).isLt
  have e0 : (((cfg0.win 4).blk t).view.emb y 0 : Fin 8) = batchAt t := by
    apply Fin.ext
    blk_simp [idx t, batchAt]
  have e1 : (((cfg0.win 4).blk t).view.emb y 1 : Fin 2048) = y 1 := by
    apply Fin.ext
    blk_simp [idx t]
  have e2 : (((cfg0.win 4).blk t).view.emb y 2 : Fin 1024).val = t.val % 4 * 256 + (y 2).val := by
    blk_simp [idx t]
  have eg : groupOf (((cfg0.win 4).blk t).view.emb y 2) = groupAt t := Fin.ext (by
    show (((cfg0.win 4).blk t).view.emb y 2 : Fin 1024).val / 256 = t.val % 4
    omega)
  have ed : columnOf (((cfg0.win 4).blk t).view.emb y 2) = y 2 := Fin.ext (by
    show (((cfg0.win 4).blk t).view.emb y 2 : Fin 1024).val % 256 = (y 2).val
    omega)
  have hgroup : (grid0.coords t 1).val = (groupAt t).val := (idx t).2.2.2.2.2
  rw [out_at, hgroup]
  refine (block_entry _ _ _ _ _ _ _ _ (batchAt t) (groupAt t) (x_at m c t) (w_at m c t) (map_at m c t) (scale_at m c t) (y 1) (y 2)).trans ?_
  show entry _ _ _ _ (batchAt t) (y 1) (groupAt t) (y 2) = entry _ _ _ _ (((cfg0.win 4).blk t).view.emb y 0) (((cfg0.win 4).blk t).view.emb y 1)
    (groupOf (((cfg0.win 4).blk t).view.emb y 2)) (columnOf (((cfg0.win 4).blk t).view.emb y 2))
  rw [eg, ed]
  exact (congrArg₂ (fun b p => entry _ _ _ _ b p (groupAt t) (y 2)) e0 e1).symm

theorem final (c : Dev nD) : (dats m 0 c).arrAt 4 cfg0.N = valueAt m c := by
  refine (dats m 0 c).arrAt_eq_of_covers 4 _ (by decide +kernel) fun t _ y => ?_
  blk_simp
  rw [after0_4]
  exact point m c t y

/-! ## The reference -/

/-- The reference's bit of a row in a window, as a float. -/
theorem mask_ref (g t j : ℕ) (hg : g < 4) (ht : t < 2048) (hj : j < 2048) :
    (FloatOps.uitofp (F := Ideal) .f32 (IntOp.andi
      (IntOp.cmpi .sge (BitVec.ofNat 32 j) (IntOp.subi (BitVec.ofNat 32 t) (IntOp.shli .host 1#32 (BitVec.ofNat 32 g))))
      (IntOp.cmpi .slt (BitVec.ofNat 32 j) (IntOp.addi (BitVec.ofNat 32 t) (IntOp.shli .host 1#32 (BitVec.ofNat 32 g))))) : EReal) = mask g t j := by
  obtain ⟨h1, h8⟩ := pow_le g hg
  rw [shift_host g hg, addi_ofNat, bit_ref t j (2 ^ g) ht hj h1 h8]
  unfold mask
  split
  · show (((1#1 : BitVec 1).toNat : ℝ) : EReal) = 1
    simp
  · show (((0#1 : BitVec 1).toNat : ℝ) : EReal) = 0
    simp

theorem algebraic [Cert.PoolIdeal.Facts] [Cert.PoolRefIdeal.Facts] : Cert.algebraic_PoolIdeal_PoolRefIdeal := by
  intro m ρ m' ρ' _ hag
  refine ⟨fun c => valueAt m c,
    (θ_run _ _ _).mono (fun r h c => ?_) (PoolIdeal.Value.run_blocks m ρ),
    (θ_run _ _ _).mono (fun r h c => ?_) (PoolRefIdeal.Value.run m' ρ')⟩
  · exact ⟨(h c).1.trans (final m c), (h c).2⟩
  · refine ⟨(h c).1.trans ?_, (h c).2⟩
    obtain ⟨e0, e1, e2, e3⟩ := hag c
    rw [e0, e1, e2, e3]
    clear h
    funext i
    have hg : (i 2 : Fin 1024).val / 256 < 4 := (groupOf (i 2)).isLt
    pointwise [valueAt, result, entry]
    have hc (q : Fin 1024) : (⟨q.val / 256 * 256 + q.val % 256, by omega⟩ : Fin 1024) = q := Fin.ext (Nat.div_add_mod' _ _)
    refine congrArg₂ (· * ·) (Finset.sum_congr rfl fun k _ => (mul_comm _ _).trans (congrArg₂ (· * ·) (congrArg₂ (· - ·) (congrArg₂ Ideal.div
      (Finset.sum_congr rfl fun j _ => (mul_comm _ _).trans (congrArg₂ (· * ·) (mask_ref _ _ _ hg (i 1).isLt j.isLt) rfl)) ?_) rfl) rfl))
      (congrArg _ (congrArg _ (hc _).symm))
    unfold count countWord
    rw [shift_host _ hg]
    rfl

/-- The reference's frame: it declares no semaphore. -/
theorem frame_ref [Cert.PoolRefIdeal.Facts] : Cert.quiescent_PoolRefIdeal := fun m ρ _ =>
  (θ_run PoolRefIdeal.defs _ _).mono (fun r h => ⟨fun c => (h c).2, sem_eq_zero_of_no_sems (by decide) r.2⟩) (PoolRefIdeal.Value.run m ρ)

end Cert.PoolIdeal.Claims

end
-- ==== Proof.lean ====
module

public import proofs.«01_k».proof.Defs
public import proofs.«01_k».proof.Proof.Gen.Ssd
public import proofs.«01_k».proof.Proof.Gen.Ssd.Frame
public import proofs.«01_k».proof.Proof.Gen.SsdIdeal
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.Gen.SsdRefIdeal.Step
public import proofs.«01_k».proof.Proof.Gen.Z
public import proofs.«01_k».proof.Proof.Gen.Z.Frame
public import proofs.«01_k».proof.Proof.Gen.ZIdeal
public import proofs.«01_k».proof.Proof.Gen.ZIdeal.Frame
public import proofs.«01_k».proof.Proof.Gen.ZIdeal.Value
public import proofs.«01_k».proof.Proof.Gen.ZRefIdeal
public import proofs.«01_k».proof.Proof.Gen.ZRefIdeal.Run
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.SsdValue
public import proofs.«01_k».proof.Proof.GatesValue
public import proofs.«01_k».proof.Proof.ZValue
public import proofs.«01_k».proof.Proof.FfnDownValue
public import proofs.«01_k».proof.Proof.MergeValue
public import proofs.«01_k».proof.Proof.FfnUpValue
public import proofs.«01_k».proof.Proof.PoolValue
public import Idealize.ShloMosaic.Adequacy
public import Idealize.ShloMosaic.Init

@[expose] public section

noncomputable section

namespace Cert.Proof

open Idealize.ShloMosaic Idealize.SL.Sem

theorem claim : Cert.Claim := ⟨Cert.Ssd.Gen.facts, Cert.SsdIdeal.Gen.facts, Cert.SsdRefIdeal.Gen.facts, Cert.Z.Gen.facts, Cert.ZIdeal.Gen.facts, Cert.ZRefIdeal.Gen.facts, Cert.Gates.Gen.facts, Cert.GatesIdeal.Gen.facts, Cert.GatesRefIdeal.Gen.facts, Cert.FfnDown.Gen.facts, Cert.FfnDownIdeal.Gen.facts, Cert.FfnDownRefIdeal.Gen.facts, Cert.Merge.Gen.facts, Cert.MergeIdeal.Gen.facts, Cert.MergeRefIdeal.Gen.facts, Cert.FfnUp.Gen.facts, Cert.FfnUpIdeal.Gen.facts, Cert.FfnUpRefIdeal.Gen.facts, Cert.Pool.Gen.facts, Cert.PoolIdeal.Gen.facts, Cert.PoolRefIdeal.Gen.facts, by
  exact ⟨fun m ρ _ => Cert.Ssd.Gen.frame m ρ, fun m ρ _ => Cert.SsdIdeal.Gen.frame m ρ, Cert.SsdIdeal.Chunk.frame_ref,
    fun m ρ _ => Cert.Z.Gen.frame m ρ, fun m ρ _ => Cert.ZIdeal.Gen.frame m ρ, Cert.ZIdeal.Claims.frame_ref,
    fun m ρ _ => Cert.Gates.Gen.frame m ρ, fun m ρ _ => Cert.GatesIdeal.Gen.frame m ρ, Cert.GatesIdeal.Claims.frame_ref,
    fun m ρ _ => Cert.FfnDown.Gen.frame m ρ, fun m ρ _ => Cert.FfnDownIdeal.Gen.frame m ρ, Cert.FfnDownIdeal.Claims.frame_ref,
    fun m ρ _ => Cert.Merge.Gen.frame m ρ, fun m ρ _ => Cert.MergeIdeal.Gen.frame m ρ, Cert.MergeIdeal.Claims.frame_ref,
    fun m ρ _ => Cert.FfnUp.Gen.frame m ρ, fun m ρ _ => Cert.FfnUpIdeal.Gen.frame m ρ, Cert.FfnUpIdeal.Claims.frame_ref,
    fun m ρ _ => Cert.Pool.Gen.frame m ρ, fun m ρ _ => Cert.PoolIdeal.Gen.frame m ρ, Cert.PoolIdeal.Claims.frame_ref,
    trivial, Cert.SsdIdeal.Chunk.algebraic,
    trivial, Cert.ZIdeal.Claims.algebraic,
    trivial, Cert.GatesIdeal.Claims.algebraic,
    Cert.FfnDownIdeal.Claims.preserves, Cert.FfnDownIdeal.Claims.algebraic,
    Cert.MergeIdeal.Claims.preserves, Cert.MergeIdeal.Claims.algebraic,
    Cert.FfnUpIdeal.Claims.preserves, Cert.FfnUpIdeal.Claims.algebraic,
    trivial, Cert.PoolIdeal.Claims.algebraic⟩⟩

end Cert.Proof

end
